-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v99_0)) (v1 : (c : Dev Cert.KernelIdeal.nD) → Buf (Elt Ideal) ((c.tc : Thread Cert.KernelIdeal.nD Cert.KernelIdeal.τ).loc Cert.KernelIdeal.main_v99_1)) (v2 : (c : Dev Cert.KernelIdeal.nD) → Buf (Elt Ideal) ((c.tc : Thread Cert.KernelIdeal.nD Cert.KernelIdeal.τ).loc Cert.KernelIdeal.main_v99_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_0) = v0 c
          ∧ r.2.mem ((c.tc : Thread Cert.KernelIdeal.nD Cert.KernelIdeal.τ).loc Cert.KernelIdeal.main_v99_1) = v1 c
          ∧ r.2.mem ((c.tc : Thread Cert.KernelIdeal.nD Cert.KernelIdeal.τ).loc Cert.KernelIdeal.main_v99_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v30) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v29) = v2 c
          ∧ r.2.mem ((c.tc : Thread Cert.Reference14Ideal.nD Cert.Reference14Ideal.τ).loc Cert.Reference14Ideal.main_v32) = v3 c
          ∧ r.2.mem ((c.tc : Thread Cert.Reference14Ideal.nD Cert.Reference14Ideal.τ).loc Cert.Reference14Ideal.main_v36) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg3) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v42) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite5 : Cert.Pre_finite5.Facts) (hPre_finite6 : Cert.Pre_finite6.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
-- ==== Pre_finite.lean ====
abbrev S4096x3584 : Shape := ⟨2, ![4096, 3584]⟩
abbrev S1x64 : Shape := ⟨2, ![1, 64]⟩
abbrev S8x257 : Shape := ⟨2, ![8, 257]⟩
abbrev S4096x1024 : Shape := ⟨2, ![4096, 1024]⟩
abbrev S_ : Shape := ⟨0, ![]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S8x257 : S_.BroadcastsInDim S8x257 (![] : Fin 0 → Fin S8x257.rank)
  reducesTo_S8x257_S_d0_1 : S8x257.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S8x257 1) : IVec S_ 1 :=
  let main_c_5 : IVec S_ 1 := constantI S_ 1 1#1
  let main_v17 : IVec S_ 1 := (fun x v => Host.reduce IntOp.andi x v reducesTo_S8x257_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x3584 .f32) (main_arg1 : FVec F S1x64 .f32) (main_arg2 : FVec F S1x64 .f32) (main_arg3 : FVec F S8x257 .f32) (main_arg4 : FVec F S4096x1024 .f32) : IVec S_ 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S8x257 .f32 := Host.absf main_arg3
  let main_cst_4 : FVec F S_ .f32 := constant S_ .f32 0x7F800000#32
  let main_v15 : FVec F S8x257 .f32 := broadcastInDim S8x257 ![] bcast_S_S8x257 main_cst_4
  let main_v16 : IVec S8x257 1 := cmpf .olt main_v14 main_v15
  fn_part1 (F := F) main_arg4 main_v13 main_v16
-- ==== Pre_finite19.lean ====
abbrev S2x512 : Shape := ⟨2, ![2, 512]⟩
abbrev S2x1x512 : Shape := ⟨3, ![2, 1, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel
  bcast_S_S2x1x512 : S_.BroadcastsInDim S2x1x512 (![] : Fin 0 → Fin S2x1x512.rank)
  reducesTo_S2x1x512_S_d0_1_2 : S2x1x512.ReducesTo [0, 1, 2] S_

variable [Facts]

def fn {F : FTy → Type} [FloatOps F] (main_arg0 : FVec F S2x512 .f32) (main_arg1 : FVec F S2x1x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S2x1x512 .f32 := Host.absf main_arg1
  let main_cst_0 : FVec F S_ .f32 := constant S_ .f32 0x7F800000#32
  let main_v5 : FVec F S2x1x512 .f32 := broadcastInDim S2x1x512 ![] bcast_S_S2x1x512 main_cst_0
  let main_v6 : IVec S2x1x512 1 := cmpf .olt main_v4 main_v5
  let main_c_1 : IVec S_ 1 := constantI S_ 1 1#1
  let main_v7 : IVec S_ 1 := (fun x v => Host.reduce IntOp.andi x v reducesTo_S2x1x512_S_d0_1_2 h_S_) main_v6 main_c_1
  let main_v8 : IVec S_ 1 := andi main_v3 main_v7
  main_v8
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v16 : IVec S_ 1) (main_v17 : FVec F S4096x2816 .f32) : IVec S_ 1 :=
  let main_v18 : FVec F S4096x2816 .f32 := Host.absf main_v17
  let main_cst_4 : FVec F S_ .f32 := constant S_ .f32 0x7F800000#32
  let main_v19 : FVec F S4096x2816 .f32 := broadcastInDim S4096x2816 ![] bcast_S_S4096x2816 main_cst_4
  let main_v20 : IVec S4096x2816 1 := cmpf .olt main_v18 main_v19
  let main_c_5 : IVec S_ 1 := constantI S_ 1 1#1
  let main_v21 : IVec S_ 1 := (fun x v => Host.reduce IntOp.andi x v reducesTo_S4096x2816_S_d0_1 h_S_) main_v20 main_c_5
  let main_v22 : IVec S_ 1 := andi main_v16 main_v21
  main_v22

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg2
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  let main_v17 : FVec F S4096x2816 .f32 := (extf .f32 · bitsLt_bf16_f32) main_arg3
  fn_part1 (F := F) main_v16 main_v17
-- ==== Pre_finite5.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg4 : FVec F S4096x1024 .f32) (main_arg5 : FVec F S4096x2816 .bf16) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  let main_v25 : FVec F S4096x2816 .f32 := (extf .f32 · bitsLt_bf16_f32) main_arg5
  let main_v26 : FVec F S4096x2816 .f32 := Host.absf main_v25
  let main_cst_8 : FVec F S_ .f32 := constant S_ .f32 0x7F800000#32
  let main_v27 : FVec F S4096x2816 .f32 := broadcastInDim S4096x2816 ![] bcast_S_S4096x2816 main_cst_8
  let main_v28 : IVec S4096x2816 1 := cmpf .olt main_v26 main_v27
  let main_c_9 : IVec S_ 1 := constantI S_ 1 1#1
  let main_v29 : IVec S_ 1 := (fun x v => Host.reduce IntOp.andi x v reducesTo_S4096x2816_S_d0_1 h_S_) main_v28 main_c_9
  let main_v30 : IVec S_ 1 := andi main_v24 main_v29
  main_v30

def fn {F : FTy → Type} [FloatOps F] (main_arg0 : FVec F S4096x1024 .f32) (main_arg1 : FVec F S1x1024 .f32) (main_arg2 : FVec F S2816x1024 .bf16) (main_arg3 : FVec F S4096x1024 .f32) (main_arg4 : FVec F S4096x1024 .f32) (main_arg5 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v8 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_arg5 main_v14 main_v15 main_v16
-- ==== Pre_finite6.lean ====
abbrev S4096x1024 : Shape := ⟨2, ![4096, 1024]⟩
abbrev S1x1024 : Shape := ⟨2, ![1, 1024]⟩
abbrev S3584x1024 : Shape := ⟨2, ![3584, 1024]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S3584x1024 : S_.BroadcastsInDim S3584x1024 (![] : Fin 0 → Fin S3584x1024.rank)
  reducesTo_S3584x1024_S_d0_1 : S3584x1024.ReducesTo [0, 1] S_
  bcast_S_S4096x3584 : S_.BroadcastsInDim S4096x3584 (![] : Fin 0 → Fin S4096x3584.rank)
  reducesTo_S4096x3584_S_d0_1 : S4096x3584.ReducesTo [0, 1] S_

variable [Facts]

def fn_part1 {F : FTy → Type} [FloatOps F] (main_arg4 : FVec F S4096x3584 .bf16) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S4096x3584 .f32 := (extf .f32 · bitsLt_bf16_f32) main_arg4
  let main_v21 : FVec F S4096x3584 .f32 := Host.absf main_v20
  let main_cst_6 : FVec F S_ .f32 := constant S_ .f32 0x7F800000#32
  let main_v22 : FVec F S4096x3584 .f32 := broadcastInDim S4096x3584 ![] bcast_S_S4096x3584 main_cst_6
  let main_v23 : IVec S4096x3584 1 := cmpf .olt main_v21 main_v22
  let main_c_7 : IVec S_ 1 := constantI S_ 1 1#1
  let main_v24 : IVec S_ 1 := (fun x v => Host.reduce IntOp.andi x v reducesTo_S4096x3584_S_d0_1 h_S_) main_v23 main_c_7
  let main_v25 : IVec S_ 1 := andi main_v19 main_v24
  main_v25

def fn {F : FTy → Type} [FloatOps F] (main_arg0 : FVec F S4096x1024 .f32) (main_arg1 : FVec F S1x1024 .f32) (main_arg2 : FVec F S3584x1024 .bf16) (main_arg3 : FVec F S4096x1024 .f32) (main_arg4 : FVec F S4096x3584 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S3584x1024 .f32 := (extf .f32 · bitsLt_bf16_f32) main_arg2
  let main_v10 : FVec F S3584x1024 .f32 := Host.absf main_v9
  let main_cst_2 : FVec F S_ .f32 := constant S_ .f32 0x7F800000#32
  let main_v11 : FVec F S3584x1024 .f32 := broadcastInDim S3584x1024 ![] bcast_S_S3584x1024 main_cst_2
  let main_v12 : IVec S3584x1024 1 := cmpf .olt main_v10 main_v11
  let main_c_3 : IVec S_ 1 := constantI S_ 1 1#1
  let main_v13 : IVec S_ 1 := (fun x v => Host.reduce IntOp.andi x v reducesTo_S3584x1024_S_d0_1 h_S_) main_v12 main_c_3
  let main_v14 : IVec S_ 1 := andi main_v8 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_v14 main_v15 main_v16
-- ==== Kernel.lean ====
abbrev S4096x3584 : Shape := ⟨2, ![4096, 3584]⟩
abbrev S1x64 : Shape := ⟨2, ![1, 64]⟩
abbrev S8x257 : Shape := ⟨2, ![8, 257]⟩
abbrev S4096x1024 : Shape := ⟨2, ![4096, 1024]⟩
abbrev S4096x512 : Shape := ⟨2, ![4096, 512]⟩
abbrev S2x2048x8x64 : Shape := ⟨4, ![2, 2048, 8, 64]⟩
abbrev S64 : Shape := ⟨1, ![64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2048x2048 : Shape := ⟨2, ![2048, 2048]⟩
abbrev S2048x2048x1 : Shape := ⟨3, ![2048, 2048, 1]⟩
abbrev S8x2048x2048 : Shape := ⟨3, ![8, 2048, 2048]⟩
abbrev S2x8x2048x2048 : Shape := ⟨4, ![2, 8, 2048, 2048]⟩
abbrev S1x8x2048x2048 : Shape := ⟨4, ![1, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S64x640 : Shape := ⟨2, ![64, 640]⟩
abbrev S64x640x1 : Shape := ⟨3, ![64, 640, 1]⟩
abbrev S8x64x640 : Shape := ⟨3, ![8, 64, 640]⟩
abbrev S512x640 : Shape := ⟨2, ![512, 640]⟩
abbrev S1x128 : Shape := ⟨2, ![1, 128]⟩
abbrev S4x128x640 : Shape := ⟨3, ![4, 128, 640]⟩
abbrev S4x640x128 : Shape := ⟨3, ![4, 640, 128]⟩
abbrev S2560x128 : Shape := ⟨2, ![2560, 128]⟩
abbrev S2x2560x128 : Shape := ⟨3, ![2, 2560, 128]⟩
abbrev S8x1x128 : Shape := ⟨3, ![8, 1, 128]⟩
abbrev S2048x128 : Shape := ⟨2, ![2048, 128]⟩
abbrev S640x128 : Shape := ⟨2, ![640, 128]⟩
abbrev S1x640x128 : Shape := ⟨3, ![1, 640, 128]⟩
abbrev S1x1x128 : Shape := ⟨3, ![1, 1, 128]⟩
abbrev S2624x128 : Shape := ⟨2, ![2624, 128]⟩
abbrev S128x128 : Shape := ⟨2, ![128, 128]⟩
abbrev S576x128 : Shape := ⟨2, ![576, 128]⟩
abbrev S64x128 : Shape := ⟨2, ![64, 128]⟩
abbrev S128 : Shape := ⟨1, ![128]⟩
abbrev S8x128 : Shape := ⟨2, ![8, 128]⟩
abbrev S128x640 : Shape := ⟨2, ![128, 640]⟩

abbrev nBuf : Space → Nat
  | .hbm => 148
  | .vmem => 33
  | .smem => 0
  | _ => 0

abbrev hbmTy0_0 (i : Nat) : BufTy := match i % 128 with
  | 0 => ⟨S4096x3584, .f32⟩
  | 1 => ⟨S1x64, .f32⟩
  | 2 => ⟨S1x64, .f32⟩
  | 3 => ⟨S8x257, .f32⟩
  | 4 => ⟨S4096x1024, .f32⟩
  | 5 => ⟨S4096x512, .f32⟩
  | 6 => ⟨S4096x512, .f32⟩
  | 7 => ⟨S4096x512, .f32⟩
  | 8 => ⟨S2x2048x8x64, .f32⟩
  | 9 => ⟨S64, .f32⟩
  | 10 => ⟨S2x2048x8x64, .f32⟩
  | 11 => ⟨S_, .f32⟩
  | 12 => ⟨S2x2048x8, .f32⟩
  | 13 => ⟨S2x2048x8x1, .f32⟩
  | 14 => ⟨S_, .f32⟩
  | 15 => ⟨S2x2048x8x1, .f32⟩
  | 16 => ⟨S2x2048x8x1, .f32⟩
  | 17 => ⟨S_, .f32⟩
  | 18 => ⟨S2x2048x8x1, .f32⟩
  | 19 => ⟨S2x2048x8x1, .f32⟩
  | 20 => ⟨S2x2048x8x1, .f32⟩
  | 21 => ⟨S2x2048x8x64, .f32⟩
  | 22 => ⟨S2x2048x8x64, .f32⟩
  | 23 => ⟨S1x1x1x64, .f32⟩
  | 24 => ⟨S2x2048x8x64, .f32⟩
  | 25 => ⟨S2x2048x8x64, .f32⟩
  | 26 => ⟨S2x2048x8x64, .f32⟩
  | 27 => ⟨S64, .f32⟩
  | 28 => ⟨S2x2048x8x64, .f32⟩
  | 29 => ⟨S_, .f32⟩
  | 30 => ⟨S2x2048x8, .f32⟩
  | 31 => ⟨S2x2048x8x1, .f32⟩
  | 32 => ⟨S_, .f32⟩
  | 33 => ⟨S2x2048x8x1, .f32⟩
  | 34 => ⟨S2x2048x8x1, .f32⟩
  | 35 => ⟨S_, .f32⟩
  | 36 => ⟨S2x2048x8x1, .f32⟩
  | 37 => ⟨S2x2048x8x1, .f32⟩
  | 38 => ⟨S2x2048x8x1, .f32⟩
  | 39 => ⟨S2x2048x8x64, .f32⟩
  | 40 => ⟨S2x2048x8x64, .f32⟩
  | 41 => ⟨S1x1x1x64, .f32⟩
  | 42 => ⟨S2x2048x8x64, .f32⟩
  | 43 => ⟨S2x2048x8x64, .f32⟩
  | 44 => ⟨S2x2048x8x64, .f32⟩
  | 45 => ⟨S2048x2048, .i32⟩
  | 46 => ⟨S2048x2048, .i32⟩
  | 47 => ⟨S2048x2048, .i32⟩
  | 48 => ⟨S_, .i32⟩
  | 49 => ⟨S_, .i32⟩
  | 50 => ⟨S_, .i32⟩
  | 51 => ⟨S2048x2048, .i32⟩
  | 52 => ⟨S2048x2048, .i32⟩
  | 53 => ⟨S_, .i32⟩
  | 54 => ⟨S2048x2048, .i32⟩
  | 55 => ⟨S2048x2048, .i32⟩
  | 56 => ⟨S_, .i32⟩
  | 57 => ⟨S2048x2048, .i32⟩
  | 58 => ⟨S2048x2048, .i32⟩
  | 59 => ⟨S_, .i32⟩
  | 60 => ⟨S2048x2048, .i32⟩
  | 61 => ⟨S2048x2048, .i1⟩
  | 62 => ⟨S_, .i32⟩
  | 63 => ⟨S2048x2048, .i32⟩
  | 64 => ⟨S2048x2048, .i32⟩
  | 65 => ⟨S2048x2048, .i32⟩
  | 66 => ⟨S2048x2048x1, .i32⟩
  | 67 => ⟨S8x2048x2048, .f32⟩
  | 68 => ⟨S_, .i32⟩
  | 69 => ⟨S2048x2048, .i32⟩
  | 70 => ⟨S2048x2048, .i32⟩
  | 71 => ⟨S_, .i32⟩
  | 72 => ⟨S2048x2048, .i32⟩
  | 73 => ⟨S2048x2048, .i32⟩
  | 74 => ⟨S2048x2048, .i1⟩
  | 75 => ⟨S2048x2048, .i32⟩
  | 76 => ⟨S_, .i32⟩
  | 77 => ⟨S2048x2048, .i32⟩
  | 78 => ⟨S2048x2048, .i1⟩
  | 79 => ⟨S2048x2048, .i1⟩
  | 80 => ⟨S2x8x2048x2048, .f32⟩
  | 81 => ⟨S_, .f32⟩
  | 82 => ⟨S2x8x2048x2048, .f32⟩
  | 83 => ⟨S2x8x2048x2048, .f32⟩
  | 84 => ⟨S1x8x2048x2048, .f32⟩
  | 85 => ⟨S2x8x2048x2048, .f32⟩
  | 86 => ⟨S2x8x2048x2048, .f32⟩
  | 87 => ⟨S1x1x2048x2048, .i1⟩
  | 88 => ⟨S_, .f32⟩
  | 89 => ⟨S_, .f32⟩
  | 90 => ⟨S2x8x2048x2048, .i1⟩
  | 91 => ⟨S2x8x2048x2048, .f32⟩
  | 92 => ⟨S2x8x2048x2048, .f32⟩
  | 93 => ⟨S_, .f32⟩
  | 94 => ⟨S2x8x2048, .f32⟩
  | 95 => ⟨S_, .f32⟩
  | 96 => ⟨S2x8x2048, .f32⟩
  | 97 => ⟨S2x8x2048, .f32⟩
  | 98 => ⟨S2x8x2048x1, .f32⟩
  | 99 => ⟨S2x8x2048x2048, .f32⟩
  | 100 => ⟨S2x8x2048x2048, .f32⟩
  | 101 => ⟨S2x8x2048x2048, .f32⟩
  | 102 => ⟨S_, .f32⟩
  | 103 => ⟨S2x8x2048, .f32⟩
  | 104 => ⟨S2x8x2048x1, .f32⟩
  | 105 => ⟨S2x8x2048x2048, .f32⟩
  | 106 => ⟨S2x8x2048x2048, .f32⟩
  | 107 => ⟨S2x8x64x2048, .f32⟩
  | 108 => ⟨S2x2048x8x64, .f32⟩
  | 109 => ⟨S4096x512, .f32⟩
  | 110 => ⟨S64x640, .i32⟩
  | 111 => ⟨S64x640, .i32⟩
  | 112 => ⟨S_, .i32⟩
  | 113 => ⟨S64x640, .i32⟩
  | 114 => ⟨S64x640, .i32⟩
  | 115 => ⟨S64x640, .i32⟩
  | 116 => ⟨S_, .i32⟩
  | 117 => ⟨S_, .i32⟩
  | 118 => ⟨S_, .i32⟩
  | 119 => ⟨S64x640, .i32⟩
  | 120 => ⟨S64x640, .i32⟩
  | 121 => ⟨S_, .i32⟩
  | 122 => ⟨S64x640, .i32⟩
  | 123 => ⟨S64x640, .i32⟩
  | 124 => ⟨S_, .i32⟩
  | 125 => ⟨S64x640, .i32⟩
  | 126 => ⟨S64x640, .i32⟩
  | 127 => ⟨S_, .i32⟩
  | _ => ⟨S4096x3584, .f32⟩

abbrev hbmTy0_1 (i : Nat) : BufTy := match i % 128 with
  | 0 => ⟨S64x640, .i32⟩
  | 1 => ⟨S64x640, .i1⟩
  | 2 => ⟨S_, .i32⟩
  | 3 => ⟨S64x640, .i32⟩
  | 4 => ⟨S64x640, .i32⟩
  | 5 => ⟨S64x640, .i32⟩
  | 6 => ⟨S64x640x1, .i32⟩
  | 7 => ⟨S8x64x640, .f32⟩
  | 8 => ⟨S512x640, .f32⟩
  | 9 => ⟨S1x128, .f32⟩
  | 10 => ⟨S1x128, .f32⟩
  | 11 => ⟨S4x128x640, .f32⟩
  | 12 => ⟨S4x640x128, .f32⟩
  | 13 => ⟨S2560x128, .f32⟩
  | 14 => ⟨S4096x512, .bf16⟩
  | 15 => ⟨S4096x512, .bf16⟩
  | 16 => ⟨S4096x512, .bf16⟩
  | 17 => ⟨S2x2560x128, .f32⟩
  | 18 => ⟨S8x1x128, .f32⟩
  | 19 => ⟨S8x1x128, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S640x128, .f32⟩
  | .local _ .vmem, ⟨11, _⟩ => ⟨S640x128, .f32⟩
  | .local _ .vmem, ⟨12, _⟩ => ⟨S1x128, .f32⟩
  | .local _ .vmem, ⟨13, _⟩ => ⟨S1x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x640x128, .f32⟩
  | .local _ .vmem, ⟨21, _⟩ => ⟨S1x640x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S2048x128, .bf16⟩
  | .local _ .vmem, ⟨27, _⟩ => ⟨S2624x128, .bf16⟩
  | .local _ .vmem, ⟨28, _⟩ => ⟨S2624x128, .bf16⟩
  | .local _ .vmem, ⟨29, _⟩ => ⟨S2048x128, .f32⟩
  | .local _ .vmem, ⟨30, _⟩ => ⟨S2624x128, .f32⟩
  | .local _ .vmem, ⟨31, _⟩ => ⟨S2624x128, .f32⟩
  | .local _ .vmem, ⟨32, _⟩ => ⟨S640x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_c_19 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v83 : Ref sig .tc := ⟨.hbm, 123, rfl⟩
abbrev main_c_20 : Ref sig .tc := ⟨.hbm, 124, rfl⟩
abbrev main_v84 : Ref sig .tc := ⟨.hbm, 125, rfl⟩
abbrev main_v85 : Ref sig .tc := ⟨.hbm, 126, rfl⟩
abbrev main_c_21 : Ref sig .tc := ⟨.hbm, 127, rfl⟩
abbrev main_v86 : Ref sig .tc := ⟨.hbm, 128, rfl⟩
abbrev main_v87 : Ref sig .tc := ⟨.hbm, 129, rfl⟩
abbrev main_c_22 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99_0 : Ref sig .tc := ⟨.hbm, 142, rfl⟩
abbrev main_v99_1 : Ref sig .tc := ⟨.hbm, 143, rfl⟩
abbrev main_v99_2 : Ref sig .tc := ⟨.hbm, 144, rfl⟩
abbrev main_v99_3 : Ref sig .tc := ⟨.hbm, 145, rfl⟩
abbrev main_v99_4 : Ref sig .tc := ⟨.hbm, 146, rfl⟩
abbrev main_v99_5 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c8_i32 : BitVec 32 := 8#32
  let v105 : BitVec 32 := Scalar.addi c0_i32 c8_i32
  let c1_i32 : BitVec 32 := 1#32
  ⟨c0_i32, v105, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32 : BitVec 32 := 4#32
  let v197 : BitVec 32 := Scalar.muli arg23 c4_i32
  let c0_i32_88 : BitVec 32 := 0#32
  let v198 : BitVec 32 := Scalar.addi v197 c0_i32_88
  let c64_i32_93 : BitVec 32 := 64#32
  let v205 : BitVec 32 := Scalar.muli v198 c64_i32_93
  v205
def k0_off1 (k0_t1 : Fin k0_t1_loop.trips) (c0_i32_88 : BitVec 32) : Fin 2 → Nat :=
  let c0_i32 : BitVec 32 := 0#32
  let c1_i32 : BitVec 32 := 1#32
  let arg23 : BitVec 32 := Scf.iv c0_i32 c1_i32 k0_t1
  let c4_i32 : BitVec 32 := 4#32
  let v197 : BitVec 32 := Scalar.muli arg23 c4_i32
  let v198 : BitVec 32 := Scalar.addi v197 c0_i32_88
  let c64_i32_93 : BitVec 32 := 64#32
  let v205 : BitVec 32 := Scalar.muli v198 c64_i32_93
  let v206 : BitVec 32 := v205
  let v207 : Index := Scalar.indexCast v206
  let c0_94 : Index := 0#32
  ![v207.toNat, 0]
def k0_off2 (k0_t1 : Fin k0_t1_loop.trips) (c0_i32_88 : BitVec 32) : Fin 2 → Nat :=
  let c0_i32 : BitVec 32 := 0#32
  let c1_i32 : BitVec 32 := 1#32
  let arg23 : BitVec 32 := Scf.iv c0_i32 c1_i32 k0_t1
  let c4_i32 : BitVec 32 := 4#32
  let v197 : BitVec 32 := Scalar.muli arg23 c4_i32
  let v198 : BitVec 32 := Scalar.addi v197 c0_i32_88
  let c64_i32_93 : BitVec 32 := 64#32
  let v205 : BitVec 32 := Scalar.muli v198 c64_i32_93
  let v206 : BitVec 32 := v205
  let v216 : Index := Scalar.indexCast v206
  let c0_97 : Index := 0#32
  ![v216.toNat, 0]
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32_89 : BitVec 32 := 4#32
  let v199 : BitVec 32 := Scalar.muli arg23 c4_i32_89
  let c1_i32_90 : BitVec 32 := 1#32
  let v200 : BitVec 32 := Scalar.addi v199 c1_i32_90
  let c64_i32_106 : BitVec 32 := 64#32
  let v235 : BitVec 32 := Scalar.muli v200 c64_i32_106
  v235
def k0_mult3 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32_91 : BitVec 32 := 4#32
  let v201 : BitVec 32 := Scalar.muli arg23 c4_i32_91
  let c2_i32 : BitVec 32 := 2#32
  let v202 : BitVec 32 := Scalar.addi v201 c2_i32
  let c64_i32_119 : BitVec 32 := 64#32
  let v265 : BitVec 32 := Scalar.muli v202 c64_i32_119
  v265
def k0_mult4 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32_92 : BitVec 32 := 4#32
  let v203 : BitVec 32 := Scalar.muli arg23 c4_i32_92
  let c3_i32 : BitVec 32 := 3#32
  let v204 : BitVec 32 := Scalar.addi v203 c3_i32
  let c64_i32_132 : BitVec 32 := 64#32
  let v295 : BitVec 32 := Scalar.muli v204 c64_i32_132
  v295
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x640x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4096x3584 : Shape := ⟨2, ![4096, 3584]⟩
abbrev S1x64 : Shape := ⟨2, ![1, 64]⟩
abbrev S8x257 : Shape := ⟨2, ![8, 257]⟩
abbrev S4096x1024 : Shape := ⟨2, ![4096, 1024]⟩
abbrev S4096x512 : Shape := ⟨2, ![4096, 512]⟩
abbrev S2x2048x8x64 : Shape := ⟨4, ![2, 2048, 8, 64]⟩
abbrev S64 : Shape := ⟨1, ![64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2048x2048 : Shape := ⟨2, ![2048, 2048]⟩
abbrev S2048x2048x1 : Shape := ⟨3, ![2048, 2048, 1]⟩
abbrev S8x2048x2048 : Shape := ⟨3, ![8, 2048, 2048]⟩
abbrev S2x8x2048x2048 : Shape := ⟨4, ![2, 8, 2048, 2048]⟩
abbrev S1x8x2048x2048 : Shape := ⟨4, ![1, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x64 : Shape := ⟨4, ![2, 8, 2048, 64]⟩

abbrev nBuf : Space → Nat
  | .hbm => 218
  | .vmem => 0
  | .smem => 0
  | _ => 0

abbrev hbmTy0_0 (i : Nat) : BufTy := match i % 128 with
  | 0 => ⟨S4096x3584, .f32⟩
  | 1 => ⟨S1x64, .f32⟩
  | 2 => ⟨S1x64, .f32⟩
  | 3 => ⟨S8x257, .f32⟩
  | 4 => ⟨S4096x1024, .f32⟩
  | 5 => ⟨S4096x512, .f32⟩
  | 6 => ⟨S4096x512, .f32⟩
  | 7 => ⟨S4096x512, .f32⟩
  | 8 => ⟨S4096x512, .f32⟩
  | 9 => ⟨S2x2048x8x64, .f32⟩
  | 10 => ⟨S64, .f32⟩
  | 11 => ⟨S2x2048x8x64, .f32⟩
  | 12 => ⟨S_, .f32⟩
  | 13 => ⟨S2x2048x8, .f32⟩
  | 14 => ⟨S2x2048x8x1, .f32⟩
  | 15 => ⟨S_, .f32⟩
  | 16 => ⟨S2x2048x8x1, .f32⟩
  | 17 => ⟨S2x2048x8x1, .f32⟩
  | 18 => ⟨S_, .f32⟩
  | 19 => ⟨S2x2048x8x1, .f32⟩
  | 20 => ⟨S2x2048x8x1, .f32⟩
  | 21 => ⟨S2x2048x8x1, .f32⟩
  | 22 => ⟨S2x2048x8x1, .f32⟩
  | 23 => ⟨S_, .f32⟩
  | 24 => ⟨S2x2048x8x1, .f32⟩
  | 25 => ⟨S2x2048x8x1, .f32⟩
  | 26 => ⟨S2x2048x8x64, .f32⟩
  | 27 => ⟨S2x2048x8x64, .f32⟩
  | 28 => ⟨S1x1x1x64, .f32⟩
  | 29 => ⟨S2x2048x8x64, .f32⟩
  | 30 => ⟨S2x2048x8x64, .f32⟩
  | 31 => ⟨S2x2048x8x64, .f32⟩
  | 32 => ⟨S64, .f32⟩
  | 33 => ⟨S2x2048x8x64, .f32⟩
  | 34 => ⟨S_, .f32⟩
  | 35 => ⟨S2x2048x8, .f32⟩
  | 36 => ⟨S2x2048x8x1, .f32⟩
  | 37 => ⟨S_, .f32⟩
  | 38 => ⟨S2x2048x8x1, .f32⟩
  | 39 => ⟨S2x2048x8x1, .f32⟩
  | 40 => ⟨S_, .f32⟩
  | 41 => ⟨S2x2048x8x1, .f32⟩
  | 42 => ⟨S2x2048x8x1, .f32⟩
  | 43 => ⟨S2x2048x8x1, .f32⟩
  | 44 => ⟨S2x2048x8x1, .f32⟩
  | 45 => ⟨S_, .f32⟩
  | 46 => ⟨S2x2048x8x1, .f32⟩
  | 47 => ⟨S2x2048x8x1, .f32⟩
  | 48 => ⟨S2x2048x8x64, .f32⟩
  | 49 => ⟨S2x2048x8x64, .f32⟩
  | 50 => ⟨S1x1x1x64, .f32⟩
  | 51 => ⟨S2x2048x8x64, .f32⟩
  | 52 => ⟨S2x2048x8x64, .f32⟩
  | 53 => ⟨S2x2048x8x64, .f32⟩
  | 54 => ⟨S2048x2048, .i32⟩
  | 55 => ⟨S2048x2048, .i32⟩
  | 56 => ⟨S2048x2048, .i32⟩
  | 57 => ⟨S_, .i32⟩
  | 58 => ⟨S_, .i32⟩
  | 59 => ⟨S_, .i32⟩
  | 60 => ⟨S2048x2048, .i32⟩
  | 61 => ⟨S2048x2048, .i32⟩
  | 62 => ⟨S_, .i32⟩
  | 63 => ⟨S2048x2048, .i32⟩
  | 64 => ⟨S2048x2048, .i32⟩
  | 65 => ⟨S_, .i32⟩
  | 66 => ⟨S2048x2048, .i32⟩
  | 67 => ⟨S2048x2048, .i32⟩
  | 68 => ⟨S_, .i32⟩
  | 69 => ⟨S2048x2048, .i32⟩
  | 70 => ⟨S2048x2048, .i1⟩
  | 71 => ⟨S_, .i32⟩
  | 72 => ⟨S2048x2048, .i32⟩
  | 73 => ⟨S2048x2048, .i32⟩
  | 74 => ⟨S2048x2048, .i32⟩
  | 75 => ⟨S2048x2048x1, .i32⟩
  | 76 => ⟨S8x2048x2048, .f32⟩
  | 77 => ⟨S_, .i32⟩
  | 78 => ⟨S2048x2048, .i32⟩
  | 79 => ⟨S2048x2048, .i32⟩
  | 80 => ⟨S_, .i32⟩
  | 81 => ⟨S2048x2048, .i32⟩
  | 82 => ⟨S2048x2048, .i32⟩
  | 83 => ⟨S2048x2048, .i1⟩
  | 84 => ⟨S2048x2048, .i32⟩
  | 85 => ⟨S_, .i32⟩
  | 86 => ⟨S2048x2048, .i32⟩
  | 87 => ⟨S2048x2048, .i1⟩
  | 88 => ⟨S2048x2048, .i1⟩
  | 89 => ⟨S2x8x2048x2048, .f32⟩
  | 90 => ⟨S_, .f32⟩
  | 91 => ⟨S2x8x2048x2048, .f32⟩
  | 92 => ⟨S2x8x2048x2048, .f32⟩
  | 93 => ⟨S1x8x2048x2048, .f32⟩
  | 94 => ⟨S2x8x2048x2048, .f32⟩
  | 95 => ⟨S2x8x2048x2048, .f32⟩
  | 96 => ⟨S1x1x2048x2048, .i1⟩
  | 97 => ⟨S_, .f32⟩
  | 98 => ⟨S_, .f32⟩
  | 99 => ⟨S2x8x2048x2048, .i1⟩
  | 100 => ⟨S2x8x2048x2048, .f32⟩
  | 101 => ⟨S2x8x2048x2048, .f32⟩
  | 102 => ⟨S_, .f32⟩
  | 103 => ⟨S2x8x2048x2048, .f32⟩
  | 104 => ⟨S_, .f32⟩
  | 105 => ⟨S2x8x2048, .f32⟩
  | 106 => ⟨S2x8x2048x1, .f32⟩
  | 107 => ⟨S2x8x2048x2048, .f32⟩
  | 108 => ⟨S2x8x2048x2048, .i1⟩
  | 109 => ⟨S2x8x2048x2048, .f32⟩
  | 110 => ⟨S_, .f32⟩
  | 111 => ⟨S2x8x2048, .f32⟩
  | 112 => ⟨S_, .f32⟩
  | 113 => ⟨S2x8x2048, .f32⟩
  | 114 => ⟨S2x8x2048, .f32⟩
  | 115 => ⟨S_, .f32⟩
  | 116 => ⟨S2x8x2048, .f32⟩
  | 117 => ⟨S2x8x2048, .i1⟩
  | 118 => ⟨S_, .f32⟩
  | 119 => ⟨S2x8x2048, .f32⟩
  | 120 => ⟨S2x8x2048, .i1⟩
  | 121 => ⟨S_, .f32⟩
  | 122 => ⟨S2x8x2048, .f32⟩
  | 123 => ⟨S_, .f32⟩
  | 124 => ⟨S2x8x2048, .f32⟩
  | 125 => ⟨S_, .f32⟩
  | 126 => ⟨S2x8x2048, .f32⟩
  | 127 => ⟨S2x8x2048, .f32⟩
  | _ => ⟨S4096x3584, .f32⟩

abbrev hbmTy0_1 (i : Nat) : BufTy := match i % 128 with
  | 0 => ⟨S2x8x2048, .f32⟩
  | 1 => ⟨S2x8x2048x1, .f32⟩
  | 2 => ⟨S2x8x2048x2048, .f32⟩
  | 3 => ⟨S2x8x2048x2048, .f32⟩
  | 4 => ⟨S2x8x2048x2048, .f32⟩
  | 5 => ⟨S_, .f32⟩
  | 6 => ⟨S2x8x2048, .f32⟩
  | 7 => ⟨S2x8x2048x1, .f32⟩
  | 8 => ⟨S2x8x2048x2048, .f32⟩
  | 9 => ⟨S2x8x2048x2048, .f32⟩
  | 10 => ⟨S2x8x2048x1, .f32⟩
  | 11 => ⟨S_, .f32⟩
  | 12 => ⟨S2x8x2048x1, .f32⟩
  | 13 => ⟨S2x8x2048x1, .f32⟩
  | 14 => ⟨S2x8x64x2048, .f32⟩
  | 15 => ⟨S2x2048x8x64, .f32⟩
  | 16 => ⟨S4096x512, .f32⟩
  | 17 => ⟨S2x2048x8x64, .f32⟩
  | 18 => ⟨S2x8x64x2048, .f32⟩
  | 19 => ⟨S2x8x2048x2048, .f32⟩
  | 20 => ⟨S2x8x64x2048, .f32⟩
  | 21 => ⟨S2x2048x8x64, .f32⟩
  | 22 => ⟨S2x8x2048x2048, .f32⟩
  | 23 => ⟨S2x8x2048x2048, .f32⟩
  | 24 => ⟨S2x8x2048x2048, .f32⟩
  | 25 => ⟨S_, .f32⟩
  | 26 => ⟨S2x8x2048, .f32⟩
  | 27 => ⟨S2x8x2048x1, .f32⟩
  | 28 => ⟨S2x8x2048x1, .f32⟩
  | 29 => ⟨S2x8x2048x2048, .f32⟩
  | 30 => ⟨S2x8x2048x2048, .f32⟩
  | 31 => ⟨S_, .f32⟩
  | 32 => ⟨S2x8x2048, .f32⟩
  | 33 => ⟨S2x8x2048x2048, .f32⟩
  | 34 => ⟨S2x8x2048x2048, .f32⟩
  | 35 => ⟨S2x8x2048x2048, .f32⟩
  | 36 => ⟨S_, .f32⟩
  | 37 => ⟨S2x8x2048x2048, .f32⟩
  | 38 => ⟨S2x8x2048x2048, .f32⟩
  | 39 => ⟨S_, .f32⟩
  | 40 => ⟨S2x8x2048x2048, .f32⟩
  | 41 => ⟨S2x8x2048x2048, .f32⟩
  | 42 => ⟨S2x8x2048x64, .f32⟩
  | 43 => ⟨S2x2048x8x64, .f32⟩
  | 44 => ⟨S2x8x2048x64, .f32⟩
  | 45 => ⟨S2x2048x8x64, .f32⟩
  | 46 => ⟨S4096x512, .f32⟩
  | 47 => ⟨S2x2048x8x64, .f32⟩
  | 48 => ⟨S2x2048x8x64, .f32⟩
  | 49 => ⟨S2x2048x8x64, .f32⟩
  | 50 => ⟨S_, .f32⟩
  | 51 => ⟨S2x2048x8, .f32⟩
  | 52 => ⟨S2x2048x8x1, .f32⟩
  | 53 => ⟨S2x2048x8x64, .f32⟩
  | 54 => ⟨S2x2048x8x64, .f32⟩
  | 55 => ⟨S2x2048x8x1, .f32⟩
  | 56 => ⟨S_, .f32⟩
  | 57 => ⟨S2x2048x8x1, .f32⟩
  | 58 => ⟨S2x2048x8x1, .f32⟩
  | 59 => ⟨S_, .f32⟩
  | 60 => ⟨S2x2048x8, .f32⟩
  | 61 => ⟨S2x2048x8x64, .f32⟩
  | 62 => ⟨S2x2048x8x64, .f32⟩
  | 63 => ⟨S2x2048x8x64, .f32⟩
  | 64 => ⟨S2x2048x8x64, .f32⟩
  | 65 => ⟨S2x2048x8x64, .f32⟩
  | 66 => ⟨S4096x512, .f32⟩
  | 67 => ⟨S2x2048x8x64, .f32⟩
  | 68 => ⟨S2x2048x8x64, .f32⟩
  | 69 => ⟨S2x2048x8x64, .f32⟩
  | 70 => ⟨S_, .f32⟩
  | 71 => ⟨S2x2048x8, .f32⟩
  | 72 => ⟨S2x2048x8x1, .f32⟩
  | 73 => ⟨S2x2048x8x64, .f32⟩
  | 74 => ⟨S2x2048x8x64, .f32⟩
  | 75 => ⟨S2x2048x8x1, .f32⟩
  | 76 => ⟨S_, .f32⟩
  | 77 => ⟨S2x2048x8x1, .f32⟩
  | 78 => ⟨S2x2048x8x1, .f32⟩
  | 79 => ⟨S_, .f32⟩
  | 80 => ⟨S2x2048x8, .f32⟩
  | 81 => ⟨S2x2048x8x64, .f32⟩
  | 82 => ⟨S2x2048x8x64, .f32⟩
  | 83 => ⟨S2x2048x8x64, .f32⟩
  | 84 => ⟨S2x2048x8x64, .f32⟩
  | 85 => ⟨S2x2048x8x64, .f32⟩
  | 86 => ⟨S4096x512, .f32⟩
  | 87 => ⟨S4096x512, .bf16⟩
  | 88 => ⟨S4096x512, .bf16⟩
  | 89 => ⟨S4096x512, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_c_7 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_call1_v0 : Ref sig .tc := ⟨.hbm, 98, rfl⟩
abbrev main_v70_1 : Ref sig .tc := ⟨.hbm, 99, rfl⟩
abbrev main_call1_v2 : Ref sig .tc := ⟨.hbm, 100, rfl⟩
abbrev main_v70_0 : Ref sig .tc := ⟨.hbm, 101, rfl⟩
abbrev main_call1_cst : Ref sig .tc := ⟨.hbm, 102, rfl⟩
abbrev main_v70_2 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_v80 : Ref sig .tc := ⟨.hbm, 117, rfl⟩
abbrev main_cst_20 : Ref sig .tc := ⟨.hbm, 118, rfl⟩
abbrev main_v81 : Ref sig .tc := ⟨.hbm, 119, rfl⟩
abbrev main_v82 : Ref sig .tc := ⟨.hbm, 120, rfl⟩
abbrev main_cst_21 : Ref sig .tc := ⟨.hbm, 121, rfl⟩
abbrev main_v83 : Ref sig .tc := ⟨.hbm, 122, rfl⟩
abbrev main_cst_22 : Ref sig .tc := ⟨.hbm, 123, rfl⟩
abbrev main_v84 : Ref sig .tc := ⟨.hbm, 124, rfl⟩
abbrev main_cst_23 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_24 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_25 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_26 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_27 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_call2_cst : Ref sig .tc := ⟨.hbm, 164, rfl⟩
abbrev main_call2_v0 : Ref sig .tc := ⟨.hbm, 165, rfl⟩
abbrev main_v119 : Ref sig .tc := ⟨.hbm, 166, rfl⟩
abbrev main_cst_28 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_29 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_30 : Ref sig .tc := ⟨.hbm, 184, rfl⟩
abbrev main_v135 : Ref sig .tc := ⟨.hbm, 185, rfl⟩
abbrev main_v136 : Ref sig .tc := ⟨.hbm, 186, rfl⟩
abbrev main_cst_31 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_32 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_33 : Ref sig .tc := ⟨.hbm, 204, rfl⟩
abbrev main_v152 : Ref sig .tc := ⟨.hbm, 205, rfl⟩
abbrev main_v153 : Ref sig .tc := ⟨.hbm, 206, rfl⟩
abbrev main_cst_34 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .hbm, ⟨6, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .f32⟩
  | .local _ .vmem, ⟨13, _⟩ => ⟨S1408x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg1 : BitVec 32 := BitVec.ofNat 32 (i 1).val
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S1024x2816 : Shape := ⟨2, ![1024, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S2816x1024, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .bf16⟩
  | .hbm, ⟨39, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S_, .f32⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x1024, .f32⟩
  | .hbm, ⟨4, _⟩ => ⟨S4096x1024, .f32⟩
  | .hbm, ⟨5, _⟩ => ⟨S4096x2816, .bf16⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32_22 : BitVec 32 := 0#32
  let v40 : BitVec 1 := Scalar.cmpi .sgt arg0 c0_i32_22
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== Reference5Ideal.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x1024, .f32⟩
  | .hbm, ⟨4, _⟩ => ⟨S4096x1024, .f32⟩
  | .hbm, ⟨5, _⟩ => ⟨S4096x2816, .bf16⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S3584x1024 : Shape := ⟨2, ![3584, 1024]⟩
abbrev S4096x3584 : Shape := ⟨2, ![4096, 3584]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3584x1024, .bf16⟩
  | .hbm, ⟨3, _⟩ => ⟨S4096x1024, .f32⟩
  | .hbm, ⟨4, _⟩ => ⟨S4096x3584, .bf16⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S3584x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference6Ideal.lean ====
abbrev S4096x1024 : Shape := ⟨2, ![4096, 1024]⟩
abbrev S1x1024 : Shape := ⟨2, ![1, 1024]⟩
abbrev S3584x1024 : Shape := ⟨2, ![3584, 1024]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1024x3584 : Shape := ⟨2, ![1024, 3584]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3584x1024, .bf16⟩
  | .hbm, ⟨3, _⟩ => ⟨S4096x1024, .f32⟩
  | .hbm, ⟨4, _⟩ => ⟨S4096x3584, .bf16⟩
  | .hbm, ⟨5, _⟩ => ⟨S3584x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x3584, .f32⟩
  | .hbm, ⟨26, _⟩ => ⟨S4096x3584, .f32⟩
  | .hbm, ⟨27, _⟩ => ⟨S4096x3584, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel7.lean ====
abbrev S4096x3584 : Shape := ⟨2, ![4096, 3584]⟩
abbrev S4096x1024 : Shape := ⟨2, ![4096, 1024]⟩
abbrev S3584x1024 : Shape := ⟨2, ![3584, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S3584x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![7, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x3584 : Shape := ⟨2, ![4096, 3584]⟩
abbrev S4096x1024 : Shape := ⟨2, ![4096, 1024]⟩
abbrev S_ : Shape := ⟨0, ![]⟩
abbrev S3584x1024 : Shape := ⟨2, ![3584, 1024]⟩
abbrev S1024x3584 : Shape := ⟨2, ![1024, 3584]⟩

abbrev nBuf : Space → Nat
  | .hbm => 11
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S_, .f32⟩
  | .hbm, ⟨3, _⟩ => ⟨S3584x1024, .f32⟩
  | .hbm, ⟨4, _⟩ => ⟨S4096x1024, .f32⟩
  | .hbm, ⟨5, _⟩ => ⟨S1024x3584, .f32⟩
  | .hbm, ⟨6, _⟩ => ⟨S4096x3584, .f32⟩
  | .hbm, ⟨7, _⟩ => ⟨S4096x3584, .f32⟩
  | .hbm, ⟨8, _⟩ => ⟨S3584x1024, .f32⟩
  | .hbm, ⟨9, _⟩ => ⟨S1024x3584, .f32⟩
  | .hbm, ⟨10, _⟩ => ⟨S3584x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S4096x512, .f32⟩
  | .local _ .vmem, ⟨1, _⟩ => ⟨S4096x512, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel12.lean ====
abbrev S4096x1024 : Shape := ⟨2, ![4096, 1024]⟩
abbrev S3584x1024 : Shape := ⟨2, ![3584, 1024]⟩
abbrev S4096x3584 : Shape := ⟨2, ![4096, 3584]⟩
abbrev S256x1024 : Shape := ⟨2, ![256, 1024]⟩
abbrev S256x3584 : Shape := ⟨2, ![256, 3584]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S3584x1024, .bf16⟩
  | .hbm, ⟨2, _⟩ => ⟨S4096x3584, .f32⟩
  | .local _ .vmem, ⟨0, _⟩ => ⟨S256x1024, .bf16⟩
  | .local _ .vmem, ⟨1, _⟩ => ⟨S256x1024, .bf16⟩
  | .local _ .vmem, ⟨2, _⟩ => ⟨S3584x1024, .bf16⟩
  | .local _ .vmem, ⟨3, _⟩ => ⟨S256x3584, .f32⟩
  | .local _ .vmem, ⟨4, _⟩ => ⟨S256x3584, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S3584x1024 : Shape := ⟨2, ![3584, 1024]⟩
abbrev S1024x3584 : Shape := ⟨2, ![1024, 3584]⟩
abbrev S4096x3584 : Shape := ⟨2, ![4096, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3584x1024, .bf16⟩
  | .hbm, ⟨2, _⟩ => ⟨S4096x1024, .f32⟩
  | .hbm, ⟨3, _⟩ => ⟨S3584x1024, .f32⟩
  | .hbm, ⟨4, _⟩ => ⟨S1024x3584, .f32⟩
  | .hbm, ⟨5, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel14.lean ====
abbrev S4096x1024 : Shape := ⟨2, ![4096, 1024]⟩
abbrev S2816x1024 : Shape := ⟨2, ![2816, 1024]⟩
abbrev S4096x2816 : Shape := ⟨2, ![4096, 2816]⟩
abbrev S1x1024 : Shape := ⟨2, ![1, 1024]⟩
abbrev S512x1024 : Shape := ⟨2, ![512, 1024]⟩
abbrev S1408x1024 : Shape := ⟨2, ![1408, 1024]⟩
abbrev S512x1408 : Shape := ⟨2, ![512, 1408]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x2816, .bf16⟩
  | .hbm, ⟨7, _⟩ => ⟨S4096x2816, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_19 : BitVec 32 := 0#32
  let v29 : BitVec 1 := Scalar.cmpi .ne v28 c0_i32_19
  v29

def k0_cond4 (i : grid0.Coords) : BitVec 1 :=
  let arg0 : BitVec 32 := BitVec.ofNat 32 (i 0).val
  let c0_i32_33 : BitVec 32 := 0#32
  let v45 : BitVec 1 := Scalar.cmpi .eq arg0 c0_i32_33
  let v46 : BitVec 32 := Scalar.extui v45
  let c0_i32_34 : BitVec 32 := 0#32
  let v47 : BitVec 1 := Scalar.cmpi .ne v46 c0_i32_34
  v47

def k0_cond5 (i : grid0.Coords) : BitVec 1 :=
  let arg0 : BitVec 32 := BitVec.ofNat 32 (i 0).val
  let c0_i32_35 : BitVec 32 := 0#32
  let v48 : BitVec 1 := Scalar.cmpi .sgt arg0 c0_i32_35
  let v49 : BitVec 32 := Scalar.extui v48
  let c0_i32_36 : BitVec 32 := 0#32
  let v50 : BitVec 1 := Scalar.cmpi .ne v49 c0_i32_36
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference14Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .f32⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4096x1024, .f32⟩
  | .hbm, ⟨11, _⟩ => ⟨S2816x1024, .f32⟩
  | .hbm, ⟨12, _⟩ => ⟨S1024x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S2816x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x2816, .bf16⟩
  | .hbm, ⟨54, _⟩ => ⟨S4096x2816, .bf16⟩
  | .hbm, ⟨55, _⟩ => ⟨S4096x1024, .bf16⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_cst_5 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S1x448x1024 : Shape := ⟨3, ![1, 448, 1024]⟩
abbrev S4x448x1024 : Shape := ⟨3, ![4, 448, 1024]⟩
abbrev S1x112x1024 : Shape := ⟨3, ![1, 112, 1024]⟩
abbrev S4x112x1024 : Shape := ⟨3, ![4, 112, 1024]⟩
abbrev S112x1024 : Shape := ⟨2, ![112, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x448x1024, .f32⟩
  | .hbm, ⟨1, _⟩ => ⟨S1x448x1024, .f32⟩
  | .hbm, ⟨2, _⟩ => ⟨S1x448x1024, .f32⟩
  | .hbm, ⟨3, _⟩ => ⟨S4x448x1024, .bf16⟩
  | .hbm, ⟨4, _⟩ => ⟨S1x448x1024, .f32⟩
  | .hbm, ⟨5, _⟩ => ⟨S1x448x1024, .f32⟩
  | .hbm, ⟨6, _⟩ => ⟨S1x448x1024, .f32⟩
  | .hbm, ⟨7, _⟩ => ⟨S1x448x1024, .f32⟩
  | .local _ .vmem, ⟨0, _⟩ => ⟨S1x112x1024, .f32⟩
  | .local _ .vmem, ⟨1, _⟩ => ⟨S1x112x1024, .f32⟩
  | .local _ .vmem, ⟨2, _⟩ => ⟨S1x112x1024, .f32⟩
  | .local _ .vmem, ⟨3, _⟩ => ⟨S1x112x1024, .f32⟩
  | .local _ .vmem, ⟨4, _⟩ => ⟨S1x112x1024, .f32⟩
  | .local _ .vmem, ⟨5, _⟩ => ⟨S1x112x1024, .f32⟩
  | .local _ .vmem, ⟨6, _⟩ => ⟨S4x112x1024, .bf16⟩
  | .local _ .vmem, ⟨7, _⟩ => ⟨S4x112x1024, .bf16⟩
  | .local _ .vmem, ⟨8, _⟩ => ⟨S1x112x1024, .f32⟩
  | .local _ .vmem, ⟨9, _⟩ => ⟨S1x112x1024, .f32⟩
  | .local _ .vmem, ⟨10, _⟩ => ⟨S1x112x1024, .f32⟩
  | .local _ .vmem, ⟨11, _⟩ => ⟨S1x112x1024, .f32⟩
  | .local _ .vmem, ⟨12, _⟩ => ⟨S1x112x1024, .f32⟩
  | .local _ .vmem, ⟨13, _⟩ => ⟨S1x112x1024, .f32⟩
  | .local _ .vmem, ⟨14, _⟩ => ⟨S1x112x1024, .f32⟩
  | .local _ .vmem, ⟨15, _⟩ => ⟨S1x112x1024, .f32⟩
  | _, _ => ⟨S1x448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x112x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1x448x1024 : Shape := ⟨3, ![1, 448, 1024]⟩
abbrev S4x448x1024 : Shape := ⟨3, ![4, 448, 1024]⟩
abbrev S_ : Shape := ⟨0, ![]⟩
abbrev S448x1024 : Shape := ⟨2, ![448, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x448x1024, .f32⟩
  | .hbm, ⟨1, _⟩ => ⟨S1x448x1024, .f32⟩
  | .hbm, ⟨2, _⟩ => ⟨S1x448x1024, .f32⟩
  | .hbm, ⟨3, _⟩ => ⟨S4x448x1024, .bf16⟩
  | .hbm, ⟨4, _⟩ => ⟨S4x448x1024, .f32⟩
  | .hbm, ⟨5, _⟩ => ⟨S_, .f32⟩
  | .hbm, ⟨6, _⟩ => ⟨S448x1024, .f32⟩
  | .hbm, ⟨7, _⟩ => ⟨S1x448x1024, .f32⟩
  | .hbm, ⟨8, _⟩ => ⟨S_, .f32⟩
  | .hbm, ⟨9, _⟩ => ⟨S1x448x1024, .f32⟩
  | .hbm, ⟨10, _⟩ => ⟨S1x448x1024, .f32⟩
  | .hbm, ⟨11, _⟩ => ⟨S_, .f32⟩
  | .hbm, ⟨12, _⟩ => ⟨S1x448x1024, .f32⟩
  | .hbm, ⟨13, _⟩ => ⟨S1x448x1024, .f32⟩
  | .hbm, ⟨14, _⟩ => ⟨S1x448x1024, .f32⟩
  | .hbm, ⟨15, _⟩ => ⟨S_, .f32⟩
  | .hbm, ⟨16, _⟩ => ⟨S1x448x1024, .f32⟩
  | .hbm, ⟨17, _⟩ => ⟨S1x448x1024, .f32⟩
  | .hbm, ⟨18, _⟩ => ⟨S1x448x1024, .f32⟩
  | .hbm, ⟨19, _⟩ => ⟨S_, .f32⟩
  | .hbm, ⟨20, _⟩ => ⟨S1x448x1024, .f32⟩
  | .hbm, ⟨21, _⟩ => ⟨S1x448x1024, .f32⟩
  | .hbm, ⟨22, _⟩ => ⟨S1x448x1024, .f32⟩
  | .hbm, ⟨23, _⟩ => ⟨S_, .f32⟩
  | .hbm, ⟨24, _⟩ => ⟨S1x448x1024, .f32⟩
  | .hbm, ⟨25, _⟩ => ⟨S1x448x1024, .f32⟩
  | .hbm, ⟨26, _⟩ => ⟨S_, .f32⟩
  | .hbm, ⟨27, _⟩ => ⟨S1x448x1024, .f32⟩
  | .hbm, ⟨28, _⟩ => ⟨S1x448x1024, .f32⟩
  | .hbm, ⟨29, _⟩ => ⟨S1x448x1024, .f32⟩
  | .hbm, ⟨30, _⟩ => ⟨S_, .f32⟩
  | .hbm, ⟨31, _⟩ => ⟨S1x448x1024, .f32⟩
  | .hbm, ⟨32, _⟩ => ⟨S1x448x1024, .f32⟩
  | .hbm, ⟨33, _⟩ => ⟨S1x448x1024, .f32⟩
  | .hbm, ⟨34, _⟩ => ⟨S_, .f32⟩
  | .hbm, ⟨35, _⟩ => ⟨S1x448x1024, .f32⟩
  | .hbm, ⟨36, _⟩ => ⟨S1x448x1024, .f32⟩
  | .hbm, ⟨37, _⟩ => ⟨S1x448x1024, .f32⟩
  | .hbm, ⟨38, _⟩ => ⟨S_, .f32⟩
  | .hbm, ⟨39, _⟩ => ⟨S1x448x1024, .f32⟩
  | .hbm, ⟨40, _⟩ => ⟨S1x448x1024, .f32⟩
  | _, _ => ⟨S1x448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S1x128x1024 : Shape := ⟨3, ![1, 128, 1024]⟩
abbrev S4x128x1024 : Shape := ⟨3, ![4, 128, 1024]⟩
abbrev S1x32x1024 : Shape := ⟨3, ![1, 32, 1024]⟩
abbrev S4x32x1024 : Shape := ⟨3, ![4, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S4x32x1024, .bf16⟩
  | .local _ .vmem, ⟨7, _⟩ => ⟨S4x32x1024, .bf16⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S1x128x1024 : Shape := ⟨3, ![1, 128, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S88x128 : Shape := ⟨2, ![88, 128]⟩

abbrev nBuf : Space → Nat
  | .hbm => 8
  | .vmem => 8
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .hbm, ⟨7, _⟩ => ⟨S88x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | .local _ .vmem, ⟨7, _⟩ => ⟨S88x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S88x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S88x128 : Shape := ⟨2, ![88, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S88x128, .f32⟩
  | .hbm, ⟨7, _⟩ => ⟨S_, .f32⟩
  | .hbm, ⟨8, _⟩ => ⟨S88x128, .f32⟩
  | .hbm, ⟨9, _⟩ => ⟨S88x128, .f32⟩
  | .hbm, ⟨10, _⟩ => ⟨S88x128, .f32⟩
  | .hbm, ⟨11, _⟩ => ⟨S_, .f32⟩
  | .hbm, ⟨12, _⟩ => ⟨S88x128, .f32⟩
  | .hbm, ⟨13, _⟩ => ⟨S88x128, .f32⟩
  | .hbm, ⟨14, _⟩ => ⟨S88x128, .f32⟩
  | .hbm, ⟨15, _⟩ => ⟨S_, .f32⟩
  | .hbm, ⟨16, _⟩ => ⟨S88x128, .f32⟩
  | .hbm, ⟨17, _⟩ => ⟨S88x128, .f32⟩
  | .hbm, ⟨18, _⟩ => ⟨S88x128, .f32⟩
  | .hbm, ⟨19, _⟩ => ⟨S_, .f32⟩
  | .hbm, ⟨20, _⟩ => ⟨S88x128, .f32⟩
  | .hbm, ⟨21, _⟩ => ⟨S88x128, .f32⟩
  | .hbm, ⟨22, _⟩ => ⟨S_, .f32⟩
  | .hbm, ⟨23, _⟩ => ⟨S88x128, .f32⟩
  | .hbm, ⟨24, _⟩ => ⟨S88x128, .f32⟩
  | .hbm, ⟨25, _⟩ => ⟨S88x128, .f32⟩
  | .hbm, ⟨26, _⟩ => ⟨S_, .f32⟩
  | .hbm, ⟨27, _⟩ => ⟨S88x128, .f32⟩
  | .hbm, ⟨28, _⟩ => ⟨S88x128, .f32⟩
  | .hbm, ⟨29, _⟩ => ⟨S88x128, .f32⟩
  | .hbm, ⟨30, _⟩ => ⟨S_, .f32⟩
  | .hbm, ⟨31, _⟩ => ⟨S88x128, .f32⟩
  | .hbm, ⟨32, _⟩ => ⟨S88x128, .f32⟩
  | .hbm, ⟨33, _⟩ => ⟨S88x128, .f32⟩
  | .hbm, ⟨34, _⟩ => ⟨S_, .f32⟩
  | .hbm, ⟨35, _⟩ => ⟨S88x128, .f32⟩
  | .hbm, ⟨36, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x512 : Shape := ⟨2, ![2, 512]⟩
abbrev S2x1x512 : Shape := ⟨3, ![2, 1, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 3
  | .vmem => 3
  | .smem => 0
  | _ => 0

abbrev bufTy : (tb : Table) → Fin (tcTables nBuf tb) → BufTy
  | .hbm, ⟨0, _⟩ => ⟨S2x512, .f32⟩
  | .hbm, ⟨1, _⟩ => ⟨S2x1x512, .f32⟩
  | .hbm, ⟨2, _⟩ => ⟨S2x512, .f32⟩
  | .local _ .vmem, ⟨0, _⟩ => ⟨S2x512, .f32⟩
  | .local _ .vmem, ⟨1, _⟩ => ⟨S2x1x512, .f32⟩
  | .local _ .vmem, ⟨2, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference19Ideal.lean ====
abbrev S2x512 : Shape := ⟨2, ![2, 512]⟩
abbrev S2x1x512 : Shape := ⟨3, ![2, 1, 512]⟩
abbrev S_ : Shape := ⟨0, ![]⟩
abbrev S512 : Shape := ⟨1, ![512]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x1x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S2x512, .f32⟩
  | .hbm, ⟨6, _⟩ => ⟨S2x512, .i1⟩
  | .hbm, ⟨7, _⟩ => ⟨S2x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S2x512, .f32⟩
  | .hbm, ⟨29, _⟩ => ⟨S2x512, .f32⟩
  | .hbm, ⟨30, _⟩ => ⟨S2x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S2x512, .f32⟩
  | .hbm, ⟨35, _⟩ => ⟨S2x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S_, .f32⟩
  | .hbm, ⟨44, _⟩ => ⟨S2x512, .f32⟩
  | .hbm, ⟨45, _⟩ => ⟨S2x512, .f32⟩
  | .hbm, ⟨46, _⟩ => ⟨S2x512, .f32⟩
  | .hbm, ⟨47, _⟩ => ⟨S2x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S1x512, .f32⟩
  | .hbm, ⟨52, _⟩ => ⟨S2x512, .f32⟩
  | .hbm, ⟨53, _⟩ => ⟨S2x512, .f32⟩
  | .hbm, ⟨54, _⟩ => ⟨S_, .f32⟩
  | .hbm, ⟨55, _⟩ => ⟨S512, .f32⟩
  | .hbm, ⟨56, _⟩ => ⟨S2x512, .f32⟩
  | .hbm, ⟨57, _⟩ => ⟨S2x512, .f32⟩
  | .hbm, ⟨58, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel20.lean ====
abbrev S2x512 : Shape := ⟨2, ![2, 512]⟩
abbrev S1x512 : Shape := ⟨2, ![1, 512]⟩
abbrev S512 : Shape := ⟨1, ![512]⟩

abbrev nBuf : Space → Nat
  | .hbm => 2
  | .vmem => 2
  | .smem => 0
  | _ => 0

abbrev bufTy : (tb : Table) → Fin (tcTables nBuf tb) → BufTy
  | .hbm, ⟨0, _⟩ => ⟨S2x512, .f32⟩
  | .hbm, ⟨1, _⟩ => ⟨S1x512, .f32⟩
  | .local _ .vmem, ⟨0, _⟩ => ⟨S2x512, .f32⟩
  | .local _ .vmem, ⟨1, _⟩ => ⟨S1x512, .f32⟩
  | _, _ => ⟨S2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference20Ideal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 16
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S1x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Math.lean ====
module

public import Idealize.ShloMosaic.Lib.Pointwise
public import Idealize.ShloMosaic.Lib.IdealHost

@[expose] public section

set_option maxRecDepth 16384

noncomputable section

/-! The attention of one head of one batch entry, and its gradient, over the reals. -/

namespace Cert.Att

open Idealize.ShloMosaic

/-- The root mean square's epsilon, the word both programs name. -/
def eps : ℝ := 8796093 / 8796093022208

theorem eps_pos : 0 < eps := by unfold eps; norm_num

theorem bits_eps : Ideal.ofBits .f32 0x358637BD#32 = ((eps : ℝ) : EReal) := by
  unfold eps; simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_64th : Ideal.ofBits .f32 0x3C800000#32 = ((1 / 64 : ℝ) : EReal) := by
  simp [Ideal.ofBits, Ideal.ieee, -EReal.coe_mul]; norm_num
theorem bits_8th : Ideal.ofBits .f32 0x3E000000#32 = ((1 / 8 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_bot : Ideal.ofBits .f32 0xFF800000#32 = ⊥ := by
  simp [Ideal.ofBits, Ideal.ieee]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real {y : ℝ} (h : y ≠ 0) (x : ℝ) : Ideal.div (x : EReal) (y : EReal) = ((x / y : ℝ) : EReal) := by
  rw [Ideal.div_coe h, ← EReal.coe_mul]; congr 1; ring

theorem one_div_real {y : ℝ} (h : y ≠ 0) : Ideal.div 1 (y : EReal) = ((1 / y : ℝ) : EReal) := by
  rw [Ideal.div_coe h, one_mul]

theorem rsqrt_real {y : ℝ} (h : 0 < y) : Ideal.rsqrt (y : EReal) = (((Real.sqrt y)⁻¹ : ℝ) : EReal) := by
  rw [Ideal.rsqrt_coe, if_neg (not_lt.mpr h.le), if_neg h.ne']

/-- The greatest of finitely many scores, each a real or masked, some real: a real. -/
theorem fold_max_real {ι : Type*} (s : Finset ι) (f : ι → EReal) (hf : ∀ i ∈ s, f i ≠ ⊤) (i : ι) (hi : i ∈ s) (hb : f i ≠ ⊥) :
    ∃ m : ℝ, s.fold max ⊥ f = (m : EReal) := by
  classical
  have h1 : s.fold max ⊥ f ≠ ⊤ := by
    have : s.fold max ⊥ f < ⊤ := Finset.fold_max_lt (⊤ : EReal) |>.mpr ⟨bot_lt_top, fun x hx => lt_top_iff_ne_top.mpr (hf x hx)⟩
    exact this.ne
  have h2 : s.fold max ⊥ f ≠ ⊥ := by
    have : f i ≤ s.fold max ⊥ f := Finset.le_fold_max (f i) |>.mpr (Or.inr ⟨i, hi, le_rfl⟩)
    intro h; rw [h] at this; exact hb (le_bot_iff.mp this)
  exact ⟨(s.fold max ⊥ f).toReal, (EReal.coe_toReal h1 h2).symm⟩

/-- A score, or masked. -/
def msk (p : Prop) [Decidable p] (a : ℝ) : EReal := if p then (a : EReal) else ⊥

theorem msk_ne_top (p : Prop) [Decidable p] (a : ℝ) : msk p a ≠ ⊤ := by
  unfold msk; split <;> simp

/-- The exponential of a shifted score. -/
theorem exp_msk (p : Prop) [Decidable p] (a m : ℝ) :
    Ideal.exp (msk p a - (m : EReal)) = (((if p then Real.exp a else 0) * Real.exp (-m) : ℝ) : EReal) := by
  unfold msk
  split
  · rw [← EReal.coe_sub, Ideal.exp_coe, ← Real.exp_add, sub_eq_add_neg]
  · rw [EReal.bot_sub]; simp

section Spec

/-- The reciprocal root mean square of a head's row. -/
def rr (x : Fin 64 → ℝ) : ℝ := (Real.sqrt ((∑ d, x d * x d) / 64 + eps))⁻¹
/-- The normalised row. -/
def nrm (x g : Fin 64 → ℝ) (d : Fin 64) : ℝ := x d * rr x * g d

theorem ms_pos (x : Fin 64 → ℝ) : 0 < (∑ d, x d * x d) / 64 + eps :=
  add_pos_of_nonneg_of_pos (div_nonneg (Finset.sum_nonneg fun d _ => mul_self_nonneg _) (by norm_num)) eps_pos

theorem rr_pos (x : Fin 64 → ℝ) : 0 < rr x := inv_pos.mpr (Real.sqrt_pos.mpr (ms_pos x))

/-- `r / (mean square + eps) = r³`. -/
theorem rr_cube (x : Fin 64 → ℝ) : rr x / ((∑ d, x d * x d) / 64 + eps) = rr x ^ 3 := by
  have h := ms_pos x
  have hs := Real.sqrt_pos.mpr h
  have h2 : ((∑ d, x d * x d) / 64 + eps) = Real.sqrt ((∑ d, x d * x d) / 64 + eps) ^ 2 := (Real.sq_sqrt h.le).symm
  unfold rr
  generalize Real.sqrt ((∑ d, x d * x d) / 64 + eps) = u at *
  rw [h2]; field_simp

/-- The gradient of a normalised row. -/
def nb (x g y : Fin 64 → ℝ) (d : Fin 64) : ℝ :=
  rr x * (g d * y d) - x d * rr x ^ 3 / 64 * ∑ e, x e * (g e * y e)

/-- The keys a query sees: those of its own chunk and of the eight chunks before it. -/
def vis (t s : ℕ) : Prop := s / 64 ≤ t / 64 ∧ t / 64 - s / 64 ≤ 8
instance (t s : ℕ) : Decidable (vis t s) := by unfold vis; infer_instance

/-- One head: its rows of q, k, v and of the output's gradient, the two gains, and the bias of a query and a key. -/
structure Head where
  q : Fin 2048 → Fin 64 → ℝ
  k : Fin 2048 → Fin 64 → ℝ
  v : Fin 2048 → Fin 64 → ℝ
  c : Fin 2048 → Fin 64 → ℝ
  gq : Fin 64 → ℝ
  gk : Fin 64 → ℝ
  B : Fin 2048 → Fin 2048 → ℝ

variable (H : Head)

def Head.qn (t : Fin 2048) : Fin 64 → ℝ := nrm (H.q t) H.gq
def Head.kn (s : Fin 2048) : Fin 64 → ℝ := nrm (H.k s) H.gk
def Head.sc (t s : Fin 2048) : ℝ := (∑ d, H.qn t d * H.kn s d) * (1 / 8) + H.B t s
def Head.ee (t s : Fin 2048) : ℝ := if vis t s then Real.exp (H.sc t s) else 0
def Head.zz (t : Fin 2048) : ℝ := ∑ s, H.ee t s
def Head.pp (t s : Fin 2048) : ℝ := H.ee t s / H.zz t
def Head.oo (t : Fin 2048) (d : Fin 64) : ℝ := ∑ s, H.pp t s * H.v s d
def Head.dp (t s : Fin 2048) : ℝ := ∑ d, H.c t d * H.v s d
def Head.ds (t s : Fin 2048) : ℝ := H.pp t s * (H.dp t s - ∑ u, H.pp t u * H.dp t u)
def Head.dqn (t : Fin 2048) (d : Fin 64) : ℝ := (∑ s, H.ds t s * H.kn s d) * (1 / 8)
def Head.dkn (s : Fin 2048) (d : Fin 64) : ℝ := (∑ t, H.ds t s * H.qn t d) * (1 / 8)
/-- The gradients of q, k and v. -/
def Head.dq (t : Fin 2048) : Fin 64 → ℝ := nb (H.q t) H.gq (H.dqn t)
def Head.dk (s : Fin 2048) : Fin 64 → ℝ := nb (H.k s) H.gk (H.dkn s)
def Head.dv (s : Fin 2048) (d : Fin 64) : ℝ := ∑ t, H.pp t s * H.c t d

theorem vis_self (t : ℕ) : vis t t := ⟨le_rfl, by omega⟩

theorem Head.ee_nonneg (t s : Fin 2048) : 0 ≤ H.ee t s := by
  unfold Head.ee; split
  · exact (Real.exp_pos _).le
  · exact le_rfl

theorem Head.zz_pos (t : Fin 2048) : 0 < H.zz t := by
  unfold Head.zz
  refine lt_of_lt_of_le ?_ (Finset.single_le_sum (fun s _ => H.ee_nonneg t s) (Finset.mem_univ t))
  unfold Head.ee; rw [if_pos (vis_self _)]; exact Real.exp_pos _

/-- The row sums of `c * out` are those of `p * dp`. -/
theorem Head.sum_c_oo (t : Fin 2048) : ∑ d, H.c t d * H.oo t d = ∑ u, H.pp t u * H.dp t u := by
  unfold Head.oo Head.dp
  simp only [Finset.mul_sum]
  rw [Finset.sum_comm]
  exact Finset.sum_congr rfl fun u _ => Finset.sum_congr rfl fun d _ => by ring

end Spec

end Cert.Att

end
-- ==== Proof.Gather.lean ====
module

public import proofs.«01_k».proof.Proof.Math

@[expose] public section

set_option maxRecDepth 16384

noncomputable section

/-! The bias table's columns gathered at a matrix of clipped distances. -/

namespace Cert.Att

open Idealize.ShloMosaic

/-- A gather of the table's columns: at `(h, t, s)` the row `h` at the column that the index word names. -/
theorem gather_cols {α : Type} {A B : ℕ}
    (wf : GatherDims.WF ⟨2, ![8, 257]⟩ ⟨3, ![A, B, 1]⟩ ⟨3, ![8, A, B]⟩ [0] [1] [] [1] [] 2 ![8, 1])
    (x : (⟨2, ![8, 257]⟩ : Shape).Idx → α) (idx : IVec ⟨3, ![A, B, 1]⟩ 32) (h : Fin 8) (t : Fin A) (s : Fin B) :
    Host.gather (s := ⟨2, ![8, 257]⟩) (t := ⟨3, ![8, A, B]⟩)
      { offsetDims := [0], collapsedSliceDims := [1], operandBatchingDims := [], startIndicesBatchingDims := [],
        startIndexMap := [1], indexVectorDim := 2, sliceSizes := ![8, 1], wf := wf } x idx (ix3 h t s)
      = x (ix2 h ⟨min (idx (ix3 t s (0 : Fin 1))).toInt.toNat 256, by omega⟩) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    unfold GatherDims.start
    rw [dif_neg (show ¬ ((⟨0, by decide⟩ : Fin 2) ∈ [(1 : Fin 2)]) by decide)]
    simp only [Nat.zero_add]
    unfold GatherDims.offCoord
    rw [dif_pos ((GatherDims.mem_sKept _ _).mpr ⟨show ¬ ((0 : Fin 2) ∈ [(1 : Fin 2)]) by decide, List.not_mem_nil⟩)]
    rfl
  | ⟨1, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ [(1 : Fin 2)] from List.mem_singleton.mpr rfl)]
    have hsi : ∀ q, GatherDims.siIdx (s := ⟨2, ![8, 257]⟩) (si := ⟨3, ![A, B, 1]⟩) (t := ⟨3, ![8, A, B]⟩)
        { offsetDims := [0], collapsedSliceDims := [1], operandBatchingDims := [], startIndicesBatchingDims := [],
          startIndexMap := [1], indexVectorDim := 2, sliceSizes := ![8, 1], wf := wf } (ix3 h t s) q = ix3 t s (0 : Fin 1) := by
      intro q
      funext b; refine Fin.ext ?_
      match b with
      | ⟨0, _⟩ => rfl
      | ⟨1, _⟩ => rfl
      | ⟨2, _⟩ =>
        have hq : q.val < 1 := q.isLt
        show q.val = 0
        omega
    rw [hsi]
    rfl

/-- The table's column at a distance: clipped to 128 on either side, and moved to start at zero. -/
def relw (w : BitVec 32) : BitVec 32 :=
  Scalar.select (IntOp.cmpi .slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32)
def relIx (w : BitVec 32) : Fin 257 := ⟨min (relw w).toInt.toNat 256, by omega⟩

/-- The program's arguments, as reals. -/
structure Args where
  A : Fin 4096 → Fin 3584 → ℝ
  gq : Fin 64 → ℝ
  gk : Fin 64 → ℝ
  R : Fin 8 → Fin 257 → ℝ
  C : Fin 4096 → Fin 1024 → ℝ

/-- Row `t` of batch entry `b`. -/
def row (b : Fin 2) (t : Fin 2048) : Fin 4096 := ⟨b * 2048 + t, by omega⟩
/-- Lane `d` of head `h`, in the group of 512 columns from `o`. -/
def colP (o : ℕ) (ho : o + 512 ≤ 3584) (h : Fin 8) (d : Fin 64) : Fin 3584 := ⟨o + (h * 64 + d), by omega⟩
def colC (h : Fin 8) (d : Fin 64) : Fin 1024 := ⟨h * 64 + d, by omega⟩

/-- Head `h` of batch entry `b`. -/
def Args.head (a : Args) (b : Fin 2) (h : Fin 8) : Head where
  q t d := a.A (row b t) (colP 0 (by omega) h d)
  k t d := a.A (row b t) (colP 512 (by omega) h d)
  v t d := a.A (row b t) (colP 1024 (by omega) h d)
  c t d := a.C (row b t) (colC h d)
  gq := a.gq
  gk := a.gk
  B t s := a.R h (relIx (IntOp.subi (BitVec.ofNat 32 t) (BitVec.ofNat 32 s)))

end Cert.Att

end
-- ==== Proof.Pre.lean ====
/- The precondition read as the reals that the arguments hold. -/
module

public import proofs.«01_k».proof.Proof.Gen.Pre_finite
public import proofs.«01_k».proof.Proof.Gather
public import Idealize.ShloMosaic.Lib.ReduceAll

@[expose] public section

namespace Cert.Att

open Idealize.ShloMosaic Idealize.SL.Sem

/-- The bound's word at an element says that the element is a real. -/
theorem real_of_word {x : EReal} (h : FloatOps.cmpf (F := Ideal) (φ := .f32) .olt (FloatOps.hostAbsf x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hl : max x (-x) < ⊤ := by
    by_contra hn
    simp [Ideal.cmp, hn] at h'
  refine (EReal.coe_toReal (ne_of_lt (lt_of_le_of_lt (le_max_left _ _) hl)) fun hb => ?_).symm
  rw [hb] at hl
  simp at hl

instance : Subsingleton (Cert.Pre_finite.S_).Idx := ⟨fun a b => funext fun k => k.elim0⟩

/-- The precondition: every element of every argument is a real. -/
theorem reals {x0 : FVec Ideal ⟨2, ![4096, 3584]⟩ .f32} {x1 x2 : FVec Ideal ⟨2, ![1, 64]⟩ .f32} {x3 : FVec Ideal ⟨2, ![8, 257]⟩ .f32} {x4 : FVec Ideal ⟨2, ![4096, 1024]⟩ .f32}
    (h : Cert.Pre_finite.fn (F := Ideal) x0 x1 x2 x3 x4 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) ∧ (∀ i, (x4 i : EReal) = ((x4 i : EReal).toReal : EReal)) := by
  have e := congrFun h (fun k => k.elim0)
  unfold Cert.Pre_finite.fn Cert.Pre_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_word (Host.reduce_andi_all _ _ _ _ _ e0 i), fun i => real_of_word (Host.reduce_andi_all _ _ _ _ _ e1 i),
    fun i => real_of_word (Host.reduce_andi_all _ _ _ _ _ e2 i), fun i => real_of_word (Host.reduce_andi_all _ _ _ _ _ e3 i),
    fun i => real_of_word (Host.reduce_andi_all _ _ _ _ _ e4 i)⟩

/-- The reals that the arguments hold. -/
def argsOf (x0 : FVec Ideal ⟨2, ![4096, 3584]⟩ .f32) (x1 x2 : FVec Ideal ⟨2, ![1, 64]⟩ .f32) (x3 : FVec Ideal ⟨2, ![8, 257]⟩ .f32) (x4 : FVec Ideal ⟨2, ![4096, 1024]⟩ .f32) : Cert.Att.Args where
  A i j := EReal.toReal (x0 (ix2 i j))
  gq j := EReal.toReal (x1 (ix2 0 j))
  gk j := EReal.toReal (x2 (ix2 0 j))
  R i j := EReal.toReal (x3 (ix2 i j))
  C i j := EReal.toReal (x4 (ix2 i j))

end Cert.Att
-- ==== Proof.Chunk.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal Cert.KernelIdeal.Gen

variable {F : FTy → Type} [FloatOps F]

local notation "𝕄" => MT nD τ sig Unit (Elt F) ℕ (UR sig nD τ) ℕ

/-- What the loop over the query chunks reads: the normalised queries and the padded band of keys and values (the
    scratch), the saved output, its cotangent, and the bias table of the two heads. -/
structure Ins (F : FTy → Type) where
  Q : Vec F S2048x128 .bf16
  KB : Vec F S2624x128 .bf16
  VB : Vec F S2624x128 .bf16
  O : Vec F S2048x128 .f32
  DO : Vec F S2048x128 .f32
  BI : Vec F S640x128 .f32

/-- Chunk `n` begins at row `64 n`, of the queries and of the padded band alike. -/
def off (n : ℕ) : Fin 2 → ℕ := ![64 * (n % 32), 0]

theorem off_q (n : ℕ) : ∀ a, off n a + S64x128.size a ≤ S2048x128.size a := by
  have := Nat.mod_lt n (show 32 > 0 by decide)
  intro a; match a with
  | ⟨0, _⟩ => show 64 * (n % 32) + 64 ≤ 2048; omega
  | ⟨1, _⟩ => show 0 + 128 ≤ 128; omega

theorem off_b (n : ℕ) : ∀ a, off n a + S640x128.size a ≤ S2624x128.size a := by
  have := Nat.mod_lt n (show 32 > 0 by decide)
  intro a; match a with
  | ⟨0, _⟩ => show 64 * (n % 32) + 640 ≤ 2624; omega
  | ⟨1, _⟩ => show 0 + 128 ≤ 128; omega

/-- A chunk's rows of a (2048,128) array. -/
def winQ {e : EltTy} (x : Vec F S2048x128 e) (n : ℕ) : Vec F S64x128 e := window x (off n) S64x128.size (off_q n)
/-- A chunk's band of a (2624,128) array. -/
def winB {e : EltTy} (x : Vec F S2624x128 e) (n : ℕ) : Vec F S640x128 e := window x (off n) S640x128.size (off_b n)

variable (I : Ins F)

/-- The two heads' queries, stacked. -/
def cQst (n : ℕ) : FVec F S128x128 .bf16 := k0_pay3 (winQ I.Q n)
/-- The masked scores of a chunk, keys by (head, query). -/
def cSt (n : ℕ) : FVec F S640x128 .f32 := k0_pay24 (BitVec.ofNat 32 n) (k0_pay4 (winQ I.Q n) (winB I.KB n) I.BI)
/-- Their maxima over the keys. -/
def cMx (n : ℕ) : FVec F S1x128 .f32 := k0_pay25 (BitVec.ofNat 32 n) (k0_pay4 (winQ I.Q n) (winB I.KB n) I.BI)
/-- The row sums of cotangent times output. -/
def cDrow (n : ℕ) : FVec F S1x128 .f32 := k0_pay26 (k0_pay5 (winQ I.DO n)) (winQ I.O n)
/-- The probabilities. -/
def cPt (n : ℕ) : FVec F S640x128 .f32 := k0_pay38 (cSt I n) (cMx I n)
/-- The probabilities' cotangent. -/
def cDpt (n : ℕ) : FVec F S640x128 .f32 := k0_pay7 (winB I.VB n) (winQ I.DO n)
/-- The contribution of a chunk to the band of the keys' cotangent, added to what is there. -/
def cDk (n : ℕ) (w : Vec F S640x128 .f32) : Vec F S640x128 .f32 := k0_pay61 (cQst I n) (k0_pay44 (cDpt I n) (cDrow I n) (cPt I n)) w
/-- The contribution of a chunk to the band of the values' cotangent, added to what is there. -/
def cDv (n : ℕ) (w : Vec F S640x128 .f32) : Vec F S640x128 .f32 := k0_pay66 (k0_pay6 (winQ I.DO n)) (cPt I n) w
/-- The contribution of a chunk to the bias table's cotangent, added to what is there. -/
def cDb (n : ℕ) (w : Vec F S640x128 .f32) : Vec F S640x128 .f32 := k0_pay51 (cDpt I n) (cDrow I n) (cPt I n) w
/-- The cotangent of a chunk's normalised queries. -/
def cDq (n : ℕ) : Vec F S64x128 .f32 := k0_pay52 (winB I.KB n) (cDpt I n) (cDrow I n) (cPt I n)

/-- The four accumulators after the first `n` chunks. -/
def aDq (x : Vec F S2048x128 .f32) : ℕ → Vec F S2048x128 .f32
  | 0 => x
  | n + 1 => put (aDq x n) (off n) S64x128.size (cDq I n)
def aDk (x : Vec F S2624x128 .f32) : ℕ → Vec F S2624x128 .f32
  | 0 => x
  | n + 1 => put (aDk x n) (off n) S640x128.size (cDk I n (winB (aDk x n) n))
def aDv (x : Vec F S2624x128 .f32) : ℕ → Vec F S2624x128 .f32
  | 0 => x
  | n + 1 => put (aDv x n) (off n) S640x128.size (cDv I n (winB (aDv x n) n))
def aDb (x : Vec F S640x128 .f32) : ℕ → Vec F S640x128 .f32
  | 0 => x
  | n + 1 => cDb I n (aDb x n)

theorem off1_0 (k : Fin k0_t1_loop.trips) : k0_off1 k 0#32 = off (4 * k.val + 0) := by
  have hk : k.val < 8 := Nat.lt_of_lt_of_le k.isLt k0_t1_abs.2.1
  refine (k0_off1_eq k ⟨0, by decide⟩).trans ?_
  show ![256 * k.val + 64 * 0, 0] = ![64 * ((4 * k.val + 0) % 32), 0]
  rw [show 256 * k.val + 64 * 0 = 64 * ((4 * k.val + 0) % 32) by omega]
theorem off2_0 (k : Fin k0_t1_loop.trips) : k0_off2 k 0#32 = off (4 * k.val + 0) := by
  have hk : k.val < 8 := Nat.lt_of_lt_of_le k.isLt k0_t1_abs.2.1
  refine (k0_off2_eq k ⟨0, by decide⟩).trans ?_
  show ![256 * k.val + 64 * 0, 0] = ![64 * ((4 * k.val + 0) % 32), 0]
  rw [show 256 * k.val + 64 * 0 = 64 * ((4 * k.val + 0) % 32) by omega]
theorem word_0 : ∀ k : Fin k0_t1_loop.trips, Scalar.addi (Scalar.muli (Scf.iv 0#32 1#32 k) 4#32) 0#32 = BitVec.ofNat 32 (4 * k.val + 0) := by
  decide +kernel
theorem off1_1 (k : Fin k0_t1_loop.trips) : k0_off1 k 1#32 = off (4 * k.val + 1) := by
  have hk : k.val < 8 := Nat.lt_of_lt_of_le k.isLt k0_t1_abs.2.1
  refine (k0_off1_eq k ⟨1, by decide⟩).trans ?_
  show ![256 * k.val + 64 * 1, 0] = ![64 * ((4 * k.val + 1) % 32), 0]
  rw [show 256 * k.val + 64 * 1 = 64 * ((4 * k.val + 1) % 32) by omega]
theorem off2_1 (k : Fin k0_t1_loop.trips) : k0_off2 k 1#32 = off (4 * k.val + 1) := by
  have hk : k.val < 8 := Nat.lt_of_lt_of_le k.isLt k0_t1_abs.2.1
  refine (k0_off2_eq k ⟨1, by decide⟩).trans ?_
  show ![256 * k.val + 64 * 1, 0] = ![64 * ((4 * k.val + 1) % 32), 0]
  rw [show 256 * k.val + 64 * 1 = 64 * ((4 * k.val + 1) % 32) by omega]
theorem word_1 : ∀ k : Fin k0_t1_loop.trips, Scalar.addi (Scalar.muli (Scf.iv 0#32 1#32 k) 4#32) 1#32 = BitVec.ofNat 32 (4 * k.val + 1) := by
  decide +kernel
theorem off1_2 (k : Fin k0_t1_loop.trips) : k0_off1 k 2#32 = off (4 * k.val + 2) := by
  have hk : k.val < 8 := Nat.lt_of_lt_of_le k.isLt k0_t1_abs.2.1
  refine (k0_off1_eq k ⟨2, by decide⟩).trans ?_
  show ![256 * k.val + 64 * 2, 0] = ![64 * ((4 * k.val + 2) % 32), 0]
  rw [show 256 * k.val + 64 * 2 = 64 * ((4 * k.val + 2) % 32) by omega]
theorem off2_2 (k : Fin k0_t1_loop.trips) : k0_off2 k 2#32 = off (4 * k.val + 2) := by
  have hk : k.val < 8 := Nat.lt_of_lt_of_le k.isLt k0_t1_abs.2.1
  refine (k0_off2_eq k ⟨2, by decide⟩).trans ?_
  show ![256 * k.val + 64 * 2, 0] = ![64 * ((4 * k.val + 2) % 32), 0]
  rw [show 256 * k.val + 64 * 2 = 64 * ((4 * k.val + 2) % 32) by omega]
theorem word_2 : ∀ k : Fin k0_t1_loop.trips, Scalar.addi (Scalar.muli (Scf.iv 0#32 1#32 k) 4#32) 2#32 = BitVec.ofNat 32 (4 * k.val + 2) := by
  decide +kernel
theorem off1_3 (k : Fin k0_t1_loop.trips) : k0_off1 k 3#32 = off (4 * k.val + 3) := by
  have hk : k.val < 8 := Nat.lt_of_lt_of_le k.isLt k0_t1_abs.2.1
  refine (k0_off1_eq k ⟨3, by decide⟩).trans ?_
  show ![256 * k.val + 64 * 3, 0] = ![64 * ((4 * k.val + 3) % 32), 0]
  rw [show 256 * k.val + 64 * 3 = 64 * ((4 * k.val + 3) % 32) by omega]
theorem off2_3 (k : Fin k0_t1_loop.trips) : k0_off2 k 3#32 = off (4 * k.val + 3) := by
  have hk : k.val < 8 := Nat.lt_of_lt_of_le k.isLt k0_t1_abs.2.1
  refine (k0_off2_eq k ⟨3, by decide⟩).trans ?_
  show ![256 * k.val + 64 * 3, 0] = ![64 * ((4 * k.val + 3) % 32), 0]
  rw [show 256 * k.val + 64 * 3 = 64 * ((4 * k.val + 3) % 32) by omega]
theorem word_3 : ∀ k : Fin k0_t1_loop.trips, Scalar.addi (Scalar.muli (Scf.iv 0#32 1#32 k) 4#32) 3#32 = BitVec.ofNat 32 (4 * k.val + 3) := by
  decide +kernel

end Cert.KernelIdeal.Hand

end
-- ==== Proof.Loop.lean ====
module

public import proofs.«01_k».proof.Proof.Chunk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal Cert.KernelIdeal.Gen

variable {F : FTy → Type} [FloatOps F]

local notation "𝕄" => MT nD τ sig Unit (Elt F) ℕ (UR sig nD τ) ℕ

/-! The other three chunks of a trip compute what the first does. -/
theorem e8 (q : Vec F S64x128 .bf16) : k0_pay8 q = k0_pay3 q := rfl
theorem e9 (q : Vec F S64x128 .bf16) (kb : Vec F S640x128 .bf16) (bi : Vec F S640x128 .f32) : k0_pay9 q kb bi = k0_pay4 q kb bi := rfl
theorem e10 (d : Vec F S64x128 .f32) : k0_pay10 d = k0_pay5 d := rfl
theorem e11 (d : Vec F S64x128 .f32) : k0_pay11 d = k0_pay6 d := rfl
theorem e12 (kb : Vec F S640x128 .bf16) (d : Vec F S64x128 .f32) : k0_pay12 kb d = k0_pay7 kb d := rfl
theorem e27 (c : BitVec 32) (s : FVec F S640x128 .f32) : k0_pay27 s (iota Kind.tc S640x128 32 [0] iota_S640x128_d0_w32) (Scalar.subi 9#32 c) 64#32 = k0_pay24 c s := rfl
theorem e28 (c : BitVec 32) (s : FVec F S640x128 .f32) : k0_pay28 s (iota Kind.tc S640x128 32 [0] iota_S640x128_d0_w32) (Scalar.subi 9#32 c) 64#32 = k0_pay25 c s := rfl
theorem e29 (d : FVec F S128x128 .f32) (o : Vec F S64x128 .f32) : k0_pay29 d o = k0_pay26 d o := rfl
theorem e39 (s : FVec F S640x128 .f32) (m : FVec F S1x128 .f32) : k0_pay39 s m = k0_pay38 s m := rfl
theorem e46 (x : FVec F S640x128 .f32) (r : FVec F S1x128 .f32) (p : FVec F S640x128 .f32) : k0_pay46 x r p = k0_pay44 x r p := rfl
theorem e53 (x : FVec F S640x128 .f32) (r : FVec F S1x128 .f32) (p : FVec F S640x128 .f32) (w : Vec F S640x128 .f32) : k0_pay53 x r p w = k0_pay51 x r p w := rfl
theorem e55 (kb : Vec F S640x128 .bf16) (x : FVec F S640x128 .f32) (r : FVec F S1x128 .f32) (p : FVec F S640x128 .f32) : k0_pay55 kb (k0_pay54 x r p) (constant S128x128 .f32 0x00000000#32) = k0_pay52 kb x r p := rfl
theorem e62 (a : FVec F S128x128 .bf16) (b : FVec F S640x128 .bf16) (w : Vec F S640x128 .f32) : k0_pay62 a b w = k0_pay61 a b w := rfl
theorem e67 (a : FVec F S128x128 .bf16) (s : FVec F S640x128 .f32) (w : Vec F S640x128 .f32) : k0_pay67 a s w = k0_pay66 a s w := rfl
theorem e13 (q : Vec F S64x128 .bf16) : k0_pay13 q = k0_pay3 q := rfl
theorem e14 (q : Vec F S64x128 .bf16) (kb : Vec F S640x128 .bf16) (bi : Vec F S640x128 .f32) : k0_pay14 (k0_pay3 q) kb bi = k0_pay4 q kb bi := rfl
theorem e15 (d : Vec F S64x128 .f32) : k0_pay15 d = k0_pay5 d := rfl
theorem e16 (d : Vec F S64x128 .f32) : k0_pay16 d = k0_pay6 d := rfl
theorem e17 (kb : Vec F S640x128 .bf16) (d : Vec F S64x128 .f32) : k0_pay17 kb d = k0_pay7 kb d := rfl
theorem e30 (c : BitVec 32) (s : FVec F S640x128 .f32) : k0_pay30 c s = k0_pay24 c s := rfl
theorem e31 (c : BitVec 32) (s : FVec F S640x128 .f32) : k0_pay31 c s = k0_pay25 c s := rfl
theorem e32 (d : FVec F S128x128 .f32) (o : Vec F S64x128 .f32) : k0_pay32 d o = k0_pay26 d o := rfl
theorem e40 (s : FVec F S640x128 .f32) (m : FVec F S1x128 .f32) : k0_pay40 s m = k0_pay38 s m := rfl
theorem e56 (x : FVec F S640x128 .f32) (r : FVec F S1x128 .f32) (p : FVec F S640x128 .f32) (w : Vec F S640x128 .f32) : k0_pay56 (k0_pay47 x r p) w = k0_pay51 x r p w := rfl
theorem e57 (kb : Vec F S640x128 .bf16) (x : FVec F S640x128 .f32) (r : FVec F S1x128 .f32) (p : FVec F S640x128 .f32) : k0_pay57 kb (k0_pay47 x r p) = k0_pay52 kb x r p := rfl
theorem e48 (x : FVec F S640x128 .f32) (r : FVec F S1x128 .f32) (p : FVec F S640x128 .f32) : k0_pay48 x r p = k0_pay44 x r p := rfl
theorem e63 (a : FVec F S128x128 .bf16) (b : FVec F S640x128 .bf16) (w : Vec F S640x128 .f32) : k0_pay63 a b w = k0_pay61 a b w := rfl
theorem e68 (a : FVec F S128x128 .bf16) (s : FVec F S640x128 .f32) (w : Vec F S640x128 .f32) : k0_pay68 a s w = k0_pay66 a s w := rfl
theorem e18 (q : Vec F S64x128 .bf16) : k0_pay18 q = k0_pay3 q := rfl
theorem e19 (q : Vec F S64x128 .bf16) (kb : Vec F S640x128 .bf16) (bi : Vec F S640x128 .f32) : k0_pay19 q kb bi = k0_pay4 q kb bi := rfl
theorem e21 (d : Vec F S64x128 .f32) : k0_pay21 d (iota Kind.tc S64x128 32 [1] iota_S64x128_d1_w32) k0_pay20 = k0_pay5 d := rfl
theorem e22 (d : Vec F S64x128 .f32) : k0_pay22 d (iota Kind.tc S64x128 32 [1] iota_S64x128_d1_w32) k0_pay20 = k0_pay6 d := rfl
theorem e23 (kb : Vec F S640x128 .bf16) (d : Vec F S64x128 .f32) : k0_pay23 kb d (iota Kind.tc S64x128 32 [1] iota_S64x128_d1_w32) k0_pay20 = k0_pay7 kb d := rfl
theorem e33 (c : BitVec 32) (s : FVec F S640x128 .f32) : k0_pay33 c s = k0_pay24 c s := rfl
theorem e34 (c : BitVec 32) (s : FVec F S640x128 .f32) : k0_pay34 c s = k0_pay25 c s := rfl
theorem e36 (d : FVec F S128x128 .f32) (o : Vec F S64x128 .f32) : k0_pay36 (k0_pay35 d o) (FloatOps.ofBits FTy.bf16 16256#16) = k0_pay26 d o := rfl
theorem e42 (s : FVec F S640x128 .f32) (m : FVec F S1x128 .f32) : k0_pay42 (k0_pay37 s m) (k0_pay41 s m) = k0_pay38 s m := rfl
theorem e49 (x : FVec F S640x128 .f32) (r : FVec F S1x128 .f32) (s : FVec F S640x128 .f32) (m : FVec F S1x128 .f32) : k0_pay49 x r (k0_pay37 s m) (k0_pay41 s m) = k0_pay43 x r (k0_pay38 s m) := rfl
theorem e50 (x : FVec F S640x128 .f32) (r : FVec F S1x128 .f32) (s : FVec F S640x128 .f32) (m : FVec F S1x128 .f32) : k0_pay50 x r (k0_pay37 s m) (k0_pay41 s m) = k0_pay44 x r (k0_pay38 s m) := rfl
theorem e58 (x : FVec F S640x128 .f32) (r : FVec F S1x128 .f32) (p : FVec F S640x128 .f32) (w : Vec F S640x128 .f32) : k0_pay58 (k0_pay43 x r p) w = k0_pay51 x r p w := rfl
theorem e60 (kb : Vec F S640x128 .bf16) (x : FVec F S640x128 .f32) (r : FVec F S1x128 .f32) (p : FVec F S640x128 .f32) : k0_pay60 kb (k0_pay59 (k0_pay43 x r p)) (constant S128x128 .f32 0x00000000#32) = k0_pay52 kb x r p := rfl
theorem e65 (a : FVec F S128x128 .bf16) (b : FVec F S640x128 .bf16) (w : Vec F S640x128 .f32) : k0_pay65 (k0_pay64 a b w) = k0_pay61 a b w := rfl
theorem e85 (a : FVec F S128x128 .bf16) (s : FVec F S640x128 .f32) (w : Vec F S640x128 .f32) : k0_pay85 w (k0_pay69 a s) = k0_pay66 a s w := rfl

section Reads
variable {κ : Kind} {sp : Space} {e : EltTy} (k : Fin k0_t1_loop.trips)

theorem ldq_0 (v : View sig κ sp S2048x128 e) (f) (h) :
    v.readAt (Elt F) (Rect.unit (s := S2048x128) (k0_off1 k 0#32) ![64, 128] h).toLoadRect f = winQ (v.read (Elt F) f) (4 * k.val + 0) :=
  View.readAt_unit v f h (off1_0 k) (off_q _)
theorem lda_0 (v : View sig κ sp S2624x128 e) (f) (h) :
    v.readAt (Elt F) (Rect.unit (s := S2624x128) (k0_off2 k 0#32) ![640, 128] h).toLoadRect f = winB (v.read (Elt F) f) (4 * k.val + 0) :=
  View.readAt_unit v f h (off2_0 k) (off_b _)
theorem wrq_0 (v : View sig κ sp S2048x128 e) (f) (h) (w) (L) :
    v.read (Elt F) (v.writes (Elt F) f (⟨Rect.unit (s := S2048x128) (k0_off1 k 0#32) ![64, 128] h, w⟩ :: L))
      = put (v.read (Elt F) (v.writes (Elt F) f L)) (off (4 * k.val + 0)) S64x128.size w :=
  View.read_writes_cons_put v f h w L (off1_0 k)
theorem wrb_0 (v : View sig κ sp S2624x128 e) (f) (h) (w) (L) :
    v.read (Elt F) (v.writes (Elt F) f (⟨Rect.unit (s := S2624x128) (k0_off2 k 0#32) ![640, 128] h, w⟩ :: L))
      = put (v.read (Elt F) (v.writes (Elt F) f L)) (off (4 * k.val + 0)) S640x128.size w :=
  View.read_writes_cons_put v f h w L (off2_0 k)

theorem ldq_1 (v : View sig κ sp S2048x128 e) (f) (h) :
    v.readAt (Elt F) (Rect.unit (s := S2048x128) (k0_off1 k 1#32) ![64, 128] h).toLoadRect f = winQ (v.read (Elt F) f) (4 * k.val + 1) :=
  View.readAt_unit v f h (off1_1 k) (off_q _)
theorem lda_1 (v : View sig κ sp S2624x128 e) (f) (h) :
    v.readAt (Elt F) (Rect.unit (s := S2624x128) (k0_off2 k 1#32) ![640, 128] h).toLoadRect f = winB (v.read (Elt F) f) (4 * k.val + 1) :=
  View.readAt_unit v f h (off2_1 k) (off_b _)
theorem wrq_1 (v : View sig κ sp S2048x128 e) (f) (h) (w) (L) :
    v.read (Elt F) (v.writes (Elt F) f (⟨Rect.unit (s := S2048x128) (k0_off1 k 1#32) ![64, 128] h, w⟩ :: L))
      = put (v.read (Elt F) (v.writes (Elt F) f L)) (off (4 * k.val + 1)) S64x128.size w :=
  View.read_writes_cons_put v f h w L (off1_1 k)
theorem wrb_1 (v : View sig κ sp S2624x128 e) (f) (h) (w) (L) :
    v.read (Elt F) (v.writes (Elt F) f (⟨Rect.unit (s := S2624x128) (k0_off2 k 1#32) ![640, 128] h, w⟩ :: L))
      = put (v.read (Elt F) (v.writes (Elt F) f L)) (off (4 * k.val + 1)) S640x128.size w :=
  View.read_writes_cons_put v f h w L (off2_1 k)

theorem ldq_2 (v : View sig κ sp S2048x128 e) (f) (h) :
    v.readAt (Elt F) (Rect.unit (s := S2048x128) (k0_off1 k 2#32) ![64, 128] h).toLoadRect f = winQ (v.read (Elt F) f) (4 * k.val + 2) :=
  View.readAt_unit v f h (off1_2 k) (off_q _)
theorem lda_2 (v : View sig κ sp S2624x128 e) (f) (h) :
    v.readAt (Elt F) (Rect.unit (s := S2624x128) (k0_off2 k 2#32) ![640, 128] h).toLoadRect f = winB (v.read (Elt F) f) (4 * k.val + 2) :=
  View.readAt_unit v f h (off2_2 k) (off_b _)
theorem wrq_2 (v : View sig κ sp S2048x128 e) (f) (h) (w) (L) :
    v.read (Elt F) (v.writes (Elt F) f (⟨Rect.unit (s := S2048x128) (k0_off1 k 2#32) ![64, 128] h, w⟩ :: L))
      = put (v.read (Elt F) (v.writes (Elt F) f L)) (off (4 * k.val + 2)) S64x128.size w :=
  View.read_writes_cons_put v f h w L (off1_2 k)
theorem wrb_2 (v : View sig κ sp S2624x128 e) (f) (h) (w) (L) :
    v.read (Elt F) (v.writes (Elt F) f (⟨Rect.unit (s := S2624x128) (k0_off2 k 2#32) ![640, 128] h, w⟩ :: L))
      = put (v.read (Elt F) (v.writes (Elt F) f L)) (off (4 * k.val + 2)) S640x128.size w :=
  View.read_writes_cons_put v f h w L (off2_2 k)

theorem ldq_3 (v : View sig κ sp S2048x128 e) (f) (h) :
    v.readAt (Elt F) (Rect.unit (s := S2048x128) (k0_off1 k 3#32) ![64, 128] h).toLoadRect f = winQ (v.read (Elt F) f) (4 * k.val + 3) :=
  View.readAt_unit v f h (off1_3 k) (off_q _)
theorem lda_3 (v : View sig κ sp S2624x128 e) (f) (h) :
    v.readAt (Elt F) (Rect.unit (s := S2624x128) (k0_off2 k 3#32) ![640, 128] h).toLoadRect f = winB (v.read (Elt F) f) (4 * k.val + 3) :=
  View.readAt_unit v f h (off2_3 k) (off_b _)
theorem wrq_3 (v : View sig κ sp S2048x128 e) (f) (h) (w) (L) :
    v.read (Elt F) (v.writes (Elt F) f (⟨Rect.unit (s := S2048x128) (k0_off1 k 3#32) ![64, 128] h, w⟩ :: L))
      = put (v.read (Elt F) (v.writes (Elt F) f L)) (off (4 * k.val + 3)) S64x128.size w :=
  View.read_writes_cons_put v f h w L (off1_3 k)
theorem wrb_3 (v : View sig κ sp S2624x128 e) (f) (h) (w) (L) :
    v.read (Elt F) (v.writes (Elt F) f (⟨Rect.unit (s := S2624x128) (k0_off2 k 3#32) ![640, 128] h, w⟩ :: L))
      = put (v.read (Elt F) (v.writes (Elt F) f L)) (off (4 * k.val + 3)) S640x128.size w :=
  View.read_writes_cons_put v f h w L (off2_3 k)

theorem ldf (v : View sig κ sp S640x128 e) (f) (h) :
    v.readAt (Elt F) (Rect.unit (s := S640x128) ![0, 0] ![640, 128] h).toLoadRect f = v.read (Elt F) f := View.readAt_full v f h
theorem wrf (v : View sig κ sp S640x128 e) (f) (h) (w) (L) :
    v.read (Elt F) (v.writes (Elt F) f (⟨Rect.unit (s := S640x128) ![0, 0] ![640, 128] h, w⟩ :: L)) = w := View.read_writes_full v f h w L
theorem lcf (v : View sig κ sp S640x128 e) (h h') (w) (L) :
    v.readCov (Val := Elt F) (⟨Rect.unit (s := S640x128) ![0, 0] ![640, 128] h, w⟩ :: L) (Rect.unit (s := S640x128) ![0, 0] ![640, 128] h').toLoadRect = w :=
  View.readCov_full v h' h w L
end Reads

/-- What the loop holds before trip `k`: what it reads, at the contents it was entered with; the four accumulators, at
    contents that read as the accumulators after `4 k` chunks. -/
def inv (c : Dev nD) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S640x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x640x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S2048x128 .bf16) (harg16 : arg16.IsWhole) (arg17 : Memref sig .tc .vmem S2624x128 .bf16) (harg17 : arg17.IsWhole) (arg18 : Memref sig .tc .vmem S2624x128 .bf16) (harg18 : arg18.IsWhole) (arg19 : Memref sig .tc .vmem S2048x128 .f32) (harg19 : arg19.IsWhole) (arg20 : Memref sig .tc .vmem S2624x128 .f32) (harg20 : arg20.IsWhole) (arg21 : Memref sig .tc .vmem S2624x128 .f32) (harg21 : arg21.IsWhole) (arg22 : Memref sig .tc .vmem S640x128 .f32) (harg22 : arg22.IsWhole) (I : Ins F) (Y19 : Vec F S2048x128 .f32) (Y20 : Vec F S2624x128 .f32) (Y21 : Vec F S2624x128 .f32) (Y22 : Vec F S640x128 .f32) (k : ℕ) (_u : PUnit) : sProp 𝕄 :=
  iprop((∃ f, (arg5.view.loc (c : Thread nD τ) ↦[arg5.view.set]{fullShare} f) ∗ ⌜arg5.view.read (Elt F) f = I.O⌝) ∗ (∃ f, (arg6.view.loc (c : Thread nD τ) ↦[arg6.view.set]{fullShare} f) ∗ ⌜arg6.view.read (Elt F) f = I.DO⌝) ∗ (∃ f, (arg7.view.loc (c : Thread nD τ) ↦[arg7.view.set]{fullShare} f) ∗ ⌜arg7.view.read (Elt F) f = I.BI⌝) ∗ (∃ f, (arg16.view.loc (c : Thread nD τ) ↦[arg16.view.set]{fullShare} f) ∗ ⌜arg16.view.read (Elt F) f = I.Q⌝) ∗ (∃ f, (arg17.view.loc (c : Thread nD τ) ↦[arg17.view.set]{fullShare} f) ∗ ⌜arg17.view.read (Elt F) f = I.KB⌝) ∗ (∃ f, (arg18.view.loc (c : Thread nD τ) ↦[arg18.view.set]{fullShare} f) ∗ ⌜arg18.view.read (Elt F) f = I.VB⌝) ∗ (∃ f, (arg19.view.loc (c : Thread nD τ) ↦[arg19.view.set]{fullShare} f) ∗ ⌜arg19.view.read (Elt F) f = aDq I Y19 (4 * k)⌝) ∗ (∃ f, (arg20.view.loc (c : Thread nD τ) ↦[arg20.view.set]{fullShare} f) ∗ ⌜arg20.view.read (Elt F) f = aDk I Y20 (4 * k)⌝) ∗ (∃ f, (arg21.view.loc (c : Thread nD τ) ↦[arg21.view.set]{fullShare} f) ∗ ⌜arg21.view.read (Elt F) f = aDv I Y21 (4 * k)⌝) ∗ (∃ f, (arg22.view.loc (c : Thread nD τ) ↦[arg22.view.set]{fullShare} f) ∗ ⌜arg22.view.read (Elt F) f = aDb I Y22 (4 * k)⌝))

set_option maxHeartbeats 4000000 in
theorem trip (𝒱 : Variants) (c : Dev nD) (bd : Option 𝒱.V) (E : Set ℕ) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S640x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x640x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S2048x128 .bf16) (harg16 : arg16.IsWhole) (arg17 : Memref sig .tc .vmem S2624x128 .bf16) (harg17 : arg17.IsWhole) (arg18 : Memref sig .tc .vmem S2624x128 .bf16) (harg18 : arg18.IsWhole) (arg19 : Memref sig .tc .vmem S2048x128 .f32) (harg19 : arg19.IsWhole) (arg20 : Memref sig .tc .vmem S2624x128 .f32) (harg20 : arg20.IsWhole) (arg21 : Memref sig .tc .vmem S2624x128 .f32) (harg21 : arg21.IsWhole) (arg22 : Memref sig .tc .vmem S640x128 .f32) (harg22 : arg22.IsWhole)
    (v60 v61 : FVec F S2048x128 .f32) (v81 : FVec F S1x128 .f32) (I : Ins F) (Y19 : Vec F S2048x128 .f32) (Y20 : Vec F S2624x128 .f32) (Y21 : Vec F S2624x128 .f32) (Y22 : Vec F S640x128 .f32) (k : Fin k0_t1_loop.trips) :
    inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 I Y19 Y20 Y21 Y22 k.val PUnit.unit
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v60 v61 v81 k PUnit.unit)
          (fun u => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 I Y19 Y20 Y21 Y22 (k.val + 1) u) := by
  have hk : k.val < 8 := Nat.lt_of_lt_of_le k.isLt k0_t1_abs.2.1
  unfold k0_t1_body inv
  iintro ⟨⟨%f5, H5, %h5⟩, ⟨%f6, H6, %h6⟩, ⟨%f7, H7, %h7⟩, ⟨%f16, H16, %h16⟩, ⟨%f17, H17, %h17⟩, ⟨%f18, H18, %h18⟩, ⟨%f19, H19, %h19⟩, ⟨%f20, H20, %h20⟩, ⟨%f21, H21, %h21⟩, ⟨%f22, H22, %h22⟩⟩
  sl_exec
  sl_step
  isplitl [H5]
  · iexists _; isplitl [H5]
    · iexact H5
    · ipureintro; exact h5
  isplitl [H6]
  · iexists _; isplitl [H6]
    · iexact H6
    · ipureintro; exact h6
  isplitl [H7]
  · iexists _; isplitl [H7]
    · iexact H7
    · ipureintro; exact h7
  isplitl [H16]
  · iexists _; isplitl [H16]
    · iexact H16
    · ipureintro; exact h16
  isplitl [H17]
  · iexists _; isplitl [H17]
    · iexact H17
    · ipureintro; exact h17
  isplitl [H18]
  · iexists _; isplitl [H18]
    · iexact H18
    · ipureintro; exact h18
  isplitl [H19]
  · iexists _; isplitl [H19]
    · iexact H19
    · ipureintro
      sl_unfold_run_names
      simp only [ldq_0 k, lda_0 k, wrq_0 k, wrb_0 k, word_0 k, ldq_1 k, lda_1 k, wrq_1 k, wrb_1 k, word_1 k, ldq_2 k, lda_2 k, wrq_2 k, wrb_2 k, word_2 k, ldq_3 k, lda_3 k, wrq_3 k, wrb_3 k, word_3 k, ldf, wrf, lcf, View.writes_nil, h5, h6, h7, h16, h17, h18, h19, h20, h21, h22]
      simp only [e8, e9, e10, e11, e12, e27, e28, e29, e39, e46, e53, e55, e62, e67, e13, e14, e15, e16, e17, e30, e31, e32, e40, e56, e57, e48, e63, e68, e18, e19, e21, e22, e23, e33, e34, e36, e42, e49, e50, e58, e60, e65, e85]
      rfl
  isplitl [H20]
  · iexists _; isplitl [H20]
    · iexact H20
    · ipureintro
      sl_unfold_run_names
      simp only [ldq_0 k, lda_0 k, wrq_0 k, wrb_0 k, word_0 k, ldq_1 k, lda_1 k, wrq_1 k, wrb_1 k, word_1 k, ldq_2 k, lda_2 k, wrq_2 k, wrb_2 k, word_2 k, ldq_3 k, lda_3 k, wrq_3 k, wrb_3 k, word_3 k, ldf, wrf, lcf, View.writes_nil, h5, h6, h7, h16, h17, h18, h19, h20, h21, h22]
      simp only [e8, e9, e10, e11, e12, e27, e28, e29, e39, e46, e53, e55, e62, e67, e13, e14, e15, e16, e17, e30, e31, e32, e40, e56, e57, e48, e63, e68, e18, e19, e21, e22, e23, e33, e34, e36, e42, e49, e50, e58, e60, e65, e85]
      rfl
  isplitl [H21]
  · iexists _; isplitl [H21]
    · iexact H21
    · ipureintro
      sl_unfold_run_names
      simp only [ldq_0 k, lda_0 k, wrq_0 k, wrb_0 k, word_0 k, ldq_1 k, lda_1 k, wrq_1 k, wrb_1 k, word_1 k, ldq_2 k, lda_2 k, wrq_2 k, wrb_2 k, word_2 k, ldq_3 k, lda_3 k, wrq_3 k, wrb_3 k, word_3 k, ldf, wrf, lcf, View.writes_nil, h5, h6, h7, h16, h17, h18, h19, h20, h21, h22]
      simp only [e8, e9, e10, e11, e12, e27, e28, e29, e39, e46, e53, e55, e62, e67, e13, e14, e15, e16, e17, e30, e31, e32, e40, e56, e57, e48, e63, e68, e18, e19, e21, e22, e23, e33, e34, e36, e42, e49, e50, e58, e60, e65, e85]
      rfl
  · iexists _; isplitl [H22]
    · iexact H22
    · ipureintro
      sl_unfold_run_names
      simp only [ldq_0 k, lda_0 k, wrq_0 k, wrb_0 k, word_0 k, ldq_1 k, lda_1 k, wrq_1 k, wrb_1 k, word_1 k, ldq_2 k, lda_2 k, wrq_2 k, wrb_2 k, word_2 k, ldq_3 k, lda_3 k, wrq_3 k, wrb_3 k, word_3 k, ldf, wrf, lcf, View.writes_nil, h5, h6, h7, h16, h17, h18, h19, h20, h21, h22]
      simp only [e8, e9, e10, e11, e12, e27, e28, e29, e39, e46, e53, e55, e62, e67, e13, e14, e15, e16, e17, e30, e31, e32, e40, e56, e57, e48, e63, e68, e18, e19, e21, e22, e23, e33, e34, e36, e42, e49, e50, e58, e60, e65, e85]
      rfl

end Cert.KernelIdeal.Hand

end
-- ==== Proof.Body.lean ====
module

public import proofs.«01_k».proof.Proof.Loop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal Cert.KernelIdeal.Gen

variable {F : FTy → Type} [FloatOps F]

local notation "𝕄" => MT nD τ sig Unit (Elt F) ℕ (UR sig nD τ) ℕ

/-! ## What a grid point computes, as functions of its blocks -/

/-- A (2048,128) array below 576 rows of `z`. -/
def band {e : EltTy} (d : Elt F e) (z : Vec F S576x128 e) (w : Vec F S2048x128 e) : Vec F S2624x128 e :=
  put (s := S2624x128) (put (s := S2624x128) (fun _ => d) ![0, 0] S576x128.size z) ![576, 0] S2048x128.size w

theorem tail_inb : ∀ a, (![576, 0] : Fin 2 → ℕ) a + S2048x128.size a ≤ S2624x128.size a := inb_S2624x128_S2048x128_576_0

/-- The rows of a band below its first 576. -/
def tail {e : EltTy} (x : Vec F S2624x128 e) : Vec F S2048x128 e := window (s := S2624x128) x ![576, 0] S2048x128.size tail_inb

theorem band_of {e : EltTy} (d : Elt F e) (g : Vec F S2624x128 e) (z : Vec F S576x128 e) (w : Vec F S2048x128 e) :
    put (s := S2624x128) (put (s := S2624x128) g ![0, 0] S576x128.size z) ![576, 0] S2048x128.size w = band d z w := by
  funext y
  have h0 : (y 0).val < 2624 := (y 0).isLt
  have h1 : (y 1).val < 128 := (y 1).isLt
  unfold band put
  by_cases hlt : (y 0).val < 576
  · have hn : ∀ a : Fin 2, (![0, 0] : Fin 2 → ℕ) a ≤ (y a).val ∧ (y a).val < (![0, 0] : Fin 2 → ℕ) a + S576x128.size a := by
      intro a; match a with
      | ⟨0, _⟩ => exact ⟨Nat.zero_le _, by show (y 0).val < 0 + 576; omega⟩
      | ⟨1, _⟩ => exact ⟨Nat.zero_le _, by show (y 1).val < 0 + 128; omega⟩
    split
    · rfl
    · rfl
  · have hn : ∀ a : Fin 2, (![576, 0] : Fin 2 → ℕ) a ≤ (y a).val ∧ (y a).val < (![576, 0] : Fin 2 → ℕ) a + S2048x128.size a := by
      intro a; match a with
      | ⟨0, _⟩ => exact ⟨by show 576 ≤ (y 0).val; omega, by show (y 0).val < 576 + 2048; omega⟩
      | ⟨1, _⟩ => exact ⟨Nat.zero_le _, by show (y 1).val < 0 + 128; omega⟩
    erw [dif_pos hn, dif_pos hn]

/-- The rows the first `n` chunks wrote do not depend on what was there. -/
theorem aDq_indep (I : Ins F) (x x' : Vec F S2048x128 .f32) (n : ℕ) (hn : n ≤ 32) (y : S2048x128.Idx) (hy : (y 0).val < 64 * n) :
    aDq I x n y = aDq I x' n y := by
  induction n with
  | zero => omega
  | succ n ih =>
    have h1 : (y 1).val < 128 := (y 1).isLt
    show put _ _ _ _ y = put _ _ _ _ y
    unfold put
    split
    · rfl
    · rename_i hno
      refine ih (by omega) ?_
      by_contra hlt
      refine hno fun a => ?_
      match a with
      | ⟨0, _⟩ => exact ⟨by show 64 * (n % 32) ≤ (y 0).val; omega, by show (y 0).val < 64 * (n % 32) + 64; omega⟩
      | ⟨1, _⟩ => exact ⟨Nat.zero_le _, by show (y 1).val < 0 + 128; omega⟩

theorem aDq_full (I : Ins F) (x x' : Vec F S2048x128 .f32) : aDq I x 32 = aDq I x' 32 :=
  funext fun y => aDq_indep I x x' 32 (le_refl _) y (y 0).isLt

section
variable (x0 x1 x2 x3 x4 : Vec F S2048x128 .f32) (x5 : Vec F S640x128 .f32) (x6 x7 : Vec F S1x128 .f32)

/-- The queries' reciprocal root mean squares. -/
def fRq : FVec F S2048x128 .f32 := k0_pay70 x0
/-- The keys' reciprocal root mean squares. -/
def fRk : FVec F S2048x128 .f32 := k0_pay73 (k0_pay71 x1) k0_pay72
/-- The queries over their root mean squares. -/
def fXq : FVec F S2048x128 .f32 := k0_pay74 x0 (fRq x0)
/-- The keys over theirs. -/
def fXk : FVec F S2048x128 .f32 := k0_pay75 x1 (k0_pay71 x1) k0_pay72
/-- What the loop of a grid point reads. -/
def fIns : Ins F where
  Q := k0_pay76 x0 (fRq x0) x6
  KB := band (Scalar.ofBits .bf16 0x0000#16) k0_pay77 (k0_pay80 (fXk x1) (k0_pay79 x7))
  VB := band (Scalar.ofBits .bf16 0x0000#16) k0_pay78 (k0_pay81 x2)
  O := x3
  DO := x4
  BI := x5
/-- The normalised queries' cotangent. -/
def fDqn : Vec F S2048x128 .f32 := aDq (fIns x0 x1 x2 x3 x4 x5 x6 x7) x0 32
/-- The normalised keys' cotangent. -/
def fDkn : Vec F S2048x128 .f32 := tail (aDk (fIns x0 x1 x2 x3 x4 x5 x6 x7) k0_pay82 32)
/-- The six blocks a grid point writes. -/
def oDq : Vec F S2048x128 .bf16 :=
  k0_pay94 (k0_pay88 (fRq x0) (fXq x0) (k0_pay86 (fDqn x0 x1 x2 x3 x4 x5 x6 x7) x6) (k0_pay87 (fXq x0) (fDqn x0 x1 x2 x3 x4 x5 x6 x7) x6) (iota .tc S128x128 32 [0] iota_S128x128_d0_w32))
def oDk : Vec F S2048x128 .bf16 :=
  k0_pay95 (fRk x1) (fXk x1) (k0_pay90 (fDkn x0 x1 x2 x3 x4 x5 x6 x7) x7) (k0_pay91 (fXk x1) (fDkn x0 x1 x2 x3 x4 x5 x6 x7) x7) k0_pay92
def oDv : Vec F S2048x128 .bf16 := k0_pay96 (tail (aDv (fIns x0 x1 x2 x3 x4 x5 x6 x7) k0_pay83 32))
def oDb : Vec F S1x640x128 .f32 := k0_pay97 (aDb (fIns x0 x1 x2 x3 x4 x5 x6 x7) k0_pay84 32)
def oGq : Vec F S1x1x128 .f32 := k0_pay1 (k0_pay89 (fXq x0) (fDqn x0 x1 x2 x3 x4 x5 x6 x7))
def oGk : Vec F S1x1x128 .f32 := k0_pay2 (k0_pay93 (fXk x1) (fDkn x0 x1 x2 x3 x4 x5 x6 x7))
end

section Reads
variable {κ : Kind} {sp : Space} {e : EltTy}
theorem l2048 (v : View sig κ sp S2048x128 e) (f) (h) :
    v.readAt (Elt F) (Rect.unit (s := S2048x128) ![0, 0] ![2048, 128] h).toLoadRect f = v.read (Elt F) f := View.readAt_full v f h
theorem l1 (v : View sig κ sp S1x128 e) (f) (h) :
    v.readAt (Elt F) (Rect.unit (s := S1x128) ![0, 0] ![1, 128] h).toLoadRect f = v.read (Elt F) f := View.readAt_full v f h
theorem l640 (v : View sig κ sp S640x128 e) (f) (h) :
    v.readAt (Elt F) (Rect.unit (s := S640x128) ![0, 0] ![640, 128] h).toLoadRect f = v.read (Elt F) f := View.readAt_full v f h
theorem lt (v : View sig κ sp S2624x128 e) (f) (h) :
    v.readAt (Elt F) (Rect.unit (s := S2624x128) ![576, 0] ![2048, 128] h).toLoadRect f = tail (v.read (Elt F) f) := View.readAt_unit v f h rfl tail_inb
theorem l2048' (v : View sig κ sp S2048x128 e) (f) (h) :
    v.readAt (Elt F) (Rect.unit (s := S2048x128) ![0, 0] S2048x128.size h).toLoadRect f = v.read (Elt F) f := View.readAt_full v f h
theorem l1' (v : View sig κ sp S1x128 e) (f) (h) :
    v.readAt (Elt F) (Rect.unit (s := S1x128) ![0, 0] S1x128.size h).toLoadRect f = v.read (Elt F) f := View.readAt_full v f h
theorem l640' (v : View sig κ sp S640x128 e) (f) (h) :
    v.readAt (Elt F) (Rect.unit (s := S640x128) ![0, 0] S640x128.size h).toLoadRect f = v.read (Elt F) f := View.readAt_full v f h
theorem lt' (v : View sig κ sp S2624x128 e) (f) (h) :
    v.readAt (Elt F) (Rect.unit (s := S2624x128) ![576, 0] S2048x128.size h).toLoadRect f = tail (v.read (Elt F) f) := View.readAt_unit v f h rfl tail_inb
theorem wband (v : View sig κ sp S2624x128 e) (f) (h h') (w : Vec F S2048x128 e) (z : Vec F S576x128 e) (d : Elt F e) :
    v.read (Elt F) (v.writes (Elt F) f [⟨Rect.unit (s := S2624x128) ![576, 0] ![2048, 128] h, w⟩, ⟨Rect.unit (s := S2624x128) ![0, 0] ![576, 128] h', z⟩])
      = band d z w := by
  refine (View.read_writes_cons_put v f h w _ rfl).trans (Eq.trans ?_ (band_of d (v.read (Elt F) f) z w))
  exact congrArg (fun g => put (s := S2624x128) g ![576, 0] S2048x128.size w) (View.read_writes_cons_put v f h' z [] rfl)
end Reads

set_option maxHeartbeats 8000000 in
/-- A grid point's triple: the inputs at their blocks, the rest at anything; it ends with the six output blocks at the
    functions above. -/
theorem body_run (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S640x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x640x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S2048x128 .bf16) (harg16 : arg16.IsWhole) (arg17 : Memref sig .tc .vmem S2624x128 .bf16) (harg17 : arg17.IsWhole) (arg18 : Memref sig .tc .vmem S2624x128 .bf16) (harg18 : arg18.IsWhole) (arg19 : Memref sig .tc .vmem S2048x128 .f32) (harg19 : arg19.IsWhole) (arg20 : Memref sig .tc .vmem S2624x128 .f32) (harg20 : arg20.IsWhole) (arg21 : Memref sig .tc .vmem S2624x128 .f32) (harg21 : arg21.IsWhole) (arg22 : Memref sig .tc .vmem S640x128 .f32) (harg22 : arg22.IsWhole)
    (x0 x1 x2 x3 x4 : Vec F S2048x128 .f32) (x5 : Vec F S640x128 .f32) (x6 x7 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (oDq x0 x1 x2 x3 x4 x5 x6 x7) ∗ owns (c : Thread nD τ) arg11 fullShare (oDk x0 x1 x2 x3 x4 x5 x6 x7) ∗ owns (c : Thread nD τ) arg12 fullShare (oDv x0 x1 x2 x3 x4 x5 x6 x7) ∗ owns (c : Thread nD τ) arg13 fullShare (oDb x0 x1 x2 x3 x4 x5 x6 x7) ∗ owns (c : Thread nD τ) arg14 fullShare (oGq x0 x1 x2 x3 x4 x5 x6 x7) ∗ owns (c : Thread nD τ) arg15 fullShare (oGk x0 x1 x2 x3 x4 x5 x6 x7) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  intro E K
  simp only [cc0_attn_bwd_eq_skeleton]; unfold cc0_attn_bwd_skel
  simp only [k0_part12_eq_skeleton, k0_part13_eq_skeleton, k0_part14_eq_skeleton, k0_part15_eq_skeleton, k0_part16_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  sl_exec
  sl_for (fun k u => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (fIns x0 x1 x2 x3 x4 x5 x6 x7) (arg19.view.read (Elt F) f19) k0_pay82 k0_pay83 k0_pay84 k u) $$ [H5 H6 H7 H16 H17 H18 H19 H20 H21 H22]
  · intro k acc
    exact trip Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ (fIns x0 x1 x2 x3 x4 x5 x6 x7) _ _ _ _ k
  · unfold inv
    isplitl [H5]
    · iexists _; isplitl [H5]
      · iexact H5
      · ipureintro; exact hf5
    isplitl [H6]
    · iexists _; isplitl [H6]
      · iexact H6
      · ipureintro; exact hf6
    isplitl [H7]
    · iexists _; isplitl [H7]
      · iexact H7
      · ipureintro; exact hf7
    isplitl [H16]
    · iexists _; isplitl [H16]
      · iexact H16
      · ipureintro
        sl_unfold_run_names
        refine (View.read_writes_full _ _ _ _ _).trans ?_
        simp only [l2048, l2048', l1, l1', lt, lt', l640, l640', hf2, hf3, hf4, hf8, hf9]
        rfl
    isplitl [H17]
    · iexists _; isplitl [H17]
      · iexact H17
      · ipureintro
        sl_unfold_run_names
        refine (wband _ _ _ _ _ _ (Scalar.ofBits .bf16 0x0000#16)).trans ?_
        simp only [l2048, l2048', l1, l1', lt, lt', l640, l640', hf2, hf3, hf4, hf8, hf9]
        rfl
    isplitl [H18]
    · iexists _; isplitl [H18]
      · iexact H18
      · ipureintro
        sl_unfold_run_names
        refine (wband _ _ _ _ _ _ (Scalar.ofBits .bf16 0x0000#16)).trans ?_
        simp only [l2048, l2048', l1, l1', lt, lt', l640, l640', hf2, hf3, hf4, hf8, hf9]
        rfl
    isplitl [H19]
    · iexists _; isplitl [H19]
      · iexact H19
      · ipureintro
        sl_unfold_run_names
        first | rfl | exact View.read_writes_full _ _ _ _ _
    isplitl [H20]
    · iexists _; isplitl [H20]
      · iexact H20
      · ipureintro
        sl_unfold_run_names
        first | rfl | exact View.read_writes_full _ _ _ _ _
    isplitl [H21]
    · iexists _; isplitl [H21]
      · iexact H21
      · ipureintro
        sl_unfold_run_names
        first | rfl | exact View.read_writes_full _ _ _ _ _
    · iexists _; isplitl [H22]
      · iexact H22
      · ipureintro
        sl_unfold_run_names
        exact View.read_writes_full _ _ _ _ _
  iintro %acc HI
  unfold inv
  icases HI with ⟨⟨%f5', H5, %h5⟩, ⟨%f6', H6, %h6⟩, ⟨%f7', H7, %h7⟩, ⟨%f16', H16, %h16⟩, ⟨%f17', H17, %h17⟩, ⟨%f18', H18, %h18⟩, ⟨%f19', H19, %h19⟩, ⟨%f20', H20, %h20⟩, ⟨%f21', H21, %h21⟩, ⟨%f22', H22, %h22⟩⟩
  have htr : Scf.trips k0_t1_loop.lb k0_t1_loop.ub k0_t1_loop.st = 8 := by decide +kernel
  rw [htr] at h19 h20 h21 h22
  rw [aDq_full _ _ x0] at h19
  sl_exec
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact h5
    · iexact H5
  isplitl [H6]
  · iexists _; isplitr
    · ipureintro; exact h6
    · iexact H6
  isplitl [H7]
  · iexists _; isplitr
    · ipureintro; exact h7
    · iexact H7
  isplitl [H8]
  · iexists _; isplitr
    · ipureintro; exact hf8
    · iexact H8
  isplitl [H9]
  · iexists _; isplitr
    · ipureintro; exact hf9
    · iexact H9
  isplitl [H10]
  · iexists _; isplitr; swap
    · iexact H10
    · ipureintro
      sl_unfold_run_names
      refine (View.read_writes_full _ _ _ _ _).trans ?_
      simp only [l2048, l2048', l1, l1', lt, lt', l640, l640', hf2, hf3, hf4, hf8, hf9, h19, h20, h21, h22]
      rfl
  isplitl [H11]
  · iexists _; isplitr; swap
    · iexact H11
    · ipureintro
      sl_unfold_run_names
      refine (View.read_writes_full _ _ _ _ _).trans ?_
      simp only [l2048, l2048', l1, l1', lt, lt', l640, l640', hf2, hf3, hf4, hf8, hf9, h19, h20, h21, h22]
      rfl
  isplitl [H12]
  · iexists _; isplitr; swap
    · iexact H12
    · ipureintro
      sl_unfold_run_names
      refine (View.read_writes_full _ _ _ _ _).trans ?_
      simp only [l2048, l2048', l1, l1', lt, lt', l640, l640', hf2, hf3, hf4, hf8, hf9, h19, h20, h21, h22]
      rfl
  isplitl [H13]
  · iexists _; isplitr; swap
    · iexact H13
    · ipureintro
      sl_unfold_run_names
      refine (View.read_writes_full _ _ _ _ _).trans ?_
      simp only [l2048, l2048', l1, l1', lt, lt', l640, l640', hf2, hf3, hf4, hf8, hf9, h19, h20, h21, h22]
      rfl
  isplitl [H14]
  · iexists _; isplitr; swap
    · iexact H14
    · ipureintro
      sl_unfold_run_names
      refine (View.read_writes_full _ _ _ _ _).trans ?_
      simp only [l2048, l2048', l1, l1', lt, lt', l640, l640', hf2, hf3, hf4, hf8, hf9, h19, h20, h21, h22]
      rfl
  isplitl [H15]
  · iexists _; isplitr; swap
    · iexact H15
    · ipureintro
      sl_unfold_run_names
      refine (View.read_writes_full _ _ _ _ _).trans ?_
      simp only [l2048, l2048', l1, l1', lt, lt', l640, l640', hf2, hf3, hf4, hf8, hf9, h19, h20, h21, h22]
      rfl
  isplitl [H16]
  · iexists _, _; isplitr; swap
    · iexact H16
    · ipureintro; rfl
  isplitl [H17]
  · iexists _, _; isplitr; swap
    · iexact H17
    · ipureintro; rfl
  isplitl [H18]
  · iexists _, _; isplitr; swap
    · iexact H18
    · ipureintro; rfl
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  iexists _, _; isplitr; swap
  · iexact H22
  · ipureintro; rfl

end Cert.KernelIdeal.Hand

end
-- ==== Proof.Pay.lean ====
module

public import proofs.«01_k».proof.Proof.Body
public import proofs.«01_k».proof.Proof.Gather
public import Idealize.ShloMosaic.Lib.Tactic.CleanTypes

@[expose] public section

set_option maxRecDepth 16384

noncomputable section

/-! The kernel's vector expressions, element by element over the reals, for the two heads that share its lanes. -/

namespace Cert.KernelIdeal.Hand

open Idealize.ShloMosaic Idealize.ShloMosaic.VecWindow Cert.KernelIdeal Cert.KernelIdeal.Gen Cert.Att

/-- Lane `d` of head `g` of the two. -/
def lane (g : Fin 2) (d : Fin 64) : Fin 128 := ⟨64 * g + d, by omega⟩

theorem lane_surj (l : Fin 128) : ∃ g d, l = lane g d :=
  ⟨⟨l / 64, by omega⟩, ⟨l % 64, by omega⟩, Fin.ext (by show l.val = 64 * (l.val / 64) + l.val % 64; omega)⟩

theorem sum_lane {M : Type*} [AddCommMonoid M] (f : Fin 128 → M) : ∑ x, f x = ∑ g, ∑ d, f (lane g d) := by
  rw [Fin.sum_univ_two_halves 64 64 rfl f, Fin.sum_univ_two]
  congr 1

theorem lane_lt : ∀ (g : Fin 2) (d : Fin 64), IntOp.cmpi .slt (BitVec.ofNat 32 (lane g d)) 64#32 = if g = 0 then 1#1 else 0#1 := by
  decide +kernel

/-- An array holds, in the lanes of the two heads, these reals. -/
def Holds {m : ℕ} {φ : FTy} (x : FVec Ideal ⟨2, ![m, 128]⟩ φ) (X : Fin 2 → Fin m → Fin 64 → ℝ) : Prop :=
  ∀ g t d, (x (ix2 t (lane g d)) : EReal) = (X g t d : EReal)

/-- The word of two lanes of one head, as a float. -/
theorem same_head (g g' : Fin 2) (e d : Fin 64) :
    (FloatOps.sitofp (F := Ideal) .f32 (BitVec.setWidth 32 (IntOp.xori (IntOp.xori (IntOp.cmpi .slt (BitVec.ofNat 32 (lane g e)) 64#32)
        (IntOp.cmpi .slt (BitVec.ofNat 32 (lane g' d)) 64#32)) 1#1)) : EReal) = ((if g = g' then 1 else 0 : ℝ) : EReal) := by
  rw [lane_lt, lane_lt]
  fin_cases g <;> fin_cases g' <;> simp [FloatOps.sitofp, IntOp.xori]

/-- A sum over the lanes of one head, as the kernel takes it: the values and two remainders, which are zero. -/
theorem half_sum (w : Fin 128 → EReal) (W : Fin 2 → Fin 64 → ℝ) (hw : ∀ g e, w (lane g e) = (W g e : EReal)) (g : Fin 2) (d : Fin 64) :
    ((∑ x : Fin 128, w x * FloatOps.sitofp (F := Ideal) .f32 (BitVec.setWidth 32 (IntOp.xori (IntOp.xori (IntOp.cmpi .slt (BitVec.ofNat 32 x) 64#32)
        (IntOp.cmpi .slt (BitVec.ofNat 32 (lane g d)) 64#32)) 1#1)))
      + (∑ x : Fin 128, (w x - w x) * FloatOps.sitofp (F := Ideal) .f32 (BitVec.setWidth 32 (IntOp.xori (IntOp.xori (IntOp.cmpi .slt (BitVec.ofNat 32 x) 64#32)
        (IntOp.cmpi .slt (BitVec.ofNat 32 (lane g d)) 64#32)) 1#1)))
      + (∑ x : Fin 128, (w x - w x - (w x - w x)) * FloatOps.sitofp (F := Ideal) .f32 (BitVec.setWidth 32 (IntOp.xori (IntOp.xori (IntOp.cmpi .slt (BitVec.ofNat 32 x) 64#32)
        (IntOp.cmpi .slt (BitVec.ofNat 32 (lane g d)) 64#32)) 1#1))) : EReal) = ((∑ e, W g e : ℝ) : EReal) := by
  simp only [sum_lane, same_head, hw, ← EReal.coe_sub, ← EReal.coe_mul, coe_sum, sub_self, zero_mul, Finset.sum_const_zero, ← EReal.coe_add, add_zero]
  congr 1
  rw [Finset.sum_eq_single g (fun g' _ h => by simp [h]) (by simp)]
  simp

section Norm
variable {x y z w : FVec Ideal S2048x128 .f32} {X Y Z W : Fin 2 → Fin 2048 → Fin 64 → ℝ}

theorem holds_rq (hx : Holds x X) : Holds (k0_pay70 x) fun g t _ => rr (X g t) := by
  intro g t d
  unfold k0_pay70
  pointwise
  have h := half_sum (fun l => x (ix2 t l) * x (ix2 t l)) (fun g e => X g t e * X g t e) (fun g e => by simp only [hx g t e, ← EReal.coe_mul]) g d
  beta_reduce at h
  rw [h, bits_64th, bits_eps, ← EReal.coe_mul, ← EReal.coe_add, mul_one_div, rsqrt_real (ms_pos _)]
  rfl

theorem holds_rk (hx : Holds x X) : Holds (k0_pay73 (F := Ideal) (k0_pay71 x) k0_pay72) fun g t _ => rr (X g t) := by
  intro g t d
  unfold k0_pay73 k0_pay71 k0_pay72
  pointwise
  have h := half_sum (fun l => x (ix2 t l) * x (ix2 t l)) (fun g e => X g t e * X g t e) (fun g e => by simp only [hx g t e, ← EReal.coe_mul]) g d
  beta_reduce at h
  rw [h, bits_64th, bits_eps, ← EReal.coe_mul, ← EReal.coe_add, mul_one_div, rsqrt_real (ms_pos _)]
  rfl

theorem holds_xq (hx : Holds x X) : Holds (fXq x) fun g t d => X g t d * rr (X g t) := by
  intro g t d
  have h : (fRq (F := Ideal) x (ix2 t (lane g d)) : EReal) = ((rr (X g t) : ℝ) : EReal) := holds_rq hx g t d
  unfold fXq k0_pay74
  pointwise
  rw [h, hx g t d, ← EReal.coe_mul]

theorem holds_xk (hx : Holds x X) : Holds (fXk x) fun g t d => X g t d * rr (X g t) := by
  intro g t d
  have h := holds_rk hx g t d
  unfold fXk k0_pay75
  pointwise
  rw [h, hx g t d, ← EReal.coe_mul]

variable {v : FVec Ideal S1x128 .f32} {G : Fin 2 → Fin 64 → ℝ}

/-- The normalised queries, scaled. -/
theorem holds_qs (hx : Holds x X) (hv : Holds v fun g _ => G g) : Holds (k0_pay76 (F := Ideal) x (fRq x) v) fun g t d => nrm (X g t) (G g) d * (1 / 8) := by
  intro g t d
  have h : (fRq (F := Ideal) x (ix2 t (lane g d)) : EReal) = ((rr (X g t) : ℝ) : EReal) := holds_rq hx g t d
  unfold k0_pay76 k0_pay74
  pointwise
  rw [h, hx g t d, hv g 0 d, bits_8th, ← EReal.coe_mul, ← EReal.coe_mul, ← EReal.coe_mul]
  rfl

/-- The normalised keys. -/
theorem holds_kn (hx : Holds x X) (hv : Holds v fun g _ => G g) : Holds (k0_pay80 (F := Ideal) (fXk x) (k0_pay79 v)) fun g t d => nrm (X g t) (G g) d := by
  intro g t d
  have h := holds_xk hx g t d
  unfold k0_pay80 k0_pay79
  pointwise
  rw [h, hv g 0 d, ← EReal.coe_mul]
  rfl

/-- The gradient of normalised queries, of that of the normalised rows. -/
theorem holds_dq (hx : Holds x X) (hv : Holds v fun g _ => G g) (hy : Holds y Y) :
    Holds (k0_pay94 (k0_pay88 (F := Ideal) (fRq x) (fXq x) (k0_pay86 y v) (k0_pay87 (fXq x) y v) (iota .tc S128x128 32 [0] iota_S128x128_d0_w32)))
      fun g t => nb (X g t) (G g) (Y g t) := by
  intro g t d
  have hr : (fRq (F := Ideal) x (ix2 t (lane g d)) : EReal) = ((rr (X g t) : ℝ) : EReal) := holds_rq hx g t d
  have hq : ∀ g e, (fXq (F := Ideal) x (ix2 t (lane g e)) : EReal) = ((X g t e * rr (X g t) : ℝ) : EReal) := fun g e => holds_xq hx g t e
  unfold k0_pay94 k0_pay88
  pointwise
  have h87 : ∀ g e, (k0_pay87 (F := Ideal) (fXq x) y v (ix2 t (lane g e)) : EReal) = ((Y g t e * G g e * (X g t e * rr (X g t)) : ℝ) : EReal) := fun g e => by
    unfold k0_pay87 k0_pay86
    pointwise
    rw [hq g e, hy g t e, hv g 0 e, ← EReal.coe_mul, ← EReal.coe_mul]
  have h := half_sum (fun l => k0_pay87 (F := Ideal) (fXq x) y v (ix2 t l)) _ h87 g d
  beta_reduce at h
  have h86 : (k0_pay86 (F := Ideal) y v (ix2 t (lane g d)) : EReal) = ((Y g t d * G g d : ℝ) : EReal) := by
    unfold k0_pay86
    pointwise
    rw [hy g t d, hv g 0 d, ← EReal.coe_mul]
  rw [h, h86, hr, hq g d, bits_64th, ← EReal.coe_mul, ← EReal.coe_mul, ← EReal.coe_sub, ← EReal.coe_mul]
  congr 1
  have : ∑ e, Y g t e * G g e * (X g t e * rr (X g t)) = rr (X g t) * ∑ e, X g t e * (G g e * Y g t e) := by
    rw [Finset.mul_sum]
    exact Finset.sum_congr rfl fun _ _ => by ring
  unfold nb
  rw [this]
  ring

theorem holds_dk (hx : Holds x X) (hv : Holds v fun g _ => G g) (hy : Holds y Y) :
    Holds (k0_pay95 (F := Ideal) (fRk x) (fXk x) (k0_pay90 y v) (k0_pay91 (fXk x) y v) k0_pay92)
      fun g t => nb (X g t) (G g) (Y g t) := by
  intro g t d
  have hr : (fRk (F := Ideal) x (ix2 t (lane g d)) : EReal) = ((rr (X g t) : ℝ) : EReal) := holds_rk hx g t d
  have hq : ∀ g e, (fXk (F := Ideal) x (ix2 t (lane g e)) : EReal) = ((X g t e * rr (X g t) : ℝ) : EReal) := fun g e => holds_xk hx g t e
  unfold k0_pay95 k0_pay92
  pointwise
  have h87 : ∀ g e, (k0_pay91 (F := Ideal) (fXk x) y v (ix2 t (lane g e)) : EReal) = ((Y g t e * G g e * (X g t e * rr (X g t)) : ℝ) : EReal) := fun g e => by
    unfold k0_pay91 k0_pay90
    pointwise
    rw [hq g e, hy g t e, hv g 0 e, ← EReal.coe_mul, ← EReal.coe_mul]
  have h := half_sum (fun l => k0_pay91 (F := Ideal) (fXk x) y v (ix2 t l)) _ h87 g d
  beta_reduce at h
  have h86 : (k0_pay90 (F := Ideal) y v (ix2 t (lane g d)) : EReal) = ((Y g t d * G g d : ℝ) : EReal) := by
    unfold k0_pay90
    pointwise
    rw [hy g t d, hv g 0 d, ← EReal.coe_mul]
  rw [h, h86, hr, hq g d, bits_64th, ← EReal.coe_mul, ← EReal.coe_mul, ← EReal.coe_sub, ← EReal.coe_mul]
  congr 1
  have : ∑ e, Y g t e * G g e * (X g t e * rr (X g t)) = rr (X g t) * ∑ e, X g t e * (G g e * Y g t e) := by
    rw [Finset.mul_sum]
    exact Finset.sum_congr rfl fun _ _ => by ring
  unfold nb
  rw [this]
  ring

theorem holds_v (hx : Holds x X) : Holds (k0_pay81 (F := Ideal) x) X := by
  intro g t d
  unfold k0_pay81
  pointwise
  exact hx g t d

theorem holds_96 (hx : Holds x X) : Holds (k0_pay96 (F := Ideal) x) X := by
  intro g t d
  unfold k0_pay96
  pointwise
  exact hx g t d
end Norm

end Cert.KernelIdeal.Hand

end
-- ==== Proof.Point.lean ====
module

public import proofs.«01_k».proof.Proof.Pay
public import Idealize.ShloMosaic.Lib.Tactic.WordOmega

@[expose] public section

set_option maxRecDepth 16384

noncomputable section

/-! One chunk of queries against its band of keys, over the reals. -/

namespace Cert.KernelIdeal.Hand

open Idealize.ShloMosaic Idealize.ShloMosaic.VecWindow Cert.KernelIdeal Cert.KernelIdeal.Gen Cert.Att

/-! ## Rows of a chunk and of its band -/

/-- Query `j` of chunk `n`. -/
def tt (n : ℕ) (j : Fin 64) : Fin 2048 := ⟨64 * (n % 32) + j, by omega⟩
/-- Row `s` of the band of chunk `n`, among the padded rows. -/
def rb (n : ℕ) (s : Fin 640) : Fin 2624 := ⟨64 * (n % 32) + s, by omega⟩
/-- The key there. -/
def bs (n : ℕ) (s : Fin 640) : Fin 2048 := ⟨64 * (n % 32) + s - 576, by omega⟩

theorem winQ_apply {e : EltTy} (x : Vec Ideal S2048x128 e) (n : ℕ) (j : Fin 64) (l : Fin 128) : winQ x n (ix2 j l) = x (ix2 (tt n j) l) := by
  unfold winQ window
  refine congrArg x (funext fun a => Fin.ext ?_)
  match a with
  | ⟨0, _⟩ => show 64 * (n % 32) + 1 * j.val = 64 * (n % 32) + j.val; omega
  | ⟨1, _⟩ => show 0 + 1 * l.val = l.val; omega

theorem winB_apply {e : EltTy} (x : Vec Ideal S2624x128 e) (n : ℕ) (s : Fin 640) (l : Fin 128) : winB x n (ix2 s l) = x (ix2 (rb n s) l) := by
  unfold winB window
  refine congrArg x (funext fun a => Fin.ext ?_)
  match a with
  | ⟨0, _⟩ => show 64 * (n % 32) + 1 * s.val = 64 * (n % 32) + s.val; omega
  | ⟨1, _⟩ => show 0 + 1 * l.val = l.val; omega

/-- The band's rows a chunk sees: from the first key. -/
def first (n : ℕ) : ℕ := max 64 ((9 - n) * 64)
def unm (n : ℕ) (s : Fin 640) : Prop := first n ≤ s.val
instance (n : ℕ) (s : Fin 640) : Decidable (unm n s) := by unfold unm; infer_instance

theorem first_word : ∀ n : Fin 32, Scalar.maxsi 64#32 (Scalar.muli (Scalar.subi 9#32 (BitVec.ofNat 32 n)) 64#32) = BitVec.ofNat 32 (first n) := by
  decide +kernel

theorem unm_word (n : ℕ) (hn : n < 32) (s : Fin 640) :
    IntOp.cmpi .sge (BitVec.ofNat 32 s) (Scalar.maxsi 64#32 (Scalar.muli (Scalar.subi 9#32 (BitVec.ofNat 32 n)) 64#32))
      = if unm n s then 1#1 else 0#1 := by
  rw [first_word ⟨n, hn⟩]
  have h : first n < 1024 := by unfold first; omega
  have hs := s.isLt
  by_cases hu : unm n s
  · rw [if_pos hu]
    have h1 : first n ≤ s.val := hu
    generalize first n = f at h h1
    word_omega
  · rw [if_neg hu]
    have h1 : ¬ first n ≤ s.val := hu
    generalize first n = f at h h1
    word_omega

theorem unm_vis (n : ℕ) (hn : n < 32) (s : Fin 640) (j : Fin 64) : unm n s ↔ 576 ≤ (rb n s).val ∧ vis (tt n j) (bs n s) := by
  unfold unm first vis rb tt bs
  simp only
  have h1 := j.isLt; have h2 := s.isLt
  constructor
  · intro h; omega
  · intro h; omega

/-- A sum over the band's visible rows is one over the visible keys. -/
theorem sum_band (n : ℕ) (hn : n < 32) (j : Fin 64) (f : Fin 2048 → ℝ) :
    (∑ s : Fin 640, if unm n s then f (bs n s) else 0) = ∑ s : Fin 2048, if vis (tt n j) s then f s else 0 := by
  rw [← Finset.sum_filter, ← Finset.sum_filter]
  refine Finset.sum_bij (fun s _ => bs n s) ?_ ?_ ?_ ?_
  · intro s hs
    have h := (Finset.mem_filter.mp hs).2
    exact Finset.mem_filter.mpr ⟨Finset.mem_univ _, ((unm_vis n hn s j).mp h).2⟩
  · intro s hs s' hs' h
    have h1 := ((unm_vis n hn s j).mp (Finset.mem_filter.mp hs).2).1
    have h2 := ((unm_vis n hn s' j).mp (Finset.mem_filter.mp hs').2).1
    have h3 := congrArg Fin.val h
    unfold rb at h1 h2
    unfold bs at h3
    simp only at h1 h2 h3
    exact Fin.ext (by omega)
  · intro s hs
    have h := (Finset.mem_filter.mp hs).2
    unfold vis tt at h
    simp only at h
    have hj := j.isLt
    refine ⟨⟨s.val + 576 - 64 * (n % 32), by omega⟩, Finset.mem_filter.mpr ⟨Finset.mem_univ _, ?_⟩, Fin.ext ?_⟩
    · show first n ≤ s.val + 576 - 64 * (n % 32)
      unfold first; omega
    · show 64 * (n % 32) + (s.val + 576 - 64 * (n % 32)) - 576 = s.val
      omega
  · intro s hs; rfl

/-! ## The two heads, stacked -/

theorem pay5_read (v : Vec Ideal S64x128 .f32) (r l : Fin 128) : (k0_pay5 (F := Ideal) v (ix2 r l) : EReal)
    = if h : r.val < 64 then Scalar.select (IntOp.cmpi .slt (BitVec.ofNat 32 l) 64#32) (v (ix2 ⟨r.val, by omega⟩ l) : EReal) 0
      else Scalar.select (IntOp.cmpi .slt (BitVec.ofNat 32 l) 64#32) 0 (v (ix2 ⟨r.val - 64, by omega⟩ l) : EReal) := by
  unfold k0_pay5
  pointwise

theorem pay3_read (v : Vec Ideal S64x128 .bf16) (r l : Fin 128) : (k0_pay3 (F := Ideal) v (ix2 r l) : EReal)
    = if h : r.val < 64 then Scalar.select (IntOp.cmpi .slt (BitVec.ofNat 32 l) 64#32) (v (ix2 ⟨r.val, by omega⟩ l) : EReal) 0
      else Scalar.select (IntOp.cmpi .slt (BitVec.ofNat 32 l) 64#32) 0 (v (ix2 ⟨r.val - 64, by omega⟩ l) : EReal) := by
  unfold k0_pay3
  pointwise

theorem stack_eq (v : Fin 64 → Fin 128 → EReal) (V : Fin 2 → Fin 64 → Fin 64 → ℝ) (hv : ∀ g j d, v j (lane g d) = (V g j d : EReal)) (g g' : Fin 2) (j d : Fin 64) :
    (if h : (lane g j).val < 64 then Scalar.select (IntOp.cmpi .slt (BitVec.ofNat 32 (lane g' d)) 64#32) (v ⟨(lane g j).val, by omega⟩ (lane g' d)) 0
      else Scalar.select (IntOp.cmpi .slt (BitVec.ofNat 32 (lane g' d)) 64#32) 0 (v ⟨(lane g j).val - 64, by omega⟩ (lane g' d)))
      = ((if g = g' then V g j d else 0 : ℝ) : EReal) := by
  have hj := j.isLt
  rw [lane_lt]
  match g with
  | 0 =>
    have h0 : (lane 0 j).val < 64 := by show 64 * 0 + j.val < 64; omega
    rw [dif_pos h0, hv, show (⟨(lane 0 j).val, _⟩ : Fin 64) = j from Fin.ext (by show 64 * 0 + j.val = j.val; omega)]
    fin_cases g' <;> simp [Scalar.select]
  | 1 =>
    have h0 : ¬ (lane 1 j).val < 64 := by show ¬ 64 * 1 + j.val < 64; omega
    rw [dif_neg h0, hv, show (⟨(lane 1 j).val - 64, _⟩ : Fin 64) = j from Fin.ext (by show 64 * 1 + j.val - 64 = j.val; omega)]
    fin_cases g' <;> simp [Scalar.select]

theorem stack5 {v : FVec Ideal S64x128 .f32} {V : Fin 2 → Fin 64 → Fin 64 → ℝ} (hv : Holds v V) (g g' : Fin 2) (j d : Fin 64) :
    (k0_pay5 (F := Ideal) v (ix2 (lane g j) (lane g' d)) : EReal) = ((if g = g' then V g j d else 0 : ℝ) : EReal) :=
  (pay5_read v _ _).trans (stack_eq (fun j l => v (ix2 j l)) V (fun g j d => hv g j d) g g' j d)

theorem stack3 {v : FVec Ideal S64x128 .bf16} {V : Fin 2 → Fin 64 → Fin 64 → ℝ} (hv : Holds v V) (g g' : Fin 2) (j d : Fin 64) :
    (k0_pay3 (F := Ideal) v (ix2 (lane g j) (lane g' d)) : EReal) = ((if g = g' then V g j d else 0 : ℝ) : EReal) :=
  (pay3_read v _ _).trans (stack_eq (fun j l => v (ix2 j l)) V (fun g j d => hv g j d) g g' j d)

/-- A row sum as the kernel takes it: the values and two remainders, which are zero. -/
theorem row_sum (f : Fin 128 → EReal) (W : Fin 2 → Fin 64 → ℝ) (hf : ∀ g e, f (lane g e) = (W g e : EReal)) :
    (∑ x, f x) + (∑ x, (f x - f x)) + (∑ x, (f x - f x - (f x - f x))) = ((∑ g, ∑ e, W g e : ℝ) : EReal) := by
  simp only [sum_lane, hf, ← EReal.coe_sub, coe_sum, sub_self, Finset.sum_const_zero, ← EReal.coe_add, add_zero]

/-- A sum over both heads' lanes of what only one head has. -/
theorem sum_one (g : Fin 2) (f : Fin 2 → Fin 64 → ℝ) : (∑ g', ∑ e, (if g = g' then f g' e else 0)) = ∑ e, f g e := by
  rw [Finset.sum_eq_single g (fun g' _ h => by simp [Ne.symm h]) (by simp)]
  simp

/-! ## A chunk -/

/-- The padded rows: nothing below row 576, then the rows of `f`. -/
def pad (f : Fin 2048 → Fin 64 → ℝ) (r : Fin 2624) (d : Fin 64) : ℝ := if 576 ≤ r.val then f ⟨r.val - 576, by omega⟩ d else 0

theorem pad_rb (f : Fin 2048 → Fin 64 → ℝ) (n : ℕ) (s : Fin 640) (h : 576 ≤ (rb n s).val) : pad f (rb n s) = f (bs n s) := by
  funext d
  unfold pad
  rw [if_pos h]
  rfl

/-- What the loop reads holds the two heads' reals. -/
structure InsR (I : Ins Ideal) (H : Fin 2 → Head) : Prop where
  hQ : Holds (m := 2048) (φ := .bf16) I.Q fun g t d => (H g).qn t d * (1 / 8)
  hK : Holds (m := 2624) (φ := .bf16) I.KB fun g => pad (H g).kn
  hV : Holds (m := 2624) (φ := .bf16) I.VB fun g => pad (H g).v
  hO : Holds (m := 2048) (φ := .f32) I.O fun g => (H g).oo
  hD : Holds (m := 2048) (φ := .f32) I.DO fun g => (H g).c
  hB : ∀ g n s j, n < 32 → 576 ≤ (rb n s).val → (I.BI (ix2 s (lane g j)) : EReal) = ((H g).B (tt n j) (bs n s) : EReal)

section Chunk
variable {I : Ins Ideal} {H : Fin 2 → Head} (r : InsR I H) {n : ℕ} (hn : n < 32)
include r

theorem hWQ : Holds (m := 64) (φ := .bf16) (winQ I.Q n) fun g j d => (H g).qn (tt n j) d * (1 / 8) :=
  fun g j d => (congrArg _ rfl).trans ((winQ_apply I.Q n j _).trans (r.hQ g _ d))
theorem hWO : Holds (m := 64) (φ := .f32) (winQ I.O n) fun g j d => (H g).oo (tt n j) d :=
  fun g j d => (winQ_apply I.O n j _).trans (r.hO g _ d)
theorem hWD : Holds (m := 64) (φ := .f32) (winQ I.DO n) fun g j d => (H g).c (tt n j) d :=
  fun g j d => (winQ_apply I.DO n j _).trans (r.hD g _ d)
theorem hWK : Holds (m := 640) (φ := .bf16) (winB I.KB n) fun g s d => pad (H g).kn (rb n s) d :=
  fun g s d => (winB_apply I.KB n s _).trans (r.hK g _ d)
theorem hWV : Holds (m := 640) (φ := .bf16) (winB I.VB n) fun g s d => pad (H g).v (rb n s) d :=
  fun g s d => (winB_apply I.VB n s _).trans (r.hV g _ d)

include hn

/-- The masked scores. -/
theorem cSt_eq (s : Fin 640) (g : Fin 2) (j : Fin 64) :
    (cSt I n (ix2 s (lane g j)) : EReal) = msk (unm n s) ((H g).sc (tt n j) (bs n s)) := by
  unfold cSt k0_pay24
  pointwise
  rw [unm_word n hn]
  unfold msk
  split_ifs with h
  · have h1 := ((unm_vis n hn s j).mp h).1
    show (k0_pay4 (F := Ideal) (winQ I.Q n) (winB I.KB n) I.BI (ix2 s (lane g j)) : EReal) = _
    unfold k0_pay4
    pointwise
    simp only [sum_lane, stack3 (hWQ r), hWK r _ _ _, ← EReal.coe_mul, coe_sum]
    rw [r.hB g n s j hn h1, ← EReal.coe_add]
    congr 1
    unfold Head.sc
    simp only [mul_ite, mul_zero]
    rw [sum_one g (fun g' e => pad (H g').kn (rb n s) e * ((H g).qn (tt n j) e * (1 / 8))), pad_rb _ _ _ h1, Finset.sum_mul]
    congr 1
    exact Finset.sum_congr rfl fun _ _ => by ring
  · exact bits_bot

theorem cMx_eq (g : Fin 2) (j : Fin 64) : ∃ m : ℝ, (cMx I n (ix2 (0 : Fin 1) (lane g j)) : EReal) = (m : EReal) := by
  unfold cMx k0_pay25
  pointwise
  rw [bits_bot]
  have h : ∀ s, (k0_pay24 (F := Ideal) (BitVec.ofNat 32 n) (k0_pay4 (winQ I.Q n) (winB I.KB n) I.BI) (ix2 s (lane g j)) : EReal)
      = msk (unm n s) ((H g).sc (tt n j) (bs n s)) := fun s => cSt_eq r hn s g j
  refine fold_max_real _ _ (fun s _ => ?_) ⟨576, by decide⟩ (Finset.mem_univ _) ?_
  · rw [h]; exact msk_ne_top _ _
  · rw [h]; unfold msk
    have hu : unm n ⟨576, by decide⟩ := by show first n ≤ 576; unfold first; omega
    rw [if_pos hu]; exact EReal.coe_ne_bot _

/-- The probabilities. -/
theorem cPt_eq (s : Fin 640) (g : Fin 2) (j : Fin 64) :
    (cPt I n (ix2 s (lane g j)) : EReal) = ((if unm n s then (H g).pp (tt n j) (bs n s) else 0 : ℝ) : EReal) := by
  obtain ⟨m, hm⟩ := cMx_eq r hn g j
  unfold cPt k0_pay38
  pointwise
  have he : ∀ s, (if unm n s then Real.exp ((H g).sc (tt n j) (bs n s)) else 0) = if unm n s then (H g).ee (tt n j) (bs n s) else 0 := fun s => by
    split_ifs with h
    · unfold Head.ee; rw [if_pos ((unm_vis n hn s j).mp h).2]
    · rfl
  simp only [cSt_eq r hn, hm, exp_msk, coe_sum, he]
  have hz := (H g).zz_pos (tt n j)
  have hE := Real.exp_pos (-m)
  have hs : (∑ s, (if unm n s then (H g).ee (tt n j) (bs n s) else 0) * Real.exp (-m)) = (H g).zz (tt n j) * Real.exp (-m) := by
    rw [← Finset.sum_mul, sum_band n hn j ((H g).ee (tt n j))]
    have hz : (∑ s : Fin 2048, if vis (tt n j) s then (H g).ee (tt n j) s else 0) = (H g).zz (tt n j) := Finset.sum_congr rfl fun s _ => by
      split_ifs with h
      · rfl
      · unfold Head.ee; rw [if_neg h]
    rw [hz]
  rw [hs, one_div_real (mul_pos hz hE).ne', ← EReal.coe_mul]
  refine congrArg (fun x : ℝ => (x : EReal)) ?_
  split_ifs
  · unfold Head.pp
    generalize (H g).zz (tt n j) = z at hz
    generalize Real.exp (-m) = e at hE
    have h1 := hz.ne'
    have h2 := hE.ne'
    field_simp
  · rw [zero_mul, zero_mul]

/-- The row sums of the cotangent times the output. -/
theorem cDrow_eq (g : Fin 2) (j : Fin 64) :
    (cDrow I n (ix2 (0 : Fin 1) (lane g j)) : EReal) = ((∑ u, (H g).pp (tt n j) u * (H g).dp (tt n j) u : ℝ) : EReal) := by
  unfold cDrow k0_pay26
  pointwise
  refine (row_sum _ (fun g' e => if g = g' then (H g').c (tt n j) e * (H g').oo (tt n j) e else 0) fun g' e => ?_).trans ?_
  · rw [stack5 (hWD r), stack_eq (fun j l => winQ I.O n (ix2 j l)) _ (fun g j d => hWO r g j d), ← EReal.coe_mul]
    congr 1
    split_ifs with h
    · rw [h]
    · simp
  · rw [sum_one g (fun g' e => (H g').c (tt n j) e * (H g').oo (tt n j) e), Head.sum_c_oo]

/-- The scores' cotangent. -/
theorem cDs_eq (s : Fin 640) (g : Fin 2) (j : Fin 64) :
    (k0_pay43 (F := Ideal) (cDpt I n) (cDrow I n) (cPt I n) (ix2 s (lane g j)) : EReal) = ((if unm n s then (H g).ds (tt n j) (bs n s) else 0 : ℝ) : EReal) := by
  unfold k0_pay43
  pointwise
  have hd : (cDpt I n (ix2 s (lane g j)) : EReal) = ((∑ e, pad (H g).v (rb n s) e * (H g).c (tt n j) e : ℝ) : EReal) := by
    unfold cDpt k0_pay7 k0_pay6
    pointwise
    simp only [sum_lane, stack5 (hWD r), hWV r _ _ _, ← EReal.coe_mul, coe_sum, mul_ite, mul_zero]
    rw [sum_one g (fun g' e => pad (H g').v (rb n s) e * (H g).c (tt n j) e)]
  rw [cPt_eq r hn, cDrow_eq r hn, hd, ← EReal.coe_sub, ← EReal.coe_mul]
  congr 1
  split_ifs with h
  · rw [pad_rb _ _ _ ((unm_vis n hn s j).mp h).1]
    unfold Head.ds
    congr 2
    unfold Head.dp
    exact Finset.sum_congr rfl fun _ _ => mul_comm _ _
  · rw [zero_mul]

/-- The cotangent of a chunk's normalised queries. -/
theorem cDq_eq (j : Fin 64) (g : Fin 2) (d : Fin 64) :
    (cDq I n (ix2 j (lane g d)) : EReal) = ((H g).dqn (tt n j) d : EReal) := by
  unfold cDq k0_pay52
  pointwise
  have hs : ∀ (g' : Fin 2) (l : Fin 128), l = lane g' j → (∑ x : Fin 640, k0_pay43 (F := Ideal) (cDpt I n) (cDrow I n) (cPt I n) (ix2 x l) * winB I.KB n (ix2 x (lane g d)) : EReal)
      = ((∑ x, (if unm n x then (H g').ds (tt n j) (bs n x) else 0) * pad (H g).kn (rb n x) d : ℝ) : EReal) := fun g' l hl => by
    subst hl
    simp only [cDs_eq r hn, hWK r _ _ _, ← EReal.coe_mul, coe_sum]
  refine (congrArg₂ (fun a b : EReal => Ideal.ofBits .f32 0x3E000000#32 * Scalar.select (IntOp.cmpi .slt (BitVec.ofNat 32 (lane g d)) 64#32) a b)
    (hs 0 (⟨j.val, by omega⟩ : Fin 128) (Fin.ext (by show j.val = 64 * 0 + j.val; omega)))
    (hs 1 (⟨64 + j.val, by omega⟩ : Fin 128) (Fin.ext (by show 64 + j.val = 64 * 1 + j.val; omega)))).trans ?_
  rw [lane_lt, bits_8th]
  have hg : ∀ g, (∑ x, (if unm n x then (H g).ds (tt n j) (bs n x) else 0) * pad (H g).kn (rb n x) d) = ∑ s, (H g).ds (tt n j) s * (H g).kn s d := fun g => by
    have h1 : ∀ x, (if unm n x then (H g).ds (tt n j) (bs n x) else 0) * pad (H g).kn (rb n x) d
        = if unm n x then (fun s => (H g).ds (tt n j) s * (H g).kn s d) (bs n x) else 0 := fun x => by
      split_ifs with h
      · rw [pad_rb _ _ _ ((unm_vis n hn x j).mp h).1]
      · rw [zero_mul]
    rw [Finset.sum_congr rfl fun x _ => h1 x, sum_band n hn j (fun s => (H g).ds (tt n j) s * (H g).kn s d)]
    refine Finset.sum_congr rfl fun s _ => ?_
    split_ifs with h
    · rfl
    · unfold Head.ds Head.pp Head.ee; rw [if_neg h]; simp
  fin_cases g
  · show ((1 / 8 : ℝ) : EReal) * ((_ : ℝ) : EReal) = _
    rw [← EReal.coe_mul]
    congr 1
    refine (congrArg _ (hg 0)).trans ?_
    exact mul_comm _ _
  · show ((1 / 8 : ℝ) : EReal) * ((_ : ℝ) : EReal) = _
    rw [← EReal.coe_mul]
    congr 1
    refine (congrArg _ (hg 1)).trans ?_
    exact mul_comm _ _

end Chunk

end Cert.KernelIdeal.Hand

end
-- ==== Proof.Acc.lean ====
module

public import proofs.«01_k».proof.Proof.Point

@[expose] public section

set_option maxRecDepth 16384

noncomputable section

/-! The accumulators after all chunks, and the blocks a grid point writes, over the reals. -/

namespace Cert.KernelIdeal.Hand

open Idealize.ShloMosaic Idealize.ShloMosaic.VecWindow Cert.KernelIdeal Cert.KernelIdeal.Gen Cert.Att

theorem putQ_in {e : EltTy} (x : Vec Ideal S2048x128 e) (n : ℕ) (w : Vec Ideal S64x128 e) (j : Fin 64) (l : Fin 128) :
    put (s := S2048x128) x (off n) S64x128.size w (ix2 (tt n j) l) = w (ix2 j l) := by
  have h := congrFun (window_put_same (s := S2048x128) x (off n) S64x128.size (off_q n) w) (ix2 j l)
  have h2 := winQ_apply (put (s := S2048x128) x (off n) S64x128.size w) n j l
  exact h2.symm.trans h

theorem putB_in {e : EltTy} (x : Vec Ideal S2624x128 e) (n : ℕ) (w : Vec Ideal S640x128 e) (s : Fin 640) (l : Fin 128) :
    put (s := S2624x128) x (off n) S640x128.size w (ix2 (rb n s) l) = w (ix2 s l) := by
  have h := congrFun (window_put_same (s := S2624x128) x (off n) S640x128.size (off_b n) w) (ix2 s l)
  have h2 := winB_apply (put (s := S2624x128) x (off n) S640x128.size w) n s l
  exact h2.symm.trans h

theorem putQ_out {e : EltTy} (x : Vec Ideal S2048x128 e) (n : ℕ) (w : Vec Ideal S64x128 e) (t : Fin 2048) (l : Fin 128)
    (h : ¬ (64 * (n % 32) ≤ t.val ∧ t.val < 64 * (n % 32) + 64)) : put (s := S2048x128) x (off n) S64x128.size w (ix2 t l) = x (ix2 t l) := by
  unfold put
  rw [dif_neg]
  intro h'
  exact h (h' (0 : Fin 2))

theorem putB_out {e : EltTy} (x : Vec Ideal S2624x128 e) (n : ℕ) (w : Vec Ideal S640x128 e) (t : Fin 2624) (l : Fin 128)
    (h : ¬ (64 * (n % 32) ≤ t.val ∧ t.val < 64 * (n % 32) + 640)) : put (s := S2624x128) x (off n) S640x128.size w (ix2 t l) = x (ix2 t l) := by
  unfold put
  rw [dif_neg]
  intro h'
  exact h (h' (0 : Fin 2))

/-- The queries, chunk by chunk. -/
theorem sum_tt {M : Type*} [AddCommMonoid M] (f : Fin 2048 → M) : ∑ n ∈ Finset.range 32, ∑ j, f (tt n j) = ∑ t, f t := by
  rw [Finset.sum_range]
  rw [← Fintype.sum_prod_type' (f := fun (i : Fin 32) (j : Fin 64) => f (tt i j))]
  refine (Finset.sum_congr rfl fun x _ => ?_).trans (Equiv.sum_comp (finProdFinEquiv (m := 32) (n := 64)) f)
  refine congrArg f (Fin.ext ?_)
  show 64 * (x.1.val % 32) + x.2.val = x.2.val + 64 * x.1.val
  omega

/-- Row `s` of the keys, among the padded rows. -/
def kr (s : Fin 2048) : Fin 2624 := ⟨576 + s, by omega⟩

/-- An accumulator over the padded rows, to which every chunk adds its band: the sum over all queries. -/
theorem acc_eq (A : ℕ → Vec Ideal S2624x128 .f32) (B : ℕ → Vec Ideal S640x128 .f32) (P : Fin 2 → Fin 2048 → Fin 2048 → ℝ) (Q : Fin 2 → Fin 2048 → Fin 64 → ℝ)
    (hA : ∀ n, A (n + 1) = put (s := S2624x128) (A n) (off n) S640x128.size (B n))
    (hB : ∀ n, n < 32 → ∀ s g d, (B n (ix2 s (lane g d)) : EReal)
      = (A n (ix2 (rb n s) (lane g d)) : EReal) + ((∑ j, (if unm n s then P g (tt n j) (bs n s) else 0) * Q g (tt n j) d : ℝ) : EReal))
    (h0 : ∀ i, (A 0 i : EReal) = 0) (hP : ∀ (g : Fin 2) (t s : Fin 2048), ¬ vis t s → P g t s = 0) (g : Fin 2) (s : Fin 2048) (d : Fin 64) :
    (A 32 (ix2 (kr s) (lane g d)) : EReal) = ((∑ t : Fin 2048, P g t s * Q g t d : ℝ) : EReal) := by
  rw [← sum_tt]
  suffices h : ∀ k, k ≤ 32 → (A k (ix2 (kr s) (lane g d)) : EReal) = ((∑ n ∈ Finset.range k, ∑ j, P g (tt n j) s * Q g (tt n j) d : ℝ) : EReal) from h 32 le_rfl
  intro k
  induction k with
  | zero => intro _; rw [h0]; simp
  | succ n ih =>
    intro hk
    have hn : n < 32 := hk
    have ih := ih (by omega)
    rw [hA n, Finset.sum_range_succ, EReal.coe_add, ← ih]
    by_cases hin : 64 * (n % 32) ≤ (kr s).val ∧ (kr s).val < 64 * (n % 32) + 640
    · have hr : kr s = rb n ⟨(kr s).val - 64 * (n % 32), by omega⟩ := Fin.ext (by show (kr s).val = 64 * (n % 32) + ((kr s).val - 64 * (n % 32)); omega)
      generalize (⟨(kr s).val - 64 * (n % 32), by omega⟩ : Fin 640) = s' at hr
      have e : 576 + s.val = 64 * (n % 32) + s'.val := congrArg Fin.val hr
      have hbs : bs n s' = s := Fin.ext (by show 64 * (n % 32) + s'.val - 576 = s.val; omega)
      have hge : 576 ≤ (rb n s').val := by show 576 ≤ 64 * (n % 32) + s'.val; omega
      rw [hr, putB_in, hB n hn, ← hr, hbs]
      congr 2
      refine Finset.sum_congr rfl fun j _ => ?_
      split_ifs with hu
      · rfl
      · have : ¬ vis (tt n j) s := fun hv => hu ((unm_vis n hn s' j).mpr ⟨hge, hbs.symm ▸ hv⟩)
        rw [hP g _ _ this]
    · rw [putB_out _ _ _ _ _ hin]
      have : ∀ j, P g (tt n j) s = 0 := fun j => hP g _ _ (fun hv => hin (by
        have h1 : s.val / 64 ≤ (64 * (n % 32) + j.val) / 64 ∧ (64 * (n % 32) + j.val) / 64 - s.val / 64 ≤ 8 := hv
        have := j.isLt
        show 64 * (n % 32) ≤ 576 + s.val ∧ 576 + s.val < 64 * (n % 32) + 640
        omega))
      simp [this]

variable {I : Ins Ideal} {H : Fin 2 → Head} (r : InsR I H)

theorem pp_zero (H : Head) (t s : Fin 2048) (h : ¬ vis t s) : H.pp t s = 0 := by
  unfold Head.pp Head.ee; rw [if_neg h]; simp
theorem ds_zero (H : Head) (t s : Fin 2048) (h : ¬ vis t s) : H.ds t s = 0 := by
  unfold Head.ds; rw [pp_zero H t s h]; simp

include r

theorem aDq_eq (x : Vec Ideal S2048x128 .f32) : Holds (m := 2048) (φ := .f32) (aDq I x 32) fun g => (H g).dqn := by
  intro g t d
  suffices h : ∀ k, k ≤ 32 → t.val < 64 * k → (aDq I x k (ix2 t (lane g d)) : EReal) = ((H g).dqn t d : EReal) from h 32 le_rfl t.isLt
  intro k
  induction k with
  | zero => intro _ h; omega
  | succ n ih =>
    intro hk ht
    have hn : n < 32 := hk
    show (put (s := S2048x128) (aDq I x n) (off n) S64x128.size (cDq I n) (ix2 t (lane g d)) : EReal) = _
    by_cases hin : 64 * (n % 32) ≤ t.val ∧ t.val < 64 * (n % 32) + 64
    · have hr : t = tt n ⟨t.val - 64 * (n % 32), by omega⟩ := Fin.ext (by show t.val = 64 * (n % 32) + (t.val - 64 * (n % 32)); omega)
      generalize (⟨t.val - 64 * (n % 32), by omega⟩ : Fin 64) = j at hr
      rw [hr, putQ_in]
      exact cDq_eq r hn j g d
    · rw [putQ_out _ _ _ _ _ hin]
      exact ih (by omega) (by omega)

theorem aDk_eq (x : Vec Ideal S2624x128 .f32) (hx : ∀ i, (x i : EReal) = 0) : Holds (m := 2048) (φ := .f32) (tail (aDk I x 32)) fun g => (H g).dkn := by
  intro g s d
  have h := acc_eq (aDk I x) (fun n => cDk I n (winB (aDk I x n) n)) (fun g => (H g).ds) (fun g t d => (H g).qn t d * (1 / 8)) (fun n => rfl) (fun n hn s g d => by
    unfold cDk k0_pay61 k0_pay44
    pointwise
    rw [winB_apply]
    congr 1
    simp only [sum_lane, cDs_eq r hn, cQst, stack3 (hWQ r), ← EReal.coe_mul, coe_sum]
    refine congrArg (fun x : ℝ => (x : EReal)) ?_
    rw [Finset.sum_eq_single g (fun g' _ h => by simp [h]) (by simp)]
    simp) hx (fun g => ds_zero (H g)) g s d
  refine Eq.trans ?_ (h.trans ?_)
  · unfold tail window
    refine congrArg (aDk I x 32) (funext fun a => Fin.ext ?_)
    match a with
    | ⟨0, _⟩ => show 576 + 1 * s.val = 576 + s.val; omega
    | ⟨1, _⟩ => show 0 + 1 * (lane g d).val = (lane g d).val; omega
  · refine congrArg (fun x : ℝ => (x : EReal)) ?_
    show _ = (∑ t : Fin 2048, (H g).ds t s * (H g).qn t d) * (1 / 8)
    rw [Finset.sum_mul]
    exact Finset.sum_congr rfl fun _ _ => by ring

theorem aDv_eq (x : Vec Ideal S2624x128 .f32) (hx : ∀ i, (x i : EReal) = 0) : Holds (m := 2048) (φ := .f32) (tail (aDv I x 32)) fun g => (H g).dv := by
  intro g s d
  have h := acc_eq (aDv I x) (fun n => cDv I n (winB (aDv I x n) n)) (fun g => (H g).pp) (fun g t d => (H g).c t d) (fun n => rfl) (fun n hn s g d => by
    unfold cDv k0_pay66 k0_pay6
    pointwise
    rw [winB_apply]
    congr 1
    simp only [sum_lane, cPt_eq r hn, stack5 (hWD r), ← EReal.coe_mul, coe_sum]
    refine congrArg (fun x : ℝ => (x : EReal)) ?_
    rw [Finset.sum_eq_single g (fun g' _ h => by simp [h]) (by simp)]
    simp) hx (fun g => pp_zero (H g)) g s d
  refine Eq.trans ?_ (h.trans ?_)
  · unfold tail window
    refine congrArg (aDv I x 32) (funext fun a => Fin.ext ?_)
    match a with
    | ⟨0, _⟩ => show 576 + 1 * s.val = 576 + s.val; omega
    | ⟨1, _⟩ => show 0 + 1 * (lane g d).val = (lane g d).val; omega
  · rfl

end Cert.KernelIdeal.Hand

end
-- ==== Proof.Blk.lean ====
module

public import proofs.«01_k».proof.Proof.Acc

@[expose] public section

set_option maxRecDepth 16384

noncomputable section

/-! The three gradients a grid point stages, from the reals its blocks hold. -/

namespace Cert.KernelIdeal.Hand

open Idealize.ShloMosaic Idealize.ShloMosaic.VecWindow Cert.KernelIdeal Cert.KernelIdeal.Gen Cert.Att

/-! ## A grid point's blocks -/

/-- The blocks of a grid point hold the two heads' reals: their rows of q, k and v, of the output and its gradient, the
    bias in the band's layout, and the two gains. -/
structure BlkR (x0 x1 x2 x3 x4 : Vec Ideal S2048x128 .f32) (x5 : Vec Ideal S640x128 .f32) (x6 x7 : Vec Ideal S1x128 .f32) (H : Fin 2 → Head) : Prop where
  h0 : Holds (m := 2048) (φ := .f32) x0 fun g => (H g).q
  h1 : Holds (m := 2048) (φ := .f32) x1 fun g => (H g).k
  h2 : Holds (m := 2048) (φ := .f32) x2 fun g => (H g).v
  h3 : Holds (m := 2048) (φ := .f32) x3 fun g => (H g).oo
  h4 : Holds (m := 2048) (φ := .f32) x4 fun g => (H g).c
  h5 : ∀ g n s j, n < 32 → 576 ≤ (rb n s).val → (x5 (ix2 s (lane g j)) : EReal) = ((H g).B (tt n j) (bs n s) : EReal)
  h6 : Holds (m := 1) (φ := .f32) x6 fun g _ => (H g).gq
  h7 : Holds (m := 1) (φ := .f32) x7 fun g _ => (H g).gk

theorem band_holds (d : Elt Ideal .bf16) (z : Vec Ideal S576x128 .bf16) (w : Vec Ideal S2048x128 .bf16) (W : Fin 2 → Fin 2048 → Fin 64 → ℝ)
    (hz : ∀ i, (z i : EReal) = 0) (hw : Holds (m := 2048) (φ := .bf16) w W) : Holds (m := 2624) (φ := .bf16) (band d z w) fun g => pad (W g) := by
  intro g r l
  show (band d z w (ix2 r (lane g l)) : EReal) = ((if 576 ≤ r.val then W g ⟨r.val - 576, by omega⟩ l else 0 : ℝ) : EReal)
  unfold band
  by_cases h : 576 ≤ r.val
  · rw [if_pos h]
    have e : r = kr ⟨r.val - 576, by omega⟩ := Fin.ext (by show r.val = 576 + (r.val - 576); omega)
    generalize (⟨r.val - 576, by omega⟩ : Fin 2048) = t at e
    have h1 := congrFun (window_put_same (s := S2624x128) (put (s := S2624x128) (fun _ => d) ![0, 0] S576x128.size z) ![576, 0] S2048x128.size tail_inb w) (ix2 t (lane g l))
    refine Eq.trans ?_ ((congrArg _ rfl).trans (h1.trans (hw g t l)))
    rw [e]
    unfold window
    refine congrArg (put (s := S2624x128) _ ![576, 0] S2048x128.size w) (funext fun a => Fin.ext ?_)
    match a with
    | ⟨0, _⟩ => show 576 + t.val = 576 + 1 * t.val; omega
    | ⟨1, _⟩ => show (lane g l).val = 0 + 1 * (lane g l).val; omega
  · rw [if_neg h]
    have h1 : put (s := S2624x128) (put (s := S2624x128) (fun _ => d) ![0, 0] S576x128.size z) ![576, 0] S2048x128.size w (ix2 r (lane g l))
        = put (s := S2624x128) (fun _ => d) ![0, 0] S576x128.size z (ix2 r (lane g l)) := by
      rw [put, dif_neg]
      intro h'
      exact h (h' (0 : Fin 2)).1
    rw [h1, put, dif_pos (fun a => by
      match a with
      | ⟨0, _⟩ => exact ⟨Nat.zero_le _, by show r.val < 0 + 576; omega⟩
      | ⟨1, _⟩ => exact ⟨Nat.zero_le _, by have := (lane g l).isLt; show (lane g l).val < 0 + 128; omega⟩)]
    exact (hz _).trans (by simp)

theorem zero82 (i : S2624x128.Idx) : (k0_pay82 (F := Ideal) i : EReal) = 0 := by
  unfold k0_pay82
  pointwise

theorem zero83 (i : S2624x128.Idx) : (k0_pay83 (F := Ideal) i : EReal) = 0 := by
  unfold k0_pay83
  pointwise

section Blk
variable {x0 x1 x2 x3 x4 : Vec Ideal S2048x128 .f32} {x5 : Vec Ideal S640x128 .f32} {x6 x7 : Vec Ideal S1x128 .f32} {H : Fin 2 → Head}
  (b : BlkR x0 x1 x2 x3 x4 x5 x6 x7 H)
include b

theorem ins_real : InsR (fIns x0 x1 x2 x3 x4 x5 x6 x7) H where
  hQ := holds_qs b.h0 b.h6
  hK := band_holds _ _ _ _ (fun i => by unfold k0_pay77; pointwise) (holds_kn b.h1 b.h7)
  hV := band_holds _ _ _ _ (fun i => by unfold k0_pay78; pointwise) (holds_v b.h2)
  hO := b.h3
  hD := b.h4
  hB := b.h5

theorem oDq_holds : Holds (m := 2048) (φ := .bf16) (oDq x0 x1 x2 x3 x4 x5 x6 x7) fun g => (H g).dq :=
  holds_dq b.h0 b.h6 (aDq_eq (ins_real b) x0)

theorem oDk_holds : Holds (m := 2048) (φ := .bf16) (oDk x0 x1 x2 x3 x4 x5 x6 x7) fun g => (H g).dk := by
  have h := aDk_eq (ins_real b) (k0_pay82 (F := Ideal)) zero82
  unfold oDk fDkn
  exact holds_dk b.h1 b.h7 h

theorem oDv_holds : Holds (m := 2048) (φ := .bf16) (oDv x0 x1 x2 x3 x4 x5 x6 x7) fun g => (H g).dv := by
  have h := aDv_eq (ins_real b) (k0_pay83 (F := Ideal)) zero83
  unfold oDv
  exact holds_96 h
end Blk

end Cert.KernelIdeal.Hand

end
-- ==== Proof.Ref.lean ====
module

public import proofs.«01_k».proof.Proof.Gen.ReferenceIdeal.Run
public import proofs.«01_k».proof.Proof.Gather
public import Idealize.ShloMosaic.Lib.Tactic.CleanTypes

@[expose] public section

set_option maxRecDepth 16384

noncomputable section

/-! The reference's results, element by element, as the gradient of one head. -/

namespace Cert.ReferenceIdeal.Hand

open Idealize.ShloMosaic Idealize.ShloMosaic.TcCoe Idealize.SL.Sem Cert.ReferenceIdeal Cert.ReferenceIdeal.Value
open Idealize.ShloMosaic.StableHlo Cert.Att

/-- The arguments hold these reals. -/
structure Reads (V0 : Valuation τ sig (Elt Ideal)) (a : Args) : Prop where
  h0 : ∀ i j, (V0 (Proc.devRef .tc main_arg0) (ix2 i j) : EReal) = (a.A i j : EReal)
  h1 : ∀ j, (V0 (Proc.devRef .tc main_arg1) (ix2 (0 : Fin 1) j) : EReal) = (a.gq j : EReal)
  h2 : ∀ j, (V0 (Proc.devRef .tc main_arg2) (ix2 (0 : Fin 1) j) : EReal) = (a.gk j : EReal)
  h3 : ∀ i j, (V0 (Proc.devRef .tc main_arg3) (ix2 i j) : EReal) = (a.R i j : EReal)
  h4 : ∀ i j, (V0 (Proc.devRef .tc main_arg4) (ix2 i j) : EReal) = (a.C i j : EReal)

variable {V0 : Valuation τ sig (Elt Ideal)} {a : Args}

theorem v4_eq (r : Reads V0 a) (b : Fin 2) (t : Fin 2048) (h : Fin 8) (d : Fin 64) :
    (res_main_v4 V0 (ix4 b t h d) : EReal) = ((a.head b h).q t d : EReal) := by
  unfold res_main_v4
  clean_types
  pointwise
  refine (r.h0 _ _).trans ?_
  simp only [Args.head, row, colP, Nat.zero_add]

theorem v22_eq (r : Reads V0 a) (b : Fin 2) (t : Fin 2048) (h : Fin 8) (d : Fin 64) :
    (res_main_v22 V0 (ix4 b t h d) : EReal) = ((a.head b h).k t d : EReal) := by
  unfold res_main_v22
  clean_types
  pointwise
  exact r.h0 _ _

theorem v40_eq (r : Reads V0 a) (b : Fin 2) (t : Fin 2048) (h : Fin 8) (d : Fin 64) :
    (res_main_v40 V0 (ix4 b t h d) : EReal) = ((a.head b h).v t d : EReal) := by
  unfold res_main_v40
  clean_types
  pointwise
  exact r.h0 _ _

/-- The mean square, with the epsilon. -/
def ms (x : Fin 64 → ℝ) : ℝ := (∑ d, x d * x d) / 64 + eps

theorem v12_eq (r : Reads V0 a) (b : Fin 2) (t : Fin 2048) (h : Fin 8) (z : Fin 1) :
    (res_main_v12 V0 (ix4 b t h z) : EReal) = (ms ((a.head b h).q t) : EReal) := by
  unfold res_main_v12
  clean_types
  pointwise
  simp only [v4_eq r, ← EReal.coe_mul, coe_sum]
  rw [bits_64, bits_eps, div_real (by norm_num), ← EReal.coe_add]
  rfl

theorem v30_eq (r : Reads V0 a) (b : Fin 2) (t : Fin 2048) (h : Fin 8) (z : Fin 1) :
    (res_main_v30 V0 (ix4 b t h z) : EReal) = (ms ((a.head b h).k t) : EReal) := by
  unfold res_main_v30
  clean_types
  pointwise
  simp only [v22_eq r, ← EReal.coe_mul, coe_sum]
  rw [bits_64, bits_eps, div_real (by norm_num), ← EReal.coe_add]
  rfl

theorem v13_eq (r : Reads V0 a) (b : Fin 2) (t : Fin 2048) (h : Fin 8) (z : Fin 1) :
    (res_main_v13 V0 (ix4 b t h z) : EReal) = (rr ((a.head b h).q t) : EReal) := by
  unfold res_main_v13
  clean_types
  pointwise
  rw [v12_eq r, rsqrt_real (y := ms _) (ms_pos _)]
  rfl

theorem v31_eq (r : Reads V0 a) (b : Fin 2) (t : Fin 2048) (h : Fin 8) (z : Fin 1) :
    (res_main_v31 V0 (ix4 b t h z) : EReal) = (rr ((a.head b h).k t) : EReal) := by
  unfold res_main_v31
  clean_types
  pointwise
  rw [v30_eq r, rsqrt_real (y := ms _) (ms_pos _)]
  rfl

theorem v21_eq (r : Reads V0 a) (b : Fin 2) (t : Fin 2048) (h : Fin 8) (d : Fin 64) :
    (res_main_v21 V0 (ix4 b t h d) : EReal) = ((a.head b h).qn t d : EReal) := by
  unfold res_main_v21 res_main_v19
  clean_types
  pointwise
  rw [v4_eq r, v13_eq r]
  refine (congrArg _ (r.h1 d)).trans ?_
  rw [← EReal.coe_mul, ← EReal.coe_mul]
  rfl

theorem v39_eq (r : Reads V0 a) (b : Fin 2) (t : Fin 2048) (h : Fin 8) (d : Fin 64) :
    (res_main_v39 V0 (ix4 b t h d) : EReal) = ((a.head b h).kn t d : EReal) := by
  unfold res_main_v39 res_main_v37
  clean_types
  pointwise
  rw [v22_eq r, v31_eq r]
  refine (congrArg _ (r.h2 d)).trans ?_
  rw [← EReal.coe_mul, ← EReal.coe_mul]
  rfl

/-- The mask's word, of two chunks. -/
theorem mask_word' : ∀ x y : Fin 32,
    (IntOp.andi (IntOp.cmpi .sle (BitVec.ofNat 32 y) (BitVec.ofNat 32 x))
      (IntOp.cmpi .sle (IntOp.subi (BitVec.ofNat 32 x) (BitVec.ofNat 32 y)) 8#32))
      = if y.val ≤ x.val ∧ x.val - y.val ≤ 8 then 1#1 else 0#1 := by
  decide +kernel

theorem div_word : ∀ x : Fin 2048, IntOp.divsi .host (BitVec.ofNat 32 x) 64#32 = BitVec.ofNat 32 (x.val / 64) := by
  decide +kernel

/-- The mask's word. -/
theorem mask_word (t s : Fin 2048) :
    (IntOp.andi (IntOp.cmpi .sle (IntOp.divsi .host (BitVec.ofNat 32 s) 64#32) (IntOp.divsi .host (BitVec.ofNat 32 t) 64#32))
      (IntOp.cmpi .sle (IntOp.subi (IntOp.divsi .host (BitVec.ofNat 32 t) 64#32) (IntOp.divsi .host (BitVec.ofNat 32 s) 64#32)) 8#32))
      = if vis t s then 1#1 else 0#1 := by
  rw [div_word t, div_word s]
  exact mask_word' ⟨t / 64, by omega⟩ ⟨s / 64, by omega⟩

theorem v70_1_eq (b : Fin 2) (t s : Fin 2048) (h : Fin 8) :
    (res_main_v70_1 V0 (ix4 b h t s)) = if vis t s then 1#1 else 0#1 := by
  unfold res_main_v70_1 res_main_v57 res_main_v55 res_main_v41 res_main_v42
  clean_types
  pointwise
  exact mask_word t s

theorem v46_eq (t s : Fin 2048) :
    (res_main_v46 V0 (ix2 t s)) = IntOp.addi (IntOp.minsi 128#32 (IntOp.maxsi 4294967168#32 (IntOp.subi (BitVec.ofNat 32 t) (BitVec.ofNat 32 s)))) 128#32 := by
  unfold res_main_v46 res_main_v41 res_main_v42
  clean_types
  pointwise
  rfl

/-- The bias at a head, a query and a key. -/
theorem bias_eq (r : Reads V0 a) (x : IVec S2048x2048x1 32) (h : Fin 8) (t s : Fin 2048) (w : BitVec 32)
    (hx : x (ix3 t s (0 : Fin 1)) = relw w) :
    (Host.gather gather_S8x257_S2048x2048x1_S8x2048x2048_0_1_n_n_1_2_81 (V0 (Proc.devRef .tc main_arg3)) x (ix3 h t s) : EReal)
      = (a.R h (relIx w) : EReal) := by
  refine (gather_cols _ _ x h t s).trans ?_
  refine (r.h3 _ _).trans ?_
  unfold relIx
  simp only [hx]

theorem v70_0_eq (r : Reads V0 a) (b : Fin 2) (t s : Fin 2048) (h : Fin 8) :
    (res_main_v70_0 V0 (ix4 b h t s) : EReal) = msk (vis t s) ((a.head b h).sc t s) := by
  unfold res_main_v70_0
  clean_types
  pointwise
  rw [v70_1_eq]
  simp only [v21_eq r, v39_eq r, ← EReal.coe_mul, coe_sum]
  rw [bias_eq r _ h t s (IntOp.subi (BitVec.ofNat 32 t) (BitVec.ofNat 32 s)) (by
    pointwise
    rw [v46_eq]
    rfl), bits_8th, ← EReal.coe_mul, ← EReal.coe_add]
  unfold msk
  split_ifs
  · rfl
  · exact bits_bot

theorem v71_eq (r : Reads V0 a) (b : Fin 2) (t : Fin 2048) (h : Fin 8) :
    ∃ m : ℝ, (res_main_v71 V0 (ix3 b h t) : EReal) = (m : EReal) := by
  unfold res_main_v71
  clean_types
  pointwise
  rw [bits_bot]
  refine fold_max_real _ _ (fun s _ => ?_) t (Finset.mem_univ _) ?_
  · rw [v70_0_eq r]; exact msk_ne_top _ _
  · rw [v70_0_eq r]; unfold msk; rw [if_pos (vis_self _)]; exact EReal.coe_ne_bot _

/-- The shifted exponential, at an index. -/
theorem exp_shift (x : FVec Ideal S2x8x2048x2048 .f32) (y : FVec Ideal S2x8x2048 .f32) (b : Fin 2) (t s : Fin 2048) (h : Fin 8) :
    (Host.exp (subf x (broadcastInDim S2x8x2048x2048 ![0, 1, 2, 3] Gen.bcast_S2x8x2048x1_S2x8x2048x2048_0_1_2_3 (broadcastInDim S2x8x2048x1 ![0, 1, 2] Gen.bcast_S2x8x2048_S2x8x2048x1_0_1_2 (maximumf (broadcastInDim S2x8x2048 ![] Gen.bcast_S_S2x8x2048 (constant S_ .f32 0xFF800000#32)) y)))) (ix4 b h t s) : EReal)
      = Ideal.exp (x (ix4 b h t s) - max (Ideal.ofBits .f32 0xFF800000#32) (y (ix3 b h t))) := by
  pointwise

theorem v91_eq (r : Reads V0 a) (b : Fin 2) (t : Fin 2048) (h : Fin 8) :
    ∃ m : ℝ, 0 < m ∧ ∀ s, (res_main_v91 V0 (ix4 b h t s) : EReal) = (((a.head b h).ee t s * m : ℝ) : EReal) := by
  obtain ⟨m, hm⟩ := v71_eq r b t h
  refine ⟨Real.exp (-m), Real.exp_pos _, fun s => ?_⟩
  refine (exp_shift _ _ b t s h).trans ?_
  rw [hm, bits_bot, max_eq_right bot_le, v70_0_eq r, exp_msk]
  rfl

theorem v93_eq (b : Fin 2) (t : Fin 2048) (h : Fin 8) (z : Fin 1) (f : Fin 2048 → ℝ)
    (hf : ∀ s, (res_main_v91 V0 (ix4 b h t s) : EReal) = (f s : EReal)) :
    (res_main_v93 V0 (ix4 b h t z) : EReal) = ((∑ s, f s : ℝ) : EReal) := by
  unfold res_main_v93
  clean_types
  pointwise
  simp only [hf, coe_sum]

theorem v95_eq (r : Reads V0 a) (b : Fin 2) (t s : Fin 2048) (h : Fin 8) :
    (res_main_v95 V0 (ix4 b h t s) : EReal) = ((a.head b h).pp t s : EReal) := by
  unfold res_main_v95
  clean_types
  pointwise
  obtain ⟨m, hm, he⟩ := v91_eq r b t h
  have hz := (a.head b h).zz_pos t
  have hz' : (∑ s, (a.head b h).ee t s * m) = (a.head b h).zz t * m := (Finset.sum_mul ..).symm
  rw [v93_eq b t h _ _ he, he, hz', div_real (mul_pos hz hm).ne']
  congr 1
  unfold Head.pp
  rw [mul_div_mul_right _ _ hm.ne']

theorem v103_eq (r : Reads V0 a) (b : Fin 2) (t : Fin 2048) (h : Fin 8) (d : Fin 64) :
    (res_main_v103 V0 (ix4 b h d t) : EReal) = ((a.head b h).c t d : EReal) := by
  unfold res_main_v103
  clean_types
  pointwise
  exact r.h4 _ _

theorem v104_eq (r : Reads V0 a) (b : Fin 2) (t s : Fin 2048) (h : Fin 8) :
    (res_main_v104 V0 (ix4 b h t s) : EReal) = ((a.head b h).dp t s : EReal) := by
  unfold res_main_v104 res_main_v103
  clean_types
  pointwise
  have h4 : ∀ x : Fin 64, (V0 (Proc.devRef .tc main_arg4) (ix2 (row b t) (colC h x)) : EReal) = ((a.head b h).c t x : EReal) := fun x => r.h4 _ _
  unfold row colC at h4
  simp only [h4, v40_eq r, ← EReal.coe_mul, coe_sum]
  rfl

theorem v121_eq (r : Reads V0 a) (b : Fin 2) (t s : Fin 2048) (h : Fin 8) :
    (res_main_v121 V0 (ix4 b h t s) : EReal) = (((a.head b h).ds t s * (1 / 8) : ℝ) : EReal) := by
  unfold res_main_v121
  clean_types
  pointwise
  rw [v70_1_eq]
  obtain ⟨m, hm, he⟩ := v91_eq r b t h
  have hz := (a.head b h).zz_pos t
  have hz' : (∑ s, (a.head b h).ee t s * m) = (a.head b h).zz t * m := (Finset.sum_mul ..).symm
  have hne := (mul_pos hz hm).ne'
  simp only [v93_eq b t h _ _ he, he, v104_eq r, hz', Finset.univ_unique, Finset.sum_singleton, ← EReal.coe_mul]
  simp only [div_real hne, one_div_real (mul_ne_zero hne hne), ← EReal.coe_mul, coe_sum, ← EReal.coe_neg, ← EReal.coe_add, bits_8th]
  have hs : ∑ x, (a.head b h).dp t x * (1 / ((a.head b h).zz t * m * ((a.head b h).zz t * m))) * ((a.head b h).ee t x * m)
      = (∑ u, (a.head b h).pp t u * (a.head b h).dp t u) / ((a.head b h).zz t * m) := by
    rw [Finset.sum_div]
    refine Finset.sum_congr rfl fun x _ => ?_
    unfold Head.pp
    field_simp
  rw [hs]
  unfold Head.ds
  generalize (∑ u, (a.head b h).pp t u * (a.head b h).dp t u) = S
  split_ifs with hv
  · show ((_ : ℝ) : EReal) = _
    congr 1
    unfold Head.pp
    field_simp
    ring
  · show (0 : EReal) = _
    unfold Head.pp Head.ee
    rw [if_neg hv]
    simp

theorem v128_eq (r : Reads V0 a) (b : Fin 2) (s : Fin 2048) (h : Fin 8) (d : Fin 64) :
    (res_main_v128 V0 (ix4 b s h d) : EReal) = ((a.gk d * (a.head b h).dkn s d : ℝ) : EReal) := by
  unfold res_main_v128 res_main_v37
  clean_types
  pointwise
  simp only [v121_eq r, v21_eq r, ← EReal.coe_mul, coe_sum]
  refine (congrArg _ (r.h2 d)).trans ?_
  rw [← EReal.coe_mul]
  congr 1
  unfold Head.dkn
  rw [Finset.sum_mul, Finset.sum_mul, Finset.mul_sum]
  exact Finset.sum_congr rfl fun _ _ => by ring

theorem v145_eq (r : Reads V0 a) (b : Fin 2) (t : Fin 2048) (h : Fin 8) (d : Fin 64) :
    (res_main_v145 V0 (ix4 b t h d) : EReal) = ((a.gq d * (a.head b h).dqn t d : ℝ) : EReal) := by
  unfold res_main_v145 res_main_v19
  clean_types
  pointwise
  simp only [v121_eq r, v39_eq r, ← EReal.coe_mul, coe_sum]
  refine (congrArg _ (r.h1 d)).trans ?_
  rw [← EReal.coe_mul]
  congr 1
  unfold Head.dqn
  rw [Finset.sum_mul, Finset.sum_mul, Finset.mul_sum]
  exact Finset.sum_congr rfl fun _ _ => by ring

theorem v138_eq (r : Reads V0 a) (b : Fin 2) (s : Fin 2048) (h : Fin 8) (d : Fin 64) :
    (res_main_v138 V0 (ix4 b s h d) : EReal) = ((-(1 / 2) * rr ((a.head b h).k s) ^ 3 / 64 * ∑ e, (a.head b h).k s e * (a.gk e * (a.head b h).dkn s e) : ℝ) : EReal) := by
  unfold res_main_v138
  clean_types
  pointwise
  have hne : ms ((a.head b h).k s) ≠ 0 := (ms_pos _).ne'
  simp only [v22_eq r, v128_eq r, v31_eq r, v30_eq r, div_real hne, bits_neg_half, bits_64, ← EReal.coe_mul, coe_sum,
    Finset.univ_unique, Finset.sum_singleton]
  rw [div_real (by norm_num)]
  congr 1
  rw [← rr_cube]
  unfold ms
  ring

theorem v155_eq (r : Reads V0 a) (b : Fin 2) (s : Fin 2048) (h : Fin 8) (d : Fin 64) :
    (res_main_v155 V0 (ix4 b s h d) : EReal) = ((-(1 / 2) * rr ((a.head b h).q s) ^ 3 / 64 * ∑ e, (a.head b h).q s e * (a.gq e * (a.head b h).dqn s e) : ℝ) : EReal) := by
  unfold res_main_v155
  clean_types
  pointwise
  have hne : ms ((a.head b h).q s) ≠ 0 := (ms_pos _).ne'
  simp only [v4_eq r, v145_eq r, v13_eq r, v12_eq r, div_real hne, bits_neg_half, bits_64, ← EReal.coe_mul, coe_sum,
    Finset.univ_unique, Finset.sum_singleton]
  rw [div_real (by norm_num)]
  congr 1
  rw [← rr_cube]
  unfold ms
  ring

/-- The result `v161`, of the reference's values. -/
def r161 (V0 : Valuation τ sig (Elt Ideal)) : FVec Ideal S4096x512 .bf16 := truncf .bf16 (shapeCast _ (addf (addf (mulf (res_main_v145 V0) (broadcastInDim S2x2048x8x64 ![0, 1, 2, 3] Gen.bcast_S2x2048x8x1_S2x2048x8x64_0_1_2_3 (res_main_v13 V0))) (mulf (res_main_v4 V0) (res_main_v155 V0))) (mulf (res_main_v155 V0) (res_main_v4 V0))) Gen.shapeCasts_S2x2048x8x64_S4096x512) Gen.bitsLt_bf16_f32

theorem v161_eq (r : Reads V0 a) (i : Fin 4096) (j : Fin 512) :
    (r161 V0 (ix2 i j) : EReal) = ((a.head ⟨i / 2048, by omega⟩ ⟨j / 64, by omega⟩).dq ⟨i % 2048, by omega⟩ ⟨j % 64, by omega⟩ : EReal) := by
  unfold r161
  clean_types
  pointwise
  simp only [v145_eq r, v13_eq r, v4_eq r, v155_eq r, ← EReal.coe_mul, ← EReal.coe_add]
  congr 1
  unfold Head.dq nb
  simp only [Args.head]
  ring

/-- The result `v162`, of the reference's values. -/
def r162 (V0 : Valuation τ sig (Elt Ideal)) : FVec Ideal S4096x512 .bf16 := truncf .bf16 (shapeCast _ (addf (addf (mulf (res_main_v128 V0) (broadcastInDim S2x2048x8x64 ![0, 1, 2, 3] Gen.bcast_S2x2048x8x1_S2x2048x8x64_0_1_2_3 (res_main_v31 V0))) (mulf (res_main_v22 V0) (res_main_v138 V0))) (mulf (res_main_v138 V0) (res_main_v22 V0))) Gen.shapeCasts_S2x2048x8x64_S4096x512) Gen.bitsLt_bf16_f32

theorem v162_eq (r : Reads V0 a) (i : Fin 4096) (j : Fin 512) :
    (r162 V0 (ix2 i j) : EReal) = ((a.head ⟨i / 2048, by omega⟩ ⟨j / 64, by omega⟩).dk ⟨i % 2048, by omega⟩ ⟨j % 64, by omega⟩ : EReal) := by
  unfold r162
  clean_types
  pointwise
  simp only [v128_eq r, v31_eq r, v22_eq r, v138_eq r, ← EReal.coe_mul, ← EReal.coe_add]
  congr 1
  unfold Head.dk nb
  simp only [Args.head]
  ring

/-- The result `v163`, of the reference's values. -/
def r163 (V0 : Valuation τ sig (Elt Ideal)) : FVec Ideal S4096x512 .bf16 := truncf .bf16 (shapeCast _ (transpose S2x2048x8x64 [0, 3, 1, 2] (Host.dotGeneral (φ₁ := .f32) (φ₂ := .f32) dot_S2x8x64x2048_S2x8x2048x2048_S2x8x64x2048_3_2_2_3_01_01 none (res_main_v103 V0) (res_main_v95 V0)) Gen.transposes_S2x8x64x2048_S2x2048x8x64_0_3_1_2) Gen.shapeCasts_S2x2048x8x64_S4096x512) Gen.bitsLt_bf16_f32

theorem v163_eq (r : Reads V0 a) (i : Fin 4096) (j : Fin 512) :
    (r163 V0 (ix2 i j) : EReal) = ((a.head ⟨i / 2048, by omega⟩ ⟨j / 64, by omega⟩).dv ⟨i % 2048, by omega⟩ ⟨j % 64, by omega⟩ : EReal) := by
  unfold r163
  clean_types
  pointwise
  simp only [v103_eq r, v95_eq r, ← EReal.coe_mul, coe_sum]
  congr 1
  exact Finset.sum_congr rfl fun _ _ => mul_comm _ _

end Cert.ReferenceIdeal.Hand
-- ==== Proof.Run.lean ====
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal Cert.KernelIdeal.Gen

variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Output block 0 of grid point `t`. -/
def ob0 (c : Dev nD) (t : Fin cfg0.N) : Vec F S2048x128 .bf16 := oDq (iblk m c 0 t) (iblk m c 1 t) (iblk m c 2 t) (iblk m c 3 t) (iblk m c 4 t) (iblk m c 5 t) (iblk m c 6 t) (iblk m c 7 t)
/-- Output block 1 of grid point `t`. -/
def ob1 (c : Dev nD) (t : Fin cfg0.N) : Vec F S2048x128 .bf16 := oDk (iblk m c 0 t) (iblk m c 1 t) (iblk m c 2 t) (iblk m c 3 t) (iblk m c 4 t) (iblk m c 5 t) (iblk m c 6 t) (iblk m c 7 t)
/-- Output block 2 of grid point `t`. -/
def ob2 (c : Dev nD) (t : Fin cfg0.N) : Vec F S2048x128 .bf16 := oDv (iblk m c 0 t) (iblk m c 1 t) (iblk m c 2 t) (iblk m c 3 t) (iblk m c 4 t) (iblk m c 5 t) (iblk m c 6 t) (iblk m c 7 t)
/-- Output block 3 of grid point `t`. -/
def ob3 (c : Dev nD) (t : Fin cfg0.N) : Vec F S1x640x128 .f32 := oDb (iblk m c 0 t) (iblk m c 1 t) (iblk m c 2 t) (iblk m c 3 t) (iblk m c 4 t) (iblk m c 5 t) (iblk m c 6 t) (iblk m c 7 t)
/-- Output block 4 of grid point `t`. -/
def ob4 (c : Dev nD) (t : Fin cfg0.N) : Vec F S1x1x128 .f32 := oGq (iblk m c 0 t) (iblk m c 1 t) (iblk m c 2 t) (iblk m c 3 t) (iblk m c 4 t) (iblk m c 5 t) (iblk m c 6 t) (iblk m c 7 t)
/-- Output block 5 of grid point `t`. -/
def ob5 (c : Dev nD) (t : Fin cfg0.N) : Vec F S1x1x128 .f32 := oGk (iblk m c 0 t) (iblk m c 1 t) (iblk m c 2 t) (iblk m c 3 t) (iblk m c 4 t) (iblk m c 5 t) (iblk m c 6 t) (iblk m c 7 t)

/-- The proof data of the pipeline: each input's block kept, each output's block as computed from the point's inputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ob0 m c t
    | ⟨9, _⟩ => ob1 m c t
    | ⟨10, _⟩ => ob2 m c t
    | ⟨11, _⟩ => ob3 m c t
    | ⟨12, _⟩ => ob4 m c t
    | ⟨13, _⟩ => ob5 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = ob0 m c t := by dsimp only [dats]
theorem after0_9 (c : Dev nD) (t : Fin cfg0.N) : (dats m 0 c).after 9 t = ob1 m c t := by dsimp only [dats]
theorem after0_10 (c : Dev nD) (t : Fin cfg0.N) : (dats m 0 c).after 10 t = ob2 m c t := by dsimp only [dats]
theorem after0_11 (c : Dev nD) (t : Fin cfg0.N) : (dats m 0 c).after 11 t = ob3 m c t := by dsimp only [dats]
theorem after0_12 (c : Dev nD) (t : Fin cfg0.N) : (dats m 0 c).after 12 t = ob4 m c t := by dsimp only [dats]
theorem after0_13 (c : Dev nD) (t : Fin cfg0.N) : (dats m 0 c).after 13 t = ob5 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
abbrev scM0 : Memref sig .tc .vmem S2048x128 .bf16 := Memref.whole cc0_scratch0
abbrev scM1 : Memref sig .tc .vmem S2624x128 .bf16 := Memref.whole cc0_scratch1
abbrev scM2 : Memref sig .tc .vmem S2624x128 .bf16 := Memref.whole cc0_scratch2
abbrev scM3 : Memref sig .tc .vmem S2048x128 .f32 := Memref.whole cc0_scratch3
abbrev scM4 : Memref sig .tc .vmem S2624x128 .f32 := Memref.whole cc0_scratch4
abbrev scM5 : Memref sig .tc .vmem S2624x128 .f32 := Memref.whole cc0_scratch5
abbrev scM6 : Memref sig .tc .vmem S640x128 .f32 := Memref.whole cc0_scratch6

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d)) ∗ (∃ r, prngReg c r)) := by
  unfold Pipeline.ΦA; rw [scopedRest0_eq]; simp only [scM0, scM1, scM2, scM3, scM4, scM5, scM6, owns_whole]; try rfl

/-- What a grid point is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold ob0 ob1 ob2 ob3 ob4 ob5
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((body_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: the arrays end as the pipeline's blocks leave them, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The six results as the blocks leave them, and the arguments unchanged, every counter at zero. -/
theorem run : θ_run defs (onTc (τ := τ) (main (F := F))) ⟨m, fun _ => 0, ρ⟩ (fun r => (∀ c : Dev nD,
      r.2.mem ((c.tc : Thread nD τ).loc main_v99_0) = (dats m 0 c).arrAt 8 cfg0.N
      ∧ r.2.mem ((c.tc : Thread nD τ).loc main_v99_1) = (dats m 0 c).arrAt 9 cfg0.N
      ∧ r.2.mem ((c.tc : Thread nD τ).loc main_v99_2) = (dats m 0 c).arrAt 10 cfg0.N
      ∧ r.2.mem ((c.tc : Thread nD τ).loc main_v99_3) = (dats m 0 c).arrAt 11 cfg0.N
      ∧ r.2.mem ((c.tc : Thread nD τ).loc main_v99_4) = (dats m 0 c).arrAt 12 cfg0.N
      ∧ r.2.mem ((c.tc : Thread nD τ).loc main_v99_5) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 8, (h.1 c).1 9, (h.1 c).1 10, (h.1 c).1 11, (h.1 c).1 12, (h.1 c).1 13,
      ((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c)))⟩, h.2⟩) (run_main_quiescent m ρ)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2.2.2.2.2.2, h.2⟩) (run m ρ)

end Cert.KernelIdeal.Hand

end
-- ==== Proof.Host.lean ====
module

public import proofs.«01_k».proof.Proof.Ref
public import proofs.«01_k».proof.Proof.Run
public import proofs.«01_k».proof.Proof.Pay
public import Idealize.ShloMosaic.Lib.StableHlo.ReadAt

@[expose] public section

set_option maxRecDepth 16384

noncomputable section

/-! What the host prepares for the kernel: the forward pass's output, the bias in the band's layout, the doubled gains. -/

namespace Cert.KernelIdeal.Hand

open Idealize.ShloMosaic Idealize.ShloMosaic.TcCoe Idealize.SL.Sem Cert.KernelIdeal Cert.KernelIdeal.Gen Cert.Att
open Idealize.ShloMosaic.StableHlo
open Cert.ReferenceIdeal.Value (res_main_v21 res_main_v39 res_main_v40 res_main_v70_0 res_main_v95)

variable (m : (ℓ : Loc nD τ sig) → Buf (Elt Ideal) ℓ) (c : Dev nD)

/-- Both programs' arguments. -/
structure SameK (W : Valuation τ sig (Elt Ideal)) (x0 : FVec Ideal ⟨2, ![4096, 3584]⟩ .f32) (x1 x2 : FVec Ideal ⟨2, ![1, 64]⟩ .f32)
    (x3 : FVec Ideal ⟨2, ![8, 257]⟩ .f32) : Prop where
  h0 : W (Proc.devRef .tc main_arg0) = x0
  h1 : W (Proc.devRef .tc main_arg1) = x1
  h2 : W (Proc.devRef .tc main_arg2) = x2
  h3 : W (Proc.devRef .tc main_arg3) = x3

structure SameR (W : Valuation Cert.ReferenceIdeal.τ Cert.ReferenceIdeal.sig (Elt Ideal)) (x0 : FVec Ideal ⟨2, ![4096, 3584]⟩ .f32) (x1 x2 : FVec Ideal ⟨2, ![1, 64]⟩ .f32)
    (x3 : FVec Ideal ⟨2, ![8, 257]⟩ .f32) : Prop where
  h0 : W (Proc.devRef .tc Cert.ReferenceIdeal.main_arg0) = x0
  h1 : W (Proc.devRef .tc Cert.ReferenceIdeal.main_arg1) = x1
  h2 : W (Proc.devRef .tc Cert.ReferenceIdeal.main_arg2) = x2
  h3 : W (Proc.devRef .tc Cert.ReferenceIdeal.main_arg3) = x3

variable {W : Valuation τ sig (Elt Ideal)} {V0 : Valuation Cert.ReferenceIdeal.τ Cert.ReferenceIdeal.sig (Elt Ideal)}
  {x0 : FVec Ideal ⟨2, ![4096, 3584]⟩ .f32} {x1 x2 : FVec Ideal ⟨2, ![1, 64]⟩ .f32} {x3 : FVec Ideal ⟨2, ![8, 257]⟩ .f32}

theorem w63 (h : SameK W x0 x1 x2 x3) (g : SameR V0 x0 x1 x2 x3) (i : Shape.Idx ⟨4, ![2, 8, 2048, 2048]⟩) :
   (after (List.flatten [hostOps0, hostOps0_1, hostOps0_2, hostOps0_3]) W (Proc.devRef .tc main_v63) i : EReal) = res_main_v70_0 V0 i := by
  after_reads_simp
  simp -implicitDefEqProofs only [StableHlo.TRef.toBuf, StableHlo.TRef.ofBuf, cast_cast, cast_eq]
  rw [h.h0, h.h1, h.h2, h.h3]
  unfold Cert.ReferenceIdeal.Value.res_main_v70_0 Cert.ReferenceIdeal.Value.res_main_v70_1
  unfold Cert.ReferenceIdeal.Value.res_main_v21 Cert.ReferenceIdeal.Value.res_main_v39 Cert.ReferenceIdeal.Value.res_main_v13 Cert.ReferenceIdeal.Value.res_main_v12 Cert.ReferenceIdeal.Value.res_main_v31 Cert.ReferenceIdeal.Value.res_main_v30 Cert.ReferenceIdeal.Value.res_main_v19 Cert.ReferenceIdeal.Value.res_main_v37 Cert.ReferenceIdeal.Value.res_main_v4 Cert.ReferenceIdeal.Value.res_main_v22
  unfold Cert.ReferenceIdeal.Value.res_main_v55 Cert.ReferenceIdeal.Value.res_main_v57 Cert.ReferenceIdeal.Value.res_main_v46 Cert.ReferenceIdeal.Value.res_main_v41 Cert.ReferenceIdeal.Value.res_main_v42
  rw [g.h0, g.h1, g.h2, g.h3]
  rfl

theorem w33 (h : SameK W x0 x1 x2 x3) (g : SameR V0 x0 x1 x2 x3) (i : Shape.Idx ⟨4, ![2, 2048, 8, 64]⟩) :
   (after (List.flatten [hostOps0, hostOps0_1, hostOps0_2, hostOps0_3]) W (Proc.devRef .tc main_v33) i : EReal) = res_main_v40 V0 i := by
  after_reads_simp
  rw [h.h0]
  unfold Cert.ReferenceIdeal.Value.res_main_v40
  rw [g.h0]
  rfl

/-- The attention's output, of its values and probabilities. -/
def outOf (v : FVec Ideal ⟨4, ![2, 2048, 8, 64]⟩ .f32) (p : FVec Ideal ⟨4, ![2, 8, 2048, 2048]⟩ .f32) : FVec Ideal ⟨2, ![4096, 512]⟩ .f32 :=
  shapeCast ⟨2, ![4096, 512]⟩ (transpose S2x2048x8x64 [0, 3, 1, 2] (Host.dotGeneral (φ₁ := .f32) (φ₂ := .f32) dot_S2x2048x8x64_S2x8x2048x2048_S2x8x64x2048_1_3_3_2_02_01 none v p) transposes_S2x8x64x2048_S2x2048x8x64_0_3_1_2) shapeCasts_S2x2048x8x64_S4096x512

theorem w77 (hy : ∀ i : Shape.Idx ⟨4, ![2, 8, 2048, 2048]⟩, (W (Proc.devRef .tc main_v63) i : EReal) = res_main_v70_0 V0 i)
    (hz : ∀ i : Shape.Idx ⟨4, ![2, 2048, 8, 64]⟩, (W (Proc.devRef .tc main_v33) i : EReal) = res_main_v40 V0 i) (i : Shape.Idx ⟨2, ![4096, 512]⟩) :
   (after (List.flatten [hostOps0_4, hostOps0_5, hostOps0_6]) W (Proc.devRef .tc main_v77) i : EReal) = outOf (res_main_v40 V0) (res_main_v95 V0) i := by
  obtain ⟨y, ey⟩ : ∃ y : FVec Ideal ⟨4, ![2, 8, 2048, 2048]⟩ .f32, y = res_main_v70_0 V0 := ⟨_, rfl⟩
  obtain ⟨z, ez⟩ : ∃ z : FVec Ideal ⟨4, ![2, 2048, 8, 64]⟩ .f32, z = res_main_v40 V0 := ⟨_, rfl⟩
  have hy' : W (Proc.devRef .tc main_v63) = y := funext fun i => (hy i).trans (congrFun ey.symm i)
  have hz' : W (Proc.devRef .tc main_v33) = z := funext fun i => (hz i).trans (congrFun ez.symm i)
  after_reads_simp
  rw [hy', hz']
  unfold Cert.ReferenceIdeal.Value.res_main_v95 Cert.ReferenceIdeal.Value.res_main_v93 Cert.ReferenceIdeal.Value.res_main_v91 Cert.ReferenceIdeal.Value.res_main_v71
  rw [← ey, ← ez]
  rfl

theorem out_at (v : FVec Ideal ⟨4, ![2, 2048, 8, 64]⟩ .f32) (p : FVec Ideal ⟨4, ![2, 8, 2048, 2048]⟩ .f32) (b : Fin 2) (t : Fin 2048) (h : Fin 8) (d : Fin 64)
    (i : Fin 4096) (j : Fin 512) (hi : i = row b t) (hj : j.val = h * 64 + d) :
    (outOf v p (ix2 i j) : EReal) = ∑ s : Fin 2048, (v (ix4 b s h d) * p (ix4 b h t s) : EReal) := by
  have ej : j = ⟨h * 64 + d, by omega⟩ := Fin.ext hj
  rw [hi, ej]
  unfold outOf row
  clean_types
  pointwise

/-- The kernel's arguments hold these reals. -/
structure KReads (W : Valuation τ sig (Elt Ideal)) (a : Args) : Prop where
  h0 : ∀ i j, (W (Proc.devRef .tc main_arg0) (ix2 i j) : EReal) = (a.A i j : EReal)
  h1 : ∀ j, (W (Proc.devRef .tc main_arg1) (ix2 (0 : Fin 1) j) : EReal) = (a.gq j : EReal)
  h2 : ∀ j, (W (Proc.devRef .tc main_arg2) (ix2 (0 : Fin 1) j) : EReal) = (a.gk j : EReal)
  h3 : ∀ i j, (W (Proc.devRef .tc main_arg3) (ix2 i j) : EReal) = (a.R i j : EReal)
  h4 : ∀ i j, (W (Proc.devRef .tc main_arg4) (ix2 i j) : EReal) = (a.C i j : EReal)

/-- The host's operations before the kernel. -/
abbrev hostAll : List (HloOp τ sig (Elt Ideal)) := List.flatten [hostOps0, hostOps0_1, hostOps0_2, hostOps0_3, hostOps0_4, hostOps0_5, hostOps0_6]

/-- The head of a grid point's column block and half. -/
def hd (hp : Fin 4) (g : Fin 2) : Fin 8 := ⟨2 * hp + g, by omega⟩

theorem out_eq {a : Args} (h : SameK W x0 x1 x2 x3) (g : SameR V0 x0 x1 x2 x3) (r : Cert.ReferenceIdeal.Hand.Reads V0 a)
    (b : Fin 2) (t : Fin 2048) (e : Fin 8) (d : Fin 64) (i : Fin 4096) (j : Fin 512) (hi : i = row b t) (hj : j.val = e * 64 + d) :
    (after hostAll W (Proc.devRef .tc main_v77) (ix2 i j) : EReal) = ((a.head b e).oo t d : EReal) := by
  have e1 : after hostAll W = after (List.flatten [hostOps0_4, hostOps0_5, hostOps0_6]) (after (List.flatten [hostOps0, hostOps0_1, hostOps0_2, hostOps0_3]) W) := by
    rw [← Idealize.ShloMosaic.StableHlo.after_append]
    rfl
  rw [e1]
  refine (w77 (V0 := V0) (fun i => w63 h g i) (fun i => w33 h g i) (ix2 i j)).trans ?_
  refine (out_at _ _ b t e d i j hi hj).trans ?_
  have e2 : ∀ s : Fin 2048, (@HMul.hMul EReal EReal EReal _ (res_main_v40 V0 (ix4 b s e d)) (res_main_v95 V0 (ix4 b e t s))) = (((a.head b e).pp t s * (a.head b e).v s d : ℝ) : EReal) := by
    intro s
    rw [Cert.ReferenceIdeal.Hand.v40_eq r, Cert.ReferenceIdeal.Hand.v95_eq r, mul_comm, EReal.coe_mul]
  refine (Finset.sum_congr rfl fun s _ => e2 s).trans ?_
  rw [coe_sum]
  rfl

theorem bias_at {a : Args} (r : KReads W a) (hp : Fin 4) (g : Fin 2) (s : Fin 640) (j : Fin 64) :
    (after hostAll W (Proc.devRef .tc main_v98) (ix2 (⟨640 * hp + s, by omega⟩ : Fin 2560) (lane g j)) : EReal)
      = (a.R (hd hp g) (relIx (IntOp.subi (IntOp.addi (BitVec.ofNat 32 j) 576#32) (BitVec.ofNat 32 s))) : EReal) := by
  unfold lane
  after_reads_at
  refine (gather_cols _ _ _ _ _ _).trans ?_
  have e1 : (⟨(hp.val * 128 + (64 * g.val + j.val)) / 64, by omega⟩ : Fin 8) = hd hp g := Fin.ext (by show (hp.val * 128 + (64 * g.val + j.val)) / 64 = 2 * hp.val + g.val; omega)
  have e2 : (⟨(hp.val * 128 + (64 * g.val + j.val)) % 64, by omega⟩ : Fin 64) = j := Fin.ext (by show (hp.val * 128 + (64 * g.val + j.val)) % 64 = j.val; omega)
  rw [e1, e2]
  refine (r.h3 _ _).trans ?_
  unfold relIx
  congr 3

theorem gq_at {a : Args} (r : KReads W a) (g : Fin 2) (j : Fin 64) :
    (after hostAll W (Proc.devRef .tc main_v94) (ix2 (0 : Fin 1) (lane g j)) : EReal) = (a.gq j : EReal) := by
  unfold lane
  after_reads_simp
  clean_types
  pointwise
  by_cases h : 64 * g.val + j.val < 64
  · rw [dif_pos h]
    refine (r.h1 _).trans (congrArg _ (congrArg _ (Fin.ext ?_)))
    show 64 * g.val + j.val = j.val
    omega
  · rw [dif_neg h]
    refine (r.h1 _).trans (congrArg _ (congrArg _ (Fin.ext ?_)))
    show 64 * g.val + j.val - 64 = j.val
    omega

theorem gk_at {a : Args} (r : KReads W a) (g : Fin 2) (j : Fin 64) :
    (after hostAll W (Proc.devRef .tc main_v95) (ix2 (0 : Fin 1) (lane g j)) : EReal) = (a.gk j : EReal) := by
  unfold lane
  after_reads_simp
  clean_types
  pointwise
  by_cases h : 64 * g.val + j.val < 64
  · rw [dif_pos h]
    refine (r.h2 _).trans (congrArg _ (congrArg _ (Fin.ext ?_)))
    show 64 * g.val + j.val = j.val
    omega
  · rw [dif_neg h]
    refine (r.h2 _).trans (congrArg _ (congrArg _ (Fin.ext ?_)))
    show 64 * g.val + j.val - 64 = j.val
    omega

end Cert.KernelIdeal.Hand

end
-- ==== Proof.Value.lean ====
module

public import proofs.«01_k».proof.Proof.Blk
public import proofs.«01_k».proof.Proof.Host
public import Idealize.ShloMosaic.Lib.Pipeline.ValueKit

@[expose] public section

set_option maxRecDepth 16384

noncomputable section

/-! The kernel's three result arrays, over the reals its arguments hold. -/

namespace Cert.KernelIdeal.Hand

open Idealize.ShloMosaic Idealize.ShloMosaic.TcCoe Idealize.SL.Sem Cert.KernelIdeal Cert.KernelIdeal.Gen Cert.Att

variable (m : (ℓ : Loc nD τ sig) → Buf (Elt Ideal) ℓ)

theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, t.val % 4] ∧ win0_4.index t = ![t.val / 4, t.val % 4]
    ∧ win0_5.index t = ![t.val % 4, 0] ∧ win0_6.index t = ![0, 0] ∧ win0_7.index t = ![0, 0]
    ∧ win0_8.index t = ![t.val / 4, t.val % 4] ∧ win0_9.index t = ![t.val / 4, t.val % 4] ∧ win0_10.index t = ![t.val / 4, t.val % 4] ∧ t.val / 4 < 2 :=
  (by decide +kernel : ∀ t : Fin grid0.N, _)

/-- The batch entry and the column block of a grid point. -/
def bOf (t : Fin cfg0.N) : Fin 2 := ⟨t.val / 4, (idx t).2.2.2.2.2.2.2.2.2.2.2⟩
def hOf (t : Fin cfg0.N) : Fin 4 := ⟨t.val % 4, Nat.mod_lt _ (by norm_num)⟩

theorem blk0 (c : Dev nD) (t : Fin cfg0.N) (r : Fin 2048) (g : Fin 2) (d : Fin 64) :
    (iblk m c 0 t (ix2 r (lane g d)) : EReal) = V m c main_arg0 (ix2 (row (bOf t) r) (colP 0 (by omega) (hd (hOf t) g) d)) := by
  unfold row colP lane hd bOf hOf
  blk_ext [iblk, idx t]

theorem blk1 (c : Dev nD) (t : Fin cfg0.N) (r : Fin 2048) (g : Fin 2) (d : Fin 64) :
    (iblk m c 1 t (ix2 r (lane g d)) : EReal) = V m c main_arg0 (ix2 (row (bOf t) r) (colP 512 (by omega) (hd (hOf t) g) d)) := by
  unfold row colP lane hd bOf hOf
  blk_ext [iblk, idx t]

theorem blk2 (c : Dev nD) (t : Fin cfg0.N) (r : Fin 2048) (g : Fin 2) (d : Fin 64) :
    (iblk m c 2 t (ix2 r (lane g d)) : EReal) = V m c main_arg0 (ix2 (row (bOf t) r) (colP 1024 (by omega) (hd (hOf t) g) d)) := by
  unfold row colP lane hd bOf hOf
  blk_ext [iblk, idx t]

/-- A head's lane among the 512 columns. -/
def colO (h : Fin 8) (d : Fin 64) : Fin 512 := ⟨h * 64 + d, by omega⟩

theorem blk3 (c : Dev nD) (t : Fin cfg0.N) (r : Fin 2048) (g : Fin 2) (d : Fin 64) :
    (iblk m c 3 t (ix2 r (lane g d)) : EReal) = V m c main_v77 (ix2 (row (bOf t) r) (colO (hd (hOf t) g) d)) := by
  unfold row colO lane hd bOf hOf
  blk_ext [iblk, idx t]

theorem blk4 (c : Dev nD) (t : Fin cfg0.N) (r : Fin 2048) (g : Fin 2) (d : Fin 64) :
    (iblk m c 4 t (ix2 r (lane g d)) : EReal) = V m c main_arg4 (ix2 (row (bOf t) r) (colC (hd (hOf t) g) d)) := by
  unfold row colC lane hd bOf hOf
  blk_ext [iblk, idx t]

theorem blk5 (c : Dev nD) (t : Fin cfg0.N) (s : Fin 640) (l : Fin 128) :
    (iblk m c 5 t (ix2 s l) : EReal) = V m c main_v98 (ix2 (⟨640 * (hOf t).val + s, by omega⟩ : Fin 2560) l) := by
  unfold hOf
  blk_ext [iblk, idx t]

theorem blk6 (c : Dev nD) (t : Fin cfg0.N) (s : Fin 1) (l : Fin 128) :
    (iblk m c 6 t (ix2 s l) : EReal) = V m c main_v94 (ix2 (0 : Fin 1) l) := by
  blk_ext [iblk, idx t]

theorem blk7 (c : Dev nD) (t : Fin cfg0.N) (s : Fin 1) (l : Fin 128) :
    (iblk m c 7 t (ix2 s l) : EReal) = V m c main_v95 (ix2 (0 : Fin 1) l) := by
  blk_ext [iblk, idx t]

theorem word_eq (n : ℕ) (j : Fin 64) (s : Fin 640) (h : 576 ≤ (rb n s).val) :
    IntOp.subi (IntOp.addi (BitVec.ofNat 32 j) 576#32) (BitVec.ofNat 32 s) = IntOp.subi (BitVec.ofNat 32 (tt n j)) (BitVec.ofNat 32 (bs n s)) := by
  unfold rb at h
  unfold tt bs
  have hj := j.isLt
  have hs := s.isLt
  have hn : n % 32 < 32 := Nat.mod_lt _ (by norm_num)
  have h' : 576 ≤ 64 * (n % 32) + s.val := h
  unfold IntOp.subi IntOp.addi
  refine BitVec.eq_of_toNat_eq ?_
  simp only [BitVec.toNat_sub, BitVec.toNat_add, BitVec.toNat_ofNat]
  omega

/-- What a grid point reads, as the two heads' reals. -/
theorem blk_real {a : Args} {c : Dev nD} (r : KReads (fun b => m (c, b)) a)
    (ho : ∀ (b : Fin 2) (t : Fin 2048) (e : Fin 8) (d : Fin 64), (V m c main_v77 (ix2 (row b t) (colO e d)) : EReal) = ((a.head b e).oo t d : EReal))
    (t : Fin cfg0.N) :
    BlkR (iblk m c 0 t) (iblk m c 1 t) (iblk m c 2 t) (iblk m c 3 t) (iblk m c 4 t) (iblk m c 5 t) (iblk m c 6 t) (iblk m c 7 t)
      (fun g => a.head (bOf t) (hd (hOf t) g)) where
  h0 g i d := (blk0 m c t i g d).trans (by rw [V_main_arg0]; exact r.h0 _ _)
  h1 g i d := (blk1 m c t i g d).trans (by rw [V_main_arg0]; exact r.h0 _ _)
  h2 g i d := (blk2 m c t i g d).trans (by rw [V_main_arg0]; exact r.h0 _ _)
  h3 g i d := (blk3 m c t i g d).trans (ho _ _ _ _)
  h4 g i d := (blk4 m c t i g d).trans (by rw [V_main_arg4]; exact r.h4 _ _)
  h5 g n s j hn hs := (blk5 m c t s (lane g j)).trans ((bias_at r (hOf t) g s j).trans (by rw [word_eq n j s hs]; rfl))
  h6 g i d := (blk6 m c t i (lane g d)).trans (gq_at r g d)
  h7 g i d := (blk7 m c t i (lane g d)).trans (gk_at r g d)

/-- A result array: at a row and a column, the reals of their head. -/
def resOf (a : Args) (f : Head → Fin 2048 → Fin 64 → ℝ) : FVec Ideal ⟨2, ![4096, 512]⟩ .bf16 := fun i =>
  ((f (a.head ⟨(i 0).val / 2048, by have : (i 0).val < 4096 := (i 0).isLt; omega⟩ ⟨(i 1).val / 64, by have : (i 1).val < 512 := (i 1).isLt; omega⟩)
    ⟨(i 0).val % 2048, by omega⟩ ⟨(i 1).val % 64, by omega⟩ : ℝ) : EReal)

theorem resOf_at (a : Args) (f : Head → Fin 2048 → Fin 64 → ℝ) (b : Fin 2) (hp : Fin 4) (g : Fin 2) (t : Fin 2048) (d : Fin 64)
    (i : Shape.Idx ⟨2, ![4096, 512]⟩) (h0 : (i 0).val = b * 2048 + t) (h1 : (i 1).val = hp * 128 + (64 * g + d)) :
    (resOf a f i : EReal) = ((f (a.head b (hd hp g)) t d : ℝ) : EReal) := by
  have key : ∀ (b' : Fin 2) (e' : Fin 8) (t' : Fin 2048) (d' : Fin 64), b' = b → e' = hd hp g → t' = t → d' = d →
      (((f (a.head b' e') t' d' : ℝ)) : EReal) = ((f (a.head b (hd hp g)) t d : ℝ) : EReal) := by
    rintro _ _ _ _ rfl rfl rfl rfl
    rfl
  refine key _ _ _ _ (Fin.ext ?_) (Fin.ext ?_) (Fin.ext ?_) (Fin.ext ?_)
  · show (i 0).val / 2048 = b.val
    omega
  · show (i 1).val / 64 = 2 * hp.val + g.val
    omega
  · show (i 0).val % 2048 = t.val
    omega
  · show (i 1).val % 64 = d.val
    omega

section Final
variable {a : Args} {c : Dev nD} (r : KReads (fun b => m (c, b)) a)
    (ho : ∀ (b : Fin 2) (t : Fin 2048) (e : Fin 8) (d : Fin 64), (V m c main_v77 (ix2 (row b t) (colO e d)) : EReal) = ((a.head b e).oo t d : EReal))
include r ho

theorem final8 : (dats m 0 c).arrAt 8 cfg0.N = resOf a Head.dq := by
  refine (dats m 0 c).arrAt_eq_of_covers 8 _ (by decide +kernel) fun t _ y => ?_
  blk_simp
  rw [after0_8]
  unfold ob0
  obtain ⟨p, l, rfl⟩ : ∃ (p : Fin 2048) (l : Fin 128), y = ix2 p l := ⟨y 0, y 1, by funext k; match k with | ⟨0, _⟩ => rfl | ⟨1, _⟩ => rfl⟩
  obtain ⟨g, d, rfl⟩ := lane_surj l
  refine (oDq_holds (blk_real m r ho t) g p d).trans (resOf_at a Head.dq (bOf t) (hOf t) g p d _ ?_ ?_).symm
  · blk_simp [idx t]; rfl
  · blk_simp [idx t]; rfl

theorem final9 : (dats m 0 c).arrAt 9 cfg0.N = resOf a Head.dk := by
  refine (dats m 0 c).arrAt_eq_of_covers 9 _ (by decide +kernel) fun t _ y => ?_
  blk_simp
  rw [after0_9]
  unfold ob1
  obtain ⟨p, l, rfl⟩ : ∃ (p : Fin 2048) (l : Fin 128), y = ix2 p l := ⟨y 0, y 1, by funext k; match k with | ⟨0, _⟩ => rfl | ⟨1, _⟩ => rfl⟩
  obtain ⟨g, d, rfl⟩ := lane_surj l
  refine (oDk_holds (blk_real m r ho t) g p d).trans (resOf_at a Head.dk (bOf t) (hOf t) g p d _ ?_ ?_).symm
  · blk_simp [idx t]; rfl
  · blk_simp [idx t]; rfl

theorem final10 : (dats m 0 c).arrAt 10 cfg0.N = resOf a Head.dv := by
  refine (dats m 0 c).arrAt_eq_of_covers 10 _ (by decide +kernel) fun t _ y => ?_
  blk_simp
  rw [after0_10]
  unfold ob2
  obtain ⟨p, l, rfl⟩ : ∃ (p : Fin 2048) (l : Fin 128), y = ix2 p l := ⟨y 0, y 1, by funext k; match k with | ⟨0, _⟩ => rfl | ⟨1, _⟩ => rfl⟩
  obtain ⟨g, d, rfl⟩ := lane_surj l
  refine (oDv_holds (blk_real m r ho t) g p d).trans (resOf_at a Head.dv (bOf t) (hOf t) g p d _ ?_ ?_).symm
  · blk_simp [idx t]; rfl
  · blk_simp [idx t]; rfl
end Final

end Cert.KernelIdeal.Hand

end
-- ==== Proof.Alg.lean ====
/- The two programs' results, each equal to the gradients of the heads of the reals that the arguments hold. -/
module

public import proofs.«01_k».proof.Proof.Pre
public import proofs.«01_k».proof.Proof.Value

@[expose] public section

namespace Cert.KernelIdeal.Hand

open Cert.KernelIdeal Cert.KernelIdeal.Gen Cert.Att
open Idealize.ShloMosaic Idealize.ShloMosaic.StableHlo Idealize.SL.Sem

variable {W : Valuation τ sig (Elt Ideal)} {V0 : Valuation Cert.ReferenceIdeal.τ Cert.ReferenceIdeal.sig (Elt Ideal)}
  {x0 : FVec Ideal ⟨2, ![4096, 3584]⟩ .f32} {x1 x2 : FVec Ideal ⟨2, ![1, 64]⟩ .f32} {x3 : FVec Ideal ⟨2, ![8, 257]⟩ .f32} {x4 : FVec Ideal ⟨2, ![4096, 1024]⟩ .f32}

/-- Every element is a real. -/
def Fin5 (x0 : FVec Ideal ⟨2, ![4096, 3584]⟩ .f32) (x1 x2 : FVec Ideal ⟨2, ![1, 64]⟩ .f32) (x3 : FVec Ideal ⟨2, ![8, 257]⟩ .f32) (x4 : FVec Ideal ⟨2, ![4096, 1024]⟩ .f32) : Prop :=
  (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) ∧ (∀ i, (x4 i : EReal) = ((x4 i : EReal).toReal : EReal))

theorem kreads (h : SameK W x0 x1 x2 x3) (h4 : W (Proc.devRef .tc main_arg4) = x4) (f : Fin5 x0 x1 x2 x3 x4) : KReads W (argsOf x0 x1 x2 x3 x4) where
  h0 i j := (congrFun h.h0 (ix2 i j)).trans (f.1 _)
  h1 j := (congrFun h.h1 (ix2 0 j)).trans (f.2.1 _)
  h2 j := (congrFun h.h2 (ix2 0 j)).trans (f.2.2.1 _)
  h3 i j := (congrFun h.h3 (ix2 i j)).trans (f.2.2.2.1 _)
  h4 i j := (congrFun h4 (ix2 i j)).trans (f.2.2.2.2 _)

theorem rreads (h : SameR V0 x0 x1 x2 x3) (h4 : V0 (Proc.devRef .tc Cert.ReferenceIdeal.main_arg4) = x4) (f : Fin5 x0 x1 x2 x3 x4) :
    Cert.ReferenceIdeal.Hand.Reads V0 (argsOf x0 x1 x2 x3 x4) where
  h0 i j := (congrFun h.h0 (ix2 i j)).trans (f.1 _)
  h1 j := (congrFun h.h1 (ix2 0 j)).trans (f.2.1 _)
  h2 j := (congrFun h.h2 (ix2 0 j)).trans (f.2.2.1 _)
  h3 i j := (congrFun h.h3 (ix2 i j)).trans (f.2.2.2.1 _)
  h4 i j := (congrFun h4 (ix2 i j)).trans (f.2.2.2.2 _)

theorem idx2 {A B : ℕ} (i : Shape.Idx ⟨2, ![A, B]⟩) : i = ix2 (i 0) (i 1) := by
  funext k
  match k with
  | ⟨0, _⟩ => rfl
  | ⟨1, _⟩ => rfl

theorem res161 {a : Args} (r : Cert.ReferenceIdeal.Hand.Reads V0 a) : Cert.ReferenceIdeal.Hand.r161 V0 = resOf a Head.dq := by
  funext i
  obtain ⟨p, j, rfl⟩ : ∃ (p : Fin 4096) (j : Fin 512), i = ix2 p j := ⟨i 0, i 1, idx2 i⟩
  exact Cert.ReferenceIdeal.Hand.v161_eq r p j

theorem res162 {a : Args} (r : Cert.ReferenceIdeal.Hand.Reads V0 a) : Cert.ReferenceIdeal.Hand.r162 V0 = resOf a Head.dk := by
  funext i
  obtain ⟨p, j, rfl⟩ : ∃ (p : Fin 4096) (j : Fin 512), i = ix2 p j := ⟨i 0, i 1, idx2 i⟩
  exact Cert.ReferenceIdeal.Hand.v162_eq r p j

theorem res163 {a : Args} (r : Cert.ReferenceIdeal.Hand.Reads V0 a) : Cert.ReferenceIdeal.Hand.r163 V0 = resOf a Head.dv := by
  funext i
  obtain ⟨p, j, rfl⟩ : ∃ (p : Fin 4096) (j : Fin 512), i = ix2 p j := ⟨i 0, i 1, idx2 i⟩
  exact Cert.ReferenceIdeal.Hand.v163_eq r p j

section

variable (m : (ℓ : Loc nD τ sig) → Buf (Elt Ideal) ℓ) (c : Dev nD)

/-- The host's forward result, as the kernel's launch holds it. -/
theorem outV (h : SameK (fun b => m (c, b)) x0 x1 x2 x3) (g : SameR V0 x0 x1 x2 x3) {a : Args} (r : Cert.ReferenceIdeal.Hand.Reads V0 a)
    (b : Fin 2) (t : Fin 2048) (e : Fin 8) (d : Fin 64) : (V m c main_v77 (ix2 (row b t) (colO e d)) : EReal) = ((a.head b e).oo t d : EReal) :=
  out_eq h g r b t e d (row b t) (colO e d) rfl rfl

/-- The kernel's three results. -/
theorem results (h : SameK (fun b => m (c, b)) x0 x1 x2 x3) (h4 : m (c, Proc.devRef .tc main_arg4) = x4) (g : SameR V0 x0 x1 x2 x3)
    (g4 : V0 (Proc.devRef .tc Cert.ReferenceIdeal.main_arg4) = x4) (f : Fin5 x0 x1 x2 x3 x4) :
    (dats m 0 c).arrAt 8 cfg0.N = resOf (argsOf x0 x1 x2 x3 x4) Head.dq ∧ (dats m 0 c).arrAt 9 cfg0.N = resOf (argsOf x0 x1 x2 x3 x4) Head.dk
      ∧ (dats m 0 c).arrAt 10 cfg0.N = resOf (argsOf x0 x1 x2 x3 x4) Head.dv :=
  ⟨final8 m (kreads h h4 f) (outV m c h g (rreads g g4 f)), final9 m (kreads h h4 f) (outV m c h g (rreads g g4 f)),
    final10 m (kreads h h4 f) (outV m c h g (rreads g g4 f))⟩

end

end Cert.KernelIdeal.Hand
-- ==== Proof.F3.lean ====
/- The gradient of the gate's weights: one product contracting the rows, in four blocks. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

noncomputable section

namespace Cert.Kernel3Ideal.Hand

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The product over the tokens: column `i` of the one with column `j` of the other. -/
def prod (x : FVec Ideal ⟨2, ![4096, 2816]⟩ .bf16) (h : FVec Ideal ⟨2, ![4096, 1024]⟩ .bf16) : FVec Ideal ⟨2, ![2816, 1024]⟩ .f32 :=
  fun i => ∑ k : Fin 4096, (x (ix2 k (i 0)) : EReal) * (h (ix2 k (i 1)) : EReal)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.Kernel3Ideal.Hand

namespace Cert.Reference3Ideal.Hand

open Idealize.ShloMosaic Idealize.SL.Sem Cert.Reference3Ideal Cert.Reference3Ideal.Gen

/-- The reference's product of the cotangent with the rows. -/
theorem ref_eq (x : FVec Ideal S4096x2816 .bf16) (h : FVec Ideal S4096x1024 .bf16) :
    transpose S2816x1024 [1, 0] (transpose S1024x2816 [1, 0] (Host.dotGeneral dot_S4096x2816_S4096x1024_S2816x1024_0_0_1_1_n_n none (extf .f32 x bitsLt_bf16_f32) (extf .f32 h bitsLt_bf16_f32)) transposes_S2816x1024_S1024x2816_1_0) transposes_S1024x2816_S2816x1024_1_0
      = Cert.Kernel3Ideal.Hand.prod x h := by
  funext i
  pointwise [Cert.Kernel3Ideal.Hand.prod]

end Cert.Reference3Ideal.Hand
-- ==== Proof.F4.lean ====
/- The gate's share of the gradient of the normalised input: one product in eight row blocks. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

noncomputable section

namespace Cert.Kernel4Ideal.Hand

open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The product: row `i` of the one with column `j` of the other. -/
def prod (x : FVec Ideal ⟨2, ![4096, 2816]⟩ .bf16) (w : FVec Ideal ⟨2, ![2816, 1024]⟩ .bf16) : FVec Ideal ⟨2, ![4096, 1024]⟩ .f32 :=
  fun i => ∑ k : Fin 2816, (x (ix2 (i 0) k) : EReal) * (w (ix2 k (i 1)) : EReal)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.Kernel4Ideal.Hand

namespace Cert.Reference4Ideal.Hand

open Idealize.ShloMosaic Idealize.SL.Sem Cert.Reference4Ideal Cert.Reference4Ideal.Gen

/-- The reference's product of the cotangent with the weights. -/
theorem ref_eq (x : FVec Ideal S4096x2816 .bf16) (w : FVec Ideal S2816x1024 .bf16) :
    Host.dotGeneral dot_S4096x2816_S1024x2816_S4096x1024_1_1_0_0_n_n none (extf .f32 x bitsLt_bf16_f32) (transpose S1024x2816 [1, 0] (extf .f32 w bitsLt_bf16_f32) transposes_S2816x1024_S1024x2816_1_0)
      = Cert.Kernel4Ideal.Hand.prod x w := by
  funext i
  pointwise [Cert.Kernel4Ideal.Hand.prod]

end Cert.Reference4Ideal.Hand
-- ==== Proof.F2.lean ====
/- The gated unit's backward pass between its two products: what the kernel leaves. -/
module

public import proofs.«01_k».proof.Proof.Gen.Kernel2Ideal.Value
public import Idealize.ShloMosaic.Lib.Pipeline.ValueKit
public import Idealize.ShloMosaic.Lib.Pointwise

@[expose] public section

noncomputable section

namespace Cert.Kernel2Ideal.Hand

open Idealize.ShloMosaic Idealize.ShloMosaic.TcCoe Idealize.SL.Sem Cert.Kernel2Ideal Cert.Kernel2Ideal.Gen

/-- The rows' cotangent, the weights of the last product, the gate and the other factor. -/
abbrev Tok := FVec Ideal ⟨2, ![4096, 1024]⟩ .bf16
abbrev Wts := FVec Ideal ⟨2, ![2816, 1024]⟩ .bf16
abbrev Mid := FVec Ideal ⟨2, ![4096, 2816]⟩ .bf16

/-- The logistic function as the kernel writes it. -/
def sgk (x : EReal) : EReal :=
  Ideal.ofBits .f32 0x3F000000#32 * Ideal.tanh (Ideal.ofBits .f32 0x3F000000#32 * x) + Ideal.ofBits .f32 0x3F000000#32

/-- Half the product of the cotangent with the weights. -/
def dk (y : Tok) (w : Wts) (i : Fin 4096) (f : Fin 2816) : EReal :=
  Ideal.ofBits .f32 0x3F000000#32 * ∑ j : Fin 1024, (y (ix2 i j) : EReal) * (w (ix2 f j) : EReal)

def dgate (y : Tok) (w : Wts) (g u : Mid) : Mid := fun i =>
  ((dk y w (i 0) (i 1) * (u i : EReal)) * (sgk (g i) * (Ideal.ofBits .f32 0x3F800000#32 + (g i : EReal) * (Ideal.ofBits .f32 0x3F800000#32 - sgk (g i)))) : EReal)

def dup (y : Tok) (w : Wts) (g : Mid) : Mid := fun i => (dk y w (i 0) (i 1) * ((g i : EReal) * sgk (g i)) : EReal)

/-- The share of the weights' gradient of one block of rows. -/
def part (y : Tok) (g u : Mid) (s : Fin 8) (f : Fin 2816) (j : Fin 1024) : EReal :=
  Ideal.ofBits .f32 0x3F000000#32 * ∑ k : Fin 512, ((g (ix2 ⟨512 * s + k, by omega⟩ f) : EReal) * sgk (g (ix2 ⟨512 * s + k, by omega⟩ f))) * (u (ix2 ⟨512 * s + k, by omega⟩ f) : EReal)
    * (y (ix2 ⟨512 * s + k, by omega⟩ j) : EReal)

def dwd (y : Tok) (g u : Mid) : FVec Ideal ⟨2, ![2816, 1024]⟩ .f32 := fun i => ∑ s : Fin 8, part y g u s (i 0) (i 1)

variable (m : (ℓ : Loc nD τ sig) → Buf (Elt Ideal) ℓ) (c : Dev nD)

theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] ∧ win0_6.index t = ![t.val / 8, 0] :=
  (by decide +kernel : ∀ t : Fin grid0.N, _)

theorem final4 : (dats m 0 c).arrAt 4 cfg0.N = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have h : (outsAt0 m c t.val t.isLt).1 = k0_pay7 (iblk m c 0 t) (iblk m c 1 t) (iblk m c 2 t) (iblk m c 3 t) := by
    by_cases h0 : t.val % 8 = 0
    · rw [outsAt0_A m c t h0 (by omega)]; frame_out
    · rw [outsAt0_B m c t h0 (by omega)]; frame_out
  rw [h]
  pointwise [k0_pay7, k0_pay2, k0_pay3, k0_pay4, k0_pay5, dgate, dk, sgk]
  blk_point [iblk, V, idx t]

theorem final5 : (dats m 0 c).arrAt 5 cfg0.N = dup (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have h : (outsAt0 m c t.val t.isLt).2.1 = k0_pay8 (iblk m c 0 t) (iblk m c 1 t) (iblk m c 2 t) := by
    by_cases h0 : t.val % 8 = 0
    · rw [outsAt0_A m c t h0 (by omega)]; frame_out
    · rw [outsAt0_B m c t h0 (by omega)]; frame_out
  rw [h]
  pointwise [k0_pay8, k0_pay6, k0_pay2, k0_pay3, k0_pay5, dup, dk, sgk]
  blk_point [iblk, V, idx t]

/-- One block of rows of the weights' gradient, of a point's blocks. -/
def tile (y : Vec Ideal S512x1024 .bf16) (g u : Vec Ideal S512x1408 .bf16) : FVec Ideal S1408x1024 .f32 := k0_pay9 y g u

theorem pay1 (a b : FVec Ideal S1408x1024 .f32) (j : S1408x1024.Idx) : (k0_pay1 (F := Ideal) a b j : EReal) = (b j : EReal) + (a j : EReal) := by
  pointwise [k0_pay1]

theorem final6 : (dats m 0 c).arrAt 6 cfg0.N = dwd (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
    (fun t => tile (iblk m c 0 t) (iblk m c 2 t) (iblk m c 3 t))
    (fun t h j => by rw [outsAt0_A m c t h (by omega)]; frame_out; exact (zero_add _).symm) (fun t h j => by rw [outsAt0_B m c t h (by omega)]; frame_out; exact pay1 _ _ j)
    t ((flush0_6 t).mp hf) _, zero_add]
  refine Fin.sum_fin_congr fun s => ?_
  pointwise [tile, k0_pay9, k0_pay6, k0_pay3, k0_pay4, k0_pay5, part, sgk]
  blk_point [iblk, V, idx t, idx ⟨_, Pipeline.run_point_lt_of_flush t ((flush0_6 t).mp hf) s⟩]

end Cert.Kernel2Ideal.Hand
-- ==== Proof.R2.lean ====
/- The gated unit's backward pass between its two products: the reference's gradients are the kernel's. -/
module

public import proofs.«01_k».proof.Proof.F2
public import proofs.«01_k».proof.Proof.Pre
public import proofs.«01_k».proof.Proof.Gen.Reference2Ideal.Run
public import proofs.«01_k».proof.Proof.Gen.Pre_finite2

@[expose] public section

set_option maxRecDepth 16384

noncomputable section

namespace Cert.Reference2Ideal.Hand

open Idealize.ShloMosaic Idealize.SL.Sem Cert.Reference2Ideal Cert.Reference2Ideal.Gen Cert.Kernel2Ideal.Hand

instance : Subsingleton (Cert.Pre_finite2.S_).Idx := ⟨fun a b => funext fun k => k.elim0⟩

/-- The precondition: every element of every argument is a real. -/
theorem reals {x0 : Tok} {x1 : Wts} {x2 x3 : Mid} (h : Cert.Pre_finite2.fn (F := Ideal) x0 x1 x2 x3 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) := by
  have e := congrFun h (fun k => k.elim0)
  unfold Cert.Pre_finite2.fn Cert.Pre_finite2.fn_part1 at e
  obtain ⟨e, e3⟩ := IntOp.andi_eq_one.1 e
  obtain ⟨e, e2⟩ := IntOp.andi_eq_one.1 e
  obtain ⟨e0, e1⟩ := IntOp.andi_eq_one.1 e
  exact ⟨fun i => Cert.Att.real_of_word (Host.reduce_andi_all _ _ _ _ _ e0 i), fun i => Cert.Att.real_of_word (Host.reduce_andi_all _ _ _ _ _ e1 i),
    fun i => Cert.Att.real_of_word (Host.reduce_andi_all _ _ _ _ _ e2 i), fun i => Cert.Att.real_of_word (Host.reduce_andi_all _ _ _ _ _ e3 i)⟩

/-! ## The logistic function and the sums, over the reals -/

theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num

/-- The logistic function. -/
def sg (x : ℝ) : ℝ := 1 / (1 + Real.exp (-x))

theorem sg_tanh (x : ℝ) : 1 / 2 * Real.tanh (1 / 2 * x) + 1 / 2 = sg x := by
  unfold sg
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [h1]
  have p := Real.exp_pos (1 / 2 * x)
  have q := Real.exp_pos (-(1 / 2 * x))
  generalize Real.exp (1 / 2 * x) = a at *
  generalize Real.exp (-(1 / 2 * x)) = b at *
  field_simp
  linear_combination (2 * b) * h2

theorem sgk_real (x : ℝ) : sgk (x : EReal) = ((sg x : ℝ) : EReal) := by
  rw [← sg_tanh]
  unfold sgk
  rw [bits_half, ← EReal.coe_mul, show Ideal.tanh ((1 / 2 * x : ℝ) : EReal) = ((Real.tanh (1 / 2 * x) : ℝ) : EReal) from rfl, ← EReal.coe_mul, ← EReal.coe_add]

theorem sgr_real (x : ℝ) : Ideal.div 1 (1 + Ideal.exp (-(x : EReal))) = ((sg x : ℝ) : EReal) := by
  rw [← EReal.coe_one, ← EReal.coe_neg, show Ideal.exp ((-x : ℝ) : EReal) = ((Real.exp (-x) : ℝ) : EReal) from rfl, ← EReal.coe_add, Cert.Att.div_real (by positivity)]
  rfl

variable {x0 : Tok} {x1 : Wts} {x2 x3 : Mid}
  (h0 : ∀ i, (x0 i : EReal) = ((x0 i : EReal).toReal : EReal)) (h1 : ∀ i, (x1 i : EReal) = ((x1 i : EReal).toReal : EReal))
  (h2 : ∀ i, (x2 i : EReal) = ((x2 i : EReal).toReal : EReal)) (h3 : ∀ i, (x3 i : EReal) = ((x3 i : EReal).toReal : EReal))

include h0 h1 h2 h3 in
theorem dgate_eq :
    truncf .bf16 (addf (mulf (mulf (Host.dotGeneral dot_S4096x1024_S2816x1024_S4096x2816_1_1_0_0_n_n none (mulf (broadcastInDim S4096x1024 ![] bcast_S_S4096x1024 (constant S_ .f32 0x3F000000#32)) (extf .f32 x0 bitsLt_bf16_f32)) (extf .f32 x1 bitsLt_bf16_f32)) (extf .f32 x3 bitsLt_bf16_f32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 x2 bitsLt_bf16_f32)))))) (mulf (mulf (extf .f32 x2 bitsLt_bf16_f32) (mulf (Host.dotGeneral dot_S4096x1024_S2816x1024_S4096x2816_1_1_0_0_n_n none (mulf (broadcastInDim S4096x1024 ![] bcast_S_S4096x1024 (constant S_ .f32 0x3F000000#32)) (extf .f32 x0 bitsLt_bf16_f32)) (extf .f32 x1 bitsLt_bf16_f32)) (extf .f32 x3 bitsLt_bf16_f32))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 x2 bitsLt_bf16_f32))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 x2 bitsLt_bf16_f32))))))))) bitsLt_bf16_f32
      = dgate x0 x1 x2 x3 := by
  funext i
  pointwise [dgate, dk]
  obtain ⟨a, ha⟩ : ∃ a : (⟨2, ![4096, 1024]⟩ : Shape).Idx → ℝ, ∀ i, (x0 i : EReal) = (a i : EReal) := ⟨_, h0⟩
  obtain ⟨b, hb⟩ : ∃ b : (⟨2, ![2816, 1024]⟩ : Shape).Idx → ℝ, ∀ i, (x1 i : EReal) = (b i : EReal) := ⟨_, h1⟩
  obtain ⟨g, hg⟩ : ∃ g : (⟨2, ![4096, 2816]⟩ : Shape).Idx → ℝ, ∀ i, (x2 i : EReal) = (g i : EReal) := ⟨_, h2⟩
  obtain ⟨u, hu⟩ : ∃ u : (⟨2, ![4096, 2816]⟩ : Shape).Idx → ℝ, ∀ i, (x3 i : EReal) = (u i : EReal) := ⟨_, h3⟩
  simp only [ha, hb, hg, hu, sgk_real, sgr_real, bits_half]
  simp only [← EReal.coe_one, ← EReal.coe_mul, ← EReal.coe_sub, ← EReal.coe_add, Cert.Att.coe_sum]
  refine congrArg ((↑) : ℝ → EReal) ?_
  rw [show ∑ j, 1 / 2 * a (ix2 (i 0) j) * b (ix2 (i 1) j) = 1 / 2 * ∑ j, a (ix2 (i 0) j) * b (ix2 (i 1) j) from by
    rw [Finset.mul_sum]; exact Finset.sum_congr rfl fun j _ => by ring]
  ring

include h0 h1 h2 in
theorem dup_eq :
    truncf .bf16 (mulf (mulf (extf .f32 x2 bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 x2 bitsLt_bf16_f32)))))) (Host.dotGeneral dot_S4096x1024_S2816x1024_S4096x2816_1_1_0_0_n_n none (mulf (broadcastInDim S4096x1024 ![] bcast_S_S4096x1024 (constant S_ .f32 0x3F000000#32)) (extf .f32 x0 bitsLt_bf16_f32)) (extf .f32 x1 bitsLt_bf16_f32))) bitsLt_bf16_f32
      = dup x0 x1 x2 := by
  funext i
  pointwise [dup, dk]
  obtain ⟨a, ha⟩ : ∃ a : (⟨2, ![4096, 1024]⟩ : Shape).Idx → ℝ, ∀ i, (x0 i : EReal) = (a i : EReal) := ⟨_, h0⟩
  obtain ⟨b, hb⟩ : ∃ b : (⟨2, ![2816, 1024]⟩ : Shape).Idx → ℝ, ∀ i, (x1 i : EReal) = (b i : EReal) := ⟨_, h1⟩
  obtain ⟨g, hg⟩ : ∃ g : (⟨2, ![4096, 2816]⟩ : Shape).Idx → ℝ, ∀ i, (x2 i : EReal) = (g i : EReal) := ⟨_, h2⟩
  simp only [ha, hb, hg, sgk_real, sgr_real, bits_half]
  simp only [← EReal.coe_one, ← EReal.coe_mul, ← EReal.coe_sub, ← EReal.coe_add, Cert.Att.coe_sum]
  refine congrArg ((↑) : ℝ → EReal) ?_
  rw [show ∑ j, 1 / 2 * a (ix2 (i 0) j) * b (ix2 (i 1) j) = 1 / 2 * ∑ j, a (ix2 (i 0) j) * b (ix2 (i 1) j) from by
    rw [Finset.mul_sum]; exact Finset.sum_congr rfl fun j _ => by ring]
  ring

include h0 h2 h3 in
theorem dwd_eq :
    transpose S2816x1024 [1, 0] (Host.dotGeneral dot_S4096x1024_S4096x2816_S1024x2816_0_0_1_1_n_n none (mulf (broadcastInDim S4096x1024 ![] bcast_S_S4096x1024 (constant S_ .f32 0x3F000000#32)) (extf .f32 x0 bitsLt_bf16_f32)) (mulf (mulf (extf .f32 x2 bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 x2 bitsLt_bf16_f32)))))) (extf .f32 x3 bitsLt_bf16_f32))) transposes_S1024x2816_S2816x1024_1_0
      = dwd x0 x2 x3 := by
  funext i
  pointwise [dwd, part]
  obtain ⟨a, ha⟩ : ∃ a : (⟨2, ![4096, 1024]⟩ : Shape).Idx → ℝ, ∀ i, (x0 i : EReal) = (a i : EReal) := ⟨_, h0⟩
  obtain ⟨g, hg⟩ : ∃ g : (⟨2, ![4096, 2816]⟩ : Shape).Idx → ℝ, ∀ i, (x2 i : EReal) = (g i : EReal) := ⟨_, h2⟩
  obtain ⟨u, hu⟩ : ∃ u : (⟨2, ![4096, 2816]⟩ : Shape).Idx → ℝ, ∀ i, (x3 i : EReal) = (u i : EReal) := ⟨_, h3⟩
  simp only [ha, hg, hu, sgk_real, sgr_real, bits_half]
  simp only [← EReal.coe_one, ← EReal.coe_mul, ← EReal.coe_sub, ← EReal.coe_add, Cert.Att.coe_sum]
  refine congrArg ((↑) : ℝ → EReal) ?_
  refine (Fin.sum_mul_add_congr fun s k hl => ?_).symm.trans (Finset.sum_congr rfl fun s _ => (Finset.mul_sum _ _ _).symm)
  rw [show (⟨s.val * 512 + k.val, hl⟩ : Fin 4096) = ⟨512 * s.val + k.val, by omega⟩ from Fin.ext (by simp only []; omega)]
  ring

/-! ## The same, of arguments that are the kernel's -/

theorem dgate_same {y0 : Tok} {y1 : Wts} {y2 y3 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)))
    (e0 : y0 = x0) (e1 : y1 = x1) (e2 : y2 = x2) (e3 : y3 = x3) :
    truncf .bf16 (addf (mulf (mulf (Host.dotGeneral dot_S4096x1024_S2816x1024_S4096x2816_1_1_0_0_n_n none (mulf (broadcastInDim S4096x1024 ![] bcast_S_S4096x1024 (constant S_ .f32 0x3F000000#32)) (extf .f32 y0 bitsLt_bf16_f32)) (extf .f32 y1 bitsLt_bf16_f32)) (extf .f32 y3 bitsLt_bf16_f32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 y2 bitsLt_bf16_f32)))))) (mulf (mulf (extf .f32 y2 bitsLt_bf16_f32) (mulf (Host.dotGeneral dot_S4096x1024_S2816x1024_S4096x2816_1_1_0_0_n_n none (mulf (broadcastInDim S4096x1024 ![] bcast_S_S4096x1024 (constant S_ .f32 0x3F000000#32)) (extf .f32 y0 bitsLt_bf16_f32)) (extf .f32 y1 bitsLt_bf16_f32)) (extf .f32 y3 bitsLt_bf16_f32))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 y2 bitsLt_bf16_f32))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 y2 bitsLt_bf16_f32))))))))) bitsLt_bf16_f32
      = dgate x0 x1 x2 x3 := by
  subst e0 e1 e2 e3
  exact dgate_eq h.1 h.2.1 h.2.2.1 h.2.2.2

theorem dup_same {y0 : Tok} {y1 : Wts} {y2 y3 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)))
    (e0 : y0 = x0) (e1 : y1 = x1) (e2 : y2 = x2) (e3 : y3 = x3) :
    truncf .bf16 (mulf (mulf (extf .f32 y2 bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 y2 bitsLt_bf16_f32)))))) (Host.dotGeneral dot_S4096x1024_S2816x1024_S4096x2816_1_1_0_0_n_n none (mulf (broadcastInDim S4096x1024 ![] bcast_S_S4096x1024 (constant S_ .f32 0x3F000000#32)) (extf .f32 y0 bitsLt_bf16_f32)) (extf .f32 y1 bitsLt_bf16_f32))) bitsLt_bf16_f32
      = dup x0 x1 x2 := by
  subst e0 e1 e2 e3
  exact dup_eq h.1 h.2.1 h.2.2.1

theorem dwd_same {y0 : Tok} {y1 : Wts} {y2 y3 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)))
    (e0 : y0 = x0) (e1 : y1 = x1) (e2 : y2 = x2) (e3 : y3 = x3) :
    transpose S2816x1024 [1, 0] (Host.dotGeneral dot_S4096x1024_S4096x2816_S1024x2816_0_0_1_1_n_n none (mulf (broadcastInDim S4096x1024 ![] bcast_S_S4096x1024 (constant S_ .f32 0x3F000000#32)) (extf .f32 y0 bitsLt_bf16_f32)) (mulf (mulf (extf .f32 y2 bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 y2 bitsLt_bf16_f32)))))) (extf .f32 y3 bitsLt_bf16_f32))) transposes_S1024x2816_S2816x1024_1_0
      = dwd x0 x2 x3 := by
  subst e0 e1 e2 e3
  exact dwd_eq h.1 h.2.2.1 h.2.2.2

end Cert.Reference2Ideal.Hand
-- ==== Proof.F5.lean ====
/- The gradient of a layer's input through the norm, and of the norm's scale: what the kernel leaves. -/
module

public import proofs.«01_k».proof.Proof.Gen.Kernel5Ideal.Value
public import Idealize.ShloMosaic.Lib.Pipeline.ValueKit
public import Idealize.ShloMosaic.Lib.Pointwise

@[expose] public section

noncomputable section

namespace Cert.Kernel5Ideal.Hand

open Idealize.ShloMosaic Idealize.ShloMosaic.TcCoe Idealize.SL.Sem Cert.Kernel5Ideal Cert.Kernel5Ideal.Gen

abbrev Rows := FVec Ideal ⟨2, ![4096, 1024]⟩ .f32
abbrev Scale := FVec Ideal ⟨2, ![1, 1024]⟩ .f32
abbrev Wts := FVec Ideal ⟨2, ![2816, 1024]⟩ .bf16
abbrev Mid := FVec Ideal ⟨2, ![4096, 2816]⟩ .bf16

/-- The reciprocal root mean square of a row. -/
def rk (x : Rows) (i : Fin 4096) : EReal :=
  Ideal.rsqrt (Ideal.div (∑ j : Fin 1024, (x (ix2 i j) : EReal) * (x (ix2 i j) : EReal)) (Ideal.ofBits .f32 0x44800000#32) + Ideal.ofBits .f32 0x358637BD#32)

/-- The gradient of the normalised row: the product's share and the other one. -/
def dk (w : Wts) (h : Rows) (p : Mid) (i : Fin 4096) (j : Fin 1024) : EReal :=
  (∑ f : Fin 2816, (p (ix2 i f) : EReal) * (w (ix2 f j) : EReal)) + (h (ix2 i j) : EReal)

/-- The normalised row before its scale. -/
def xh (x : Rows) (i : Fin 4096) (j : Fin 1024) : EReal := (x (ix2 i j) : EReal) * rk x i

def dx (x : Rows) (g : Scale) (w : Wts) (y h : Rows) (p : Mid) : Rows := fun i =>
  ((y i : EReal) + rk x (i 0) * (dk w h p (i 0) (i 1) * (g (ix2 0 (i 1)) : EReal)
    - xh x (i 0) (i 1) * Ideal.div (∑ l : Fin 1024, dk w h p (i 0) l * (g (ix2 0 l) : EReal) * xh x (i 0) l) (Ideal.ofBits .f32 0x44800000#32)) : EReal)

def dg (x : Rows) (w : Wts) (h : Rows) (p : Mid) : Scale := fun i => ∑ k : Fin 4096, dk w h p k (i 1) * xh x k (i 1)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_8.index t = ![0, 0] :=
  (by decide +kernel : ∀ t : Fin grid0.N, _)

theorem N_8 : ∀ t : Fin cfg0.N, t.val < 8 := (by decide +kernel : ∀ t : Fin grid0.N, _)

theorem final6 : (dats m 0 c).arrAt 6 cfg0.N = dx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  have h : (outsAt0 m c t.val t.isLt).1 = k0_pay6 (iblk m c 0 t) (iblk m c 1 t) (iblk m c 2 t) (iblk m c 3 t) (iblk m c 4 t) (iblk m c 5 t) := by
    have := N_8 t
    by_cases h0 : t.val % 8 = 0
    · rw [outsAt0_A m c t h0 (by omega)]; frame_out
    · rw [outsAt0_B m c t h0 (by omega)]; frame_out
  rw [h]
  pointwise [k0_pay6, k0_pay3, k0_pay4, k0_pay5, dx, dk, xh, rk]
  blk_point [iblk, V, idx t]

/-- One block of rows of the scale's gradient, of a point's blocks. -/
def tile (p : Vec Ideal S512x2816 .bf16) (w : Vec Ideal S2816x1024 .bf16) (h x : Vec Ideal S512x1024 .f32) : FVec Ideal S1x1024 .f32 := k0_pay1 (k0_pay3 p w h) (k0_pay5 x)

theorem pay2 (a b : FVec Ideal S512x1024 .f32) (v : FVec Ideal S1x1024 .f32) (j : S1x1024.Idx) : (k0_pay2 (F := Ideal) a b v j : EReal) = (v j : EReal) + (k0_pay1 (F := Ideal) a b j : EReal) := by
  unfold k0_pay2
  pointwise []

theorem tile_eq (p : Vec Ideal S512x2816 .bf16) (w : Vec Ideal S2816x1024 .bf16) (h x : Vec Ideal S512x1024 .f32) (j : S1x1024.Idx) :
    (tile p w h x j : EReal) = ∑ k : Fin 512, ((∑ f : Fin 2816, (p (ix2 k f) : EReal) * (w (ix2 f (j 1)) : EReal)) + (h (ix2 k (j 1)) : EReal))
      * ((x (ix2 k (j 1)) : EReal) * Ideal.rsqrt (Ideal.div (∑ l : Fin 1024, (x (ix2 k l) : EReal) * (x (ix2 k l) : EReal)) (Ideal.ofBits .f32 0x44800000#32) + Ideal.ofBits .f32 0x358637BD#32)) := by
  pointwise [tile, k0_pay1, k0_pay3, k0_pay4, k0_pay5]

set_option maxHeartbeats 1000000 in
theorem final8 : (dats m 0 c).arrAt 8 cfg0.N = dg (m ((c : Thread nD τ).loc main_arg0)) (m ((c : Thread nD τ).loc main_arg2))
    (m ((c : Thread nD τ).loc main_arg4)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2) 8 (fun _ => 0)
    (fun t => tile (iblk m c 0 t) (iblk m c 1 t) (iblk m c 2 t) (iblk m c 3 t))
    (fun t h j => by have := N_8 t; rw [outsAt0_A m c t h (by omega)]; frame_out; exact (zero_add _).symm)
    (fun t h j => by rw [outsAt0_B m c t h (by omega)]; frame_out; exact pay2 _ _ _ j)
    t ((flush0_8 t).mp hf) _, zero_add]
  simp only [tile_eq]
  refine Fin.sum_mul_add_congr fun s k hl => ?_
  unfold dk xh rk
  blk_point [iblk, V, idx t, idx ⟨_, Pipeline.run_point_lt_of_flush t ((flush0_8 t).mp hf) s⟩]

end Cert.Kernel5Ideal.Hand
-- ==== Proof.R5.lean ====
/- The gradient of a layer's input through the norm, and of the norm's scale: the reference's are the kernel's. -/
module

public import proofs.«01_k».proof.Proof.F5
public import proofs.«01_k».proof.Proof.Pre
public import proofs.«01_k».proof.Proof.Gen.Reference5Ideal.Run
public import proofs.«01_k».proof.Proof.Gen.Pre_finite5

@[expose] public section

set_option maxRecDepth 16384

noncomputable section

namespace Cert.Reference5Ideal.Hand

open Idealize.ShloMosaic Idealize.SL.Sem Cert.Reference5Ideal Cert.Reference5Ideal.Gen Cert.Kernel5Ideal.Hand

instance : Subsingleton (Cert.Pre_finite5.S_).Idx := ⟨fun a b => funext fun k => k.elim0⟩

/-- The precondition: every element of every argument is a real. -/
theorem reals {x0 : Rows} {x1 : Scale} {x2 : Wts} {x3 x4 : Rows} {x5 : Mid} (h : Cert.Pre_finite5.fn (F := Ideal) x0 x1 x2 x3 x4 x5 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) ∧ (∀ i, (x4 i : EReal) = ((x4 i : EReal).toReal : EReal)) ∧ (∀ i, (x5 i : EReal) = ((x5 i : EReal).toReal : EReal)) := by
  have e := congrFun h (fun k => k.elim0)
  unfold Cert.Pre_finite5.fn Cert.Pre_finite5.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => Cert.Att.real_of_word (Host.reduce_andi_all _ _ _ _ _ e0 i), fun i => Cert.Att.real_of_word (Host.reduce_andi_all _ _ _ _ _ e1 i),
    fun i => Cert.Att.real_of_word (Host.reduce_andi_all _ _ _ _ _ e2 i), fun i => Cert.Att.real_of_word (Host.reduce_andi_all _ _ _ _ _ e3 i),
    fun i => Cert.Att.real_of_word (Host.reduce_andi_all _ _ _ _ _ e4 i), fun i => Cert.Att.real_of_word (Host.reduce_andi_all _ _ _ _ _ e5 i)⟩

theorem bits_1024 : Ideal.ofBits .f32 0x44800000#32 = ((1024 : ℝ) : EReal) := by
  simp [Ideal.ofBits, Ideal.ieee, -EReal.coe_mul]; norm_num

variable (x0 : Rows) (x1 : Scale) (x2 : Wts) (x3 x4 : Rows) (x5 : Mid)

theorem dg_eq :
    shapeCast S1x1024 (Host.reduceAdd (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf x4 (Host.dotGeneral dot_S4096x2816_S1024x2816_S4096x1024_1_1_0_0_n_n none (extf .f32 x5 bitsLt_bf16_f32) (transpose S1024x2816 [1, 0] (extf .f32 x2 bitsLt_bf16_f32) transposes_S2816x1024_S1024x2816_1_0)))) (constant S_ .f32 0x00000000#32) reducesTo_S4096x1024_S1024_d0 h_S_) shapeCasts_S1024_S1x1024
      = dg x0 x2 x4 x5 := by
  funext i
  pointwise [dg, dk, xh, rk]
  exact Finset.sum_congr rfl fun k _ => by rw [mul_comm, add_comm]

variable {x0 x1 x2 x3 x4 x5}
  (h0 : ∀ i, (x0 i : EReal) = ((x0 i : EReal).toReal : EReal)) (h1 : ∀ i, (x1 i : EReal) = ((x1 i : EReal).toReal : EReal))
  (h2 : ∀ i, (x2 i : EReal) = ((x2 i : EReal).toReal : EReal)) (h3 : ∀ i, (x3 i : EReal) = ((x3 i : EReal).toReal : EReal))
  (h4 : ∀ i, (x4 i : EReal) = ((x4 i : EReal).toReal : EReal)) (h5 : ∀ i, (x5 i : EReal) = ((x5 i : EReal).toReal : EReal))

include h0 h1 h2 h3 h4 h5 in
theorem dx_eq :
    addf (addf (addf x3 (mulf (mulf (addf x4 (Host.dotGeneral dot_S4096x2816_S1024x2816_S4096x1024_1_1_0_0_n_n none (extf .f32 x5 bitsLt_bf16_f32) (transpose S1024x2816 [1, 0] (extf .f32 x2 bitsLt_bf16_f32) transposes_S2816x1024_S1024x2816_1_0))) (broadcastInDim S4096x1024 ![0, 1] bcast_S1x1024_S4096x1024_0_1 x1)) (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x0 (broadcastInDim S4096x1024 ![0] bcast_S4096_S4096x1024_0 (Host.reduceAdd (Host.divf (mulf (shapeCast _ (Host.reduceAdd (mulf x0 (mulf (addf x4 (Host.dotGeneral dot_S4096x2816_S1024x2816_S4096x1024_1_1_0_0_n_n none (extf .f32 x5 bitsLt_bf16_f32) (transpose S1024x2816 [1, 0] (extf .f32 x2 bitsLt_bf16_f32) transposes_S2816x1024_S1024x2816_1_0))) (broadcastInDim S4096x1024 ![0, 1] bcast_S1x1024_S4096x1024_0_1 x1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x0 (mulf (addf x4 (Host.dotGeneral dot_S4096x2816_S1024x2816_S4096x1024_1_1_0_0_n_n none (extf .f32 x5 bitsLt_bf16_f32) (transpose S1024x2816 [1, 0] (extf .f32 x2 bitsLt_bf16_f32) transposes_S2816x1024_S1024x2816_1_0))) (broadcastInDim S4096x1024 ![0, 1] bcast_S1x1024_S4096x1024_0_1 x1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x0)
      = dx x0 x1 x2 x3 x4 x5 := by
  funext i
  obtain ⟨r, q, rfl⟩ : ∃ (r : Fin 4096) (q : Fin 1024), i = ix2 r q := ⟨i 0, i 1, eq_ix2 i⟩
  pointwise [dx, dk, xh, rk]
  obtain ⟨a, ha⟩ : ∃ a : (⟨2, ![4096, 1024]⟩ : Shape).Idx → ℝ, ∀ i, (x0 i : EReal) = (a i : EReal) := ⟨_, h0⟩
  obtain ⟨g, hg⟩ : ∃ a : (⟨2, ![1, 1024]⟩ : Shape).Idx → ℝ, ∀ i, (x1 i : EReal) = (a i : EReal) := ⟨_, h1⟩
  obtain ⟨w, hw⟩ : ∃ a : (⟨2, ![2816, 1024]⟩ : Shape).Idx → ℝ, ∀ i, (x2 i : EReal) = (a i : EReal) := ⟨_, h2⟩
  obtain ⟨y, hy⟩ : ∃ a : (⟨2, ![4096, 1024]⟩ : Shape).Idx → ℝ, ∀ i, (x3 i : EReal) = (a i : EReal) := ⟨_, h3⟩
  obtain ⟨h, hh⟩ : ∃ a : (⟨2, ![4096, 1024]⟩ : Shape).Idx → ℝ, ∀ i, (x4 i : EReal) = (a i : EReal) := ⟨_, h4⟩
  obtain ⟨p, hp⟩ : ∃ a : (⟨2, ![4096, 2816]⟩ : Shape).Idx → ℝ, ∀ i, (x5 i : EReal) = (a i : EReal) := ⟨_, h5⟩
  have hD : ∀ l : Fin 1024, ∑ f : Fin 2816, (x5 (ix2 r f) : EReal) * (x2 (ix2 f l) : EReal) = ((∑ f : Fin 2816, p (ix2 r f) * w (ix2 f l) : ℝ) : EReal) := fun l => by
    simp only [hp, hw, ← EReal.coe_mul, Cert.Att.coe_sum]
  have hM : Ideal.div (∑ j : Fin 1024, (x0 (ix2 r j) : EReal) * (x0 (ix2 r j) : EReal)) (Ideal.ofBits .f32 0x44800000#32) + Ideal.ofBits .f32 0x358637BD#32
      = (((∑ j : Fin 1024, a (ix2 r j) * a (ix2 r j)) / 1024 + Cert.Att.eps : ℝ) : EReal) := by
    simp only [ha, ← EReal.coe_mul, Cert.Att.coe_sum]
    rw [bits_1024, Cert.Att.bits_eps, Cert.Att.div_real (by norm_num), ← EReal.coe_add]
  have hpos : 0 < (∑ j : Fin 1024, a (ix2 r j) * a (ix2 r j)) / 1024 + Cert.Att.eps :=
    add_pos_of_nonneg_of_pos (div_nonneg (Finset.sum_nonneg fun j _ => mul_self_nonneg _) (by norm_num)) Cert.Att.eps_pos
  simp only [hM, hD]
  generalize (∑ j : Fin 1024, a (ix2 r j) * a (ix2 r j)) / 1024 + Cert.Att.eps = M at hpos ⊢
  rw [Cert.Att.rsqrt_real hpos, Cert.Att.div_real hpos.ne']
  have hR : (Real.sqrt M)⁻¹ * (Real.sqrt M)⁻¹ * M = 1 := by
    rw [← mul_inv, Real.mul_self_sqrt hpos.le, inv_mul_cancel₀ hpos.ne']
  generalize (Real.sqrt M)⁻¹ = R at hR ⊢
  generalize hd : (fun l => ∑ f : Fin 2816, p (ix2 r f) * w (ix2 f l)) = d
  have hd' : ∀ l, ∑ f : Fin 2816, p (ix2 r f) * w (ix2 f l) = d l := fun l => congrFun hd l
  simp only [hd', ha, hg, hy, hh, bits_1024, Cert.Att.bits_neg_half, ← EReal.coe_mul, ← EReal.coe_add, Cert.Att.coe_sum,
    Cert.Att.div_real (show (1024 : ℝ) ≠ 0 by norm_num), ← EReal.coe_sub, Finset.univ_unique, Finset.sum_singleton]
  refine congrArg ((↑) : ℝ → EReal) ?_
  have hS : ∑ l, (d l + h (ix2 r l)) * g (ix2 0 l) * (a (ix2 r l) * R) = (∑ l, a (ix2 r l) * ((h (ix2 r l) + d l) * g (ix2 0 l))) * R := by
    rw [Finset.sum_mul]; exact Finset.sum_congr rfl fun l _ => by ring
  rw [hS]
  generalize ∑ l, a (ix2 r l) * ((h (ix2 r l) + d l) * g (ix2 0 l)) = S
  have hRM : R / M = R * R * R := by
    rw [div_eq_iff hpos.ne']; linear_combination (-R) * hR
  rw [hRM]
  ring

/-! ## The same, of arguments that are the kernel's -/

theorem dx_same {y0 : Rows} {y1 : Scale} {y2 : Wts} {y3 y4 : Rows} {y5 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) ∧ (∀ i, (x4 i : EReal) = ((x4 i : EReal).toReal : EReal)) ∧ (∀ i, (x5 i : EReal) = ((x5 i : EReal).toReal : EReal)))
    (e0 : y0 = x0) (e1 : y1 = x1) (e2 : y2 = x2) (e3 : y3 = x3) (e4 : y4 = x4) (e5 : y5 = x5) :
    addf (addf (addf y3 (mulf (mulf (addf y4 (Host.dotGeneral dot_S4096x2816_S1024x2816_S4096x1024_1_1_0_0_n_n none (extf .f32 y5 bitsLt_bf16_f32) (transpose S1024x2816 [1, 0] (extf .f32 y2 bitsLt_bf16_f32) transposes_S2816x1024_S1024x2816_1_0))) (broadcastInDim S4096x1024 ![0, 1] bcast_S1x1024_S4096x1024_0_1 y1)) (broadcastInDim S4096x1024 ![0, 1] bcast_S4096x1_S4096x1024_0_1 (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf y0 (broadcastInDim S4096x1024 ![0] bcast_S4096_S4096x1024_0 (Host.reduceAdd (Host.divf (mulf (shapeCast _ (Host.reduceAdd (mulf y0 (mulf (addf y4 (Host.dotGeneral dot_S4096x2816_S1024x2816_S4096x1024_1_1_0_0_n_n none (extf .f32 y5 bitsLt_bf16_f32) (transpose S1024x2816 [1, 0] (extf .f32 y2 bitsLt_bf16_f32) transposes_S2816x1024_S1024x2816_1_0))) (broadcastInDim S4096x1024 ![0, 1] bcast_S1x1024_S4096x1024_0_1 y1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf y0 (mulf (addf y4 (Host.dotGeneral dot_S4096x2816_S1024x2816_S4096x1024_1_1_0_0_n_n none (extf .f32 y5 bitsLt_bf16_f32) (transpose S1024x2816 [1, 0] (extf .f32 y2 bitsLt_bf16_f32) transposes_S2816x1024_S1024x2816_1_0))) (broadcastInDim S4096x1024 ![0, 1] bcast_S1x1024_S4096x1024_0_1 y1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) y0)
      = dx x0 x1 x2 x3 x4 x5 := by
  subst e0 e1 e2 e3 e4 e5
  exact dx_eq h.1 h.2.1 h.2.2.1 h.2.2.2.1 h.2.2.2.2.1 h.2.2.2.2.2

theorem dg_same {y0 : Rows} {y1 : Scale} {y2 : Wts} {y3 y4 : Rows} {y5 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) ∧ (∀ i, (x4 i : EReal) = ((x4 i : EReal).toReal : EReal)) ∧ (∀ i, (x5 i : EReal) = ((x5 i : EReal).toReal : EReal)))
    (e0 : y0 = x0) (e1 : y1 = x1) (e2 : y2 = x2) (e3 : y3 = x3) (e4 : y4 = x4) (e5 : y5 = x5) :
    shapeCast S1x1024 (Host.reduceAdd (mulf (mulf y0 (broadcastInDim S4096x1024 ![0, 1] bcast_S4096x1_S4096x1024_0_1 (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf y4 (Host.dotGeneral dot_S4096x2816_S1024x2816_S4096x1024_1_1_0_0_n_n none (extf .f32 y5 bitsLt_bf16_f32) (transpose S1024x2816 [1, 0] (extf .f32 y2 bitsLt_bf16_f32) transposes_S2816x1024_S1024x2816_1_0)))) (constant S_ .f32 0x00000000#32) reducesTo_S4096x1024_S1024_d0 h_S_) shapeCasts_S1024_S1x1024
      = dg x0 x2 x4 x5 := by
  subst e0 e1 e2 e3 e4 e5
  exact dg_eq _ _ _ _

end Cert.Reference5Ideal.Hand
-- ==== Proof.F6.lean ====
/- The gradient of the mixers' input through the projection and the norm, and of the norm's scale: what the kernel leaves. -/
module

public import proofs.«01_k».proof.Proof.Gen.Kernel6Ideal.Value
public import Idealize.ShloMosaic.Lib.Pipeline.ValueKit
public import Idealize.ShloMosaic.Lib.Pointwise

@[expose] public section

noncomputable section

namespace Cert.Kernel6Ideal.Hand

open Idealize.ShloMosaic Idealize.ShloMosaic.TcCoe Idealize.SL.Sem Cert.Kernel6Ideal Cert.Kernel6Ideal.Gen

abbrev Rows := FVec Ideal ⟨2, ![4096, 1024]⟩ .f32
abbrev Scale := FVec Ideal ⟨2, ![1, 1024]⟩ .f32
abbrev Wts := FVec Ideal ⟨2, ![3584, 1024]⟩ .bf16
abbrev Mid := FVec Ideal ⟨2, ![4096, 3584]⟩ .bf16

/-- The reciprocal root mean square of a row. -/
def rk (x : Rows) (i : Fin 4096) : EReal :=
  Ideal.rsqrt (Ideal.div (∑ j : Fin 1024, (x (ix2 i j) : EReal) * (x (ix2 i j) : EReal)) (Ideal.ofBits .f32 0x44800000#32) + Ideal.ofBits .f32 0x358637BD#32)

/-- The gradient of the normalised row. -/
def dk (w : Wts) (p : Mid) (i : Fin 4096) (j : Fin 1024) : EReal :=
  ∑ f : Fin 3584, (p (ix2 i f) : EReal) * (w (ix2 f j) : EReal)

/-- The normalised row before its scale. -/
def xh (x : Rows) (i : Fin 4096) (j : Fin 1024) : EReal := (x (ix2 i j) : EReal) * rk x i

def dx (x : Rows) (g : Scale) (w : Wts) (y : Rows) (p : Mid) : Rows := fun i =>
  ((y i : EReal) + rk x (i 0) * (dk w p (i 0) (i 1) * (g (ix2 0 (i 1)) : EReal)
    - xh x (i 0) (i 1) * Ideal.div (∑ l : Fin 1024, dk w p (i 0) l * (g (ix2 0 l) : EReal) * xh x (i 0) l) (Ideal.ofBits .f32 0x44800000#32)) : EReal)

/-- The same, at the smaller format. -/
def dx16 (x : Rows) (g : Scale) (w : Wts) (y : Rows) (p : Mid) : FVec Ideal ⟨2, ![4096, 1024]⟩ .bf16 := fun i => (dx x g w y p i : EReal)

def dg (x : Rows) (w : Wts) (p : Mid) : Scale := fun i => ∑ k : Fin 4096, dk w p k (i 1) * xh x k (i 1)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

theorem N_8 : ∀ t : Fin cfg0.N, t.val < 8 := (by decide +kernel : ∀ t : Fin grid0.N, _)

theorem final5 : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  have h : (outsAt0 m c t.val t.isLt).1 = k0_pay5 (iblk m c 0 t) (iblk m c 1 t) (iblk m c 2 t) (iblk m c 3 t) (iblk m c 4 t) := by
    have := N_8 t
    by_cases h0 : t.val % 8 = 0
    · rw [outsAt0_A m c t h0 (by omega)]; frame_out
    · rw [outsAt0_B m c t h0 (by omega)]; frame_out
  rw [h]
  pointwise [k0_pay5, k0_pay2, k0_pay3, k0_pay4, dx, dk, xh, rk]
  blk_point [iblk, V, idx t]

theorem final6 : (dats m 0 c).arrAt 6 cfg0.N = dx16 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have h : (outsAt0 m c t.val t.isLt).2.1 = k0_pay6 (iblk m c 0 t) (iblk m c 1 t) (iblk m c 2 t) (iblk m c 3 t) (iblk m c 4 t) := by
    have := N_8 t
    by_cases h0 : t.val % 8 = 0
    · rw [outsAt0_A m c t h0 (by omega)]; frame_out
    · rw [outsAt0_B m c t h0 (by omega)]; frame_out
  rw [h]
  pointwise [k0_pay6, k0_pay5, k0_pay2, k0_pay3, k0_pay4, dx16, dx, dk, xh, rk]
  blk_point [iblk, V, idx t]

theorem pay1 (a v : FVec Ideal S1x1024 .f32) (j : S1x1024.Idx) : (k0_pay1 (F := Ideal) a v j : EReal) = (v j : EReal) + (a j : EReal) := by
  unfold k0_pay1
  pointwise []

theorem tile_eq (p : Vec Ideal S512x3584 .bf16) (w : Vec Ideal S3584x1024 .bf16) (x : Vec Ideal S512x1024 .f32) (j : S1x1024.Idx) :
    (k0_pay7 (F := Ideal) p w x j : EReal) = ∑ k : Fin 512, (∑ f : Fin 3584, (p (ix2 k f) : EReal) * (w (ix2 f (j 1)) : EReal))
      * ((x (ix2 k (j 1)) : EReal) * Ideal.rsqrt (Ideal.div (∑ l : Fin 1024, (x (ix2 k l) : EReal) * (x (ix2 k l) : EReal)) (Ideal.ofBits .f32 0x44800000#32) + Ideal.ofBits .f32 0x358637BD#32)) := by
  pointwise [k0_pay7, k0_pay2, k0_pay3, k0_pay4]

set_option maxHeartbeats 1000000 in
theorem final7 : (dats m 0 c).arrAt 7 cfg0.N = dg (m ((c : Thread nD τ).loc main_arg0)) (m ((c : Thread nD τ).loc main_arg2))
    (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2) 8 (fun _ => 0)
    (fun t => k0_pay7 (iblk m c 0 t) (iblk m c 1 t) (iblk m c 2 t))
    (fun t h j => by have := N_8 t; rw [outsAt0_A m c t h (by omega)]; frame_out; exact (zero_add _).symm)
    (fun t h j => by rw [outsAt0_B m c t h (by omega)]; frame_out; exact pay1 _ _ j)
    t ((flush0_7 t).mp hf) _, zero_add]
  simp only [tile_eq]
  refine Fin.sum_mul_add_congr fun s k hl => ?_
  unfold dk xh rk
  blk_point [iblk, V, idx t, idx ⟨_, Pipeline.run_point_lt_of_flush t ((flush0_7 t).mp hf) s⟩]

end Cert.Kernel6Ideal.Hand
-- ==== Proof.R6.lean ====
/- The gradient of the mixers' input through the projection and the norm, and of the norm's scale: the reference's are the kernel's. -/
module

public import proofs.«01_k».proof.Proof.F6
public import proofs.«01_k».proof.Proof.Pre
public import proofs.«01_k».proof.Proof.Gen.Reference6Ideal.Run
public import proofs.«01_k».proof.Proof.Gen.Pre_finite6

@[expose] public section

set_option maxRecDepth 16384

noncomputable section

namespace Cert.Reference6Ideal.Hand

open Idealize.ShloMosaic Idealize.SL.Sem Cert.Reference6Ideal Cert.Reference6Ideal.Gen Cert.Kernel6Ideal.Hand

instance : Subsingleton (Cert.Pre_finite6.S_).Idx := ⟨fun a b => funext fun k => k.elim0⟩

/-- The precondition: every element of every argument is a real. -/
theorem reals {x0 : Rows} {x1 : Scale} {x2 : Wts} {x3 : Rows} {x4 : Mid} (h : Cert.Pre_finite6.fn (F := Ideal) x0 x1 x2 x3 x4 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal)) ∧ (∀ i, (x3 i : EReal) = ((x3 i : EReal).toReal : EReal)) ∧ (∀ i, (x4 i : EReal) = ((x4 i : EReal).toReal : EReal)) := by
  have e := congrFun h (fun k => k.elim0)
  unfold Cert.Pre_finite6.fn Cert.Pre_finite6.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => Cert.Att.real_of_word (Host.reduce_andi_all _ _ _ _ _ e0 i), fun i => Cert.Att.real_of_word (Host.reduce_andi_all _ _ _ _ _ e1 i), fun i => Cert.Att.real_of_word (Host.reduce_andi_all _ _ _ _ _ e2 i), fun i => Cert.Att.real_of_word (Host.reduce_andi_all _ _ _ _ _ e3 i), fun i => Cert.Att.real_of_word (Host.reduce_andi_all _ _ _ _ _ e4 i)⟩

theorem bits_1024 : Ideal.ofBits .f32 0x44800000#32 = ((1024 : ℝ) : EReal) := by
  simp [Ideal.ofBits, Ideal.ieee, -EReal.coe_mul]; norm_num

variable (x0 : Rows) (x1 : Scale) (x2 : Wts) (x3 : Rows) (x4 : Mid)

theorem dg_eq :
    shapeCast S1x1024 (Host.reduceAdd (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x3584_S1024x3584_S4096x1024_1_1_0_0_n_n none (extf .f32 x4 bitsLt_bf16_f32) (transpose S1024x3584 [1, 0] (extf .f32 x2 bitsLt_bf16_f32) transposes_S3584x1024_S1024x3584_1_0))) (constant S_ .f32 0x00000000#32) reducesTo_S4096x1024_S1024_d0 h_S_) shapeCasts_S1024_S1x1024
      = dg x0 x2 x4 := by
  funext i
  pointwise [dg, dk, xh, rk]
  exact Finset.sum_congr rfl fun k _ => mul_comm _ _

variable {x0 x1 x2 x3 x4}
  (h0 : ∀ i, (x0 i : EReal) = ((x0 i : EReal).toReal : EReal))
  (h1 : ∀ i, (x1 i : EReal) = ((x1 i : EReal).toReal : EReal))
  (h2 : ∀ i, (x2 i : EReal) = ((x2 i : EReal).toReal : EReal))
  (h3 : ∀ i, (x3 i : EReal) = ((x3 i : EReal).toReal : EReal))
  (h4 : ∀ i, (x4 i : EReal) = ((x4 i : EReal).toReal : EReal))

include h0 h1 h2 h3 h4 in
theorem dx_eq :
    addf (addf (addf x3 (mulf (mulf (Host.dotGeneral dot_S4096x3584_S1024x3584_S4096x1024_1_1_0_0_n_n none (extf .f32 x4 bitsLt_bf16_f32) (transpose S1024x3584 [1, 0] (extf .f32 x2 bitsLt_bf16_f32) transposes_S3584x1024_S1024x3584_1_0)) (broadcastInDim S4096x1024 ![0, 1] bcast_S1x1024_S4096x1024_0_1 x1)) (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x0 (broadcastInDim S4096x1024 ![0] bcast_S4096_S4096x1024_0 (Host.reduceAdd (Host.divf (mulf (shapeCast _ (Host.reduceAdd (mulf x0 (mulf (Host.dotGeneral dot_S4096x3584_S1024x3584_S4096x1024_1_1_0_0_n_n none (extf .f32 x4 bitsLt_bf16_f32) (transpose S1024x3584 [1, 0] (extf .f32 x2 bitsLt_bf16_f32) transposes_S3584x1024_S1024x3584_1_0)) (broadcastInDim S4096x1024 ![0, 1] bcast_S1x1024_S4096x1024_0_1 x1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x0 (mulf (Host.dotGeneral dot_S4096x3584_S1024x3584_S4096x1024_1_1_0_0_n_n none (extf .f32 x4 bitsLt_bf16_f32) (transpose S1024x3584 [1, 0] (extf .f32 x2 bitsLt_bf16_f32) transposes_S3584x1024_S1024x3584_1_0)) (broadcastInDim S4096x1024 ![0, 1] bcast_S1x1024_S4096x1024_0_1 x1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x0)
      = dx x0 x1 x2 x3 x4 := by
  funext i
  obtain ⟨r, q, rfl⟩ : ∃ (r : Fin 4096) (q : Fin 1024), i = ix2 r q := ⟨i 0, i 1, eq_ix2 i⟩
  pointwise [dx, dk, xh, rk]
  obtain ⟨a, ha⟩ : ∃ a : (⟨2, ![4096, 1024]⟩ : Shape).Idx → ℝ, ∀ i, (x0 i : EReal) = (a i : EReal) := ⟨_, h0⟩
  obtain ⟨g, hg⟩ : ∃ a : (⟨2, ![1, 1024]⟩ : Shape).Idx → ℝ, ∀ i, (x1 i : EReal) = (a i : EReal) := ⟨_, h1⟩
  obtain ⟨w, hw⟩ : ∃ a : (⟨2, ![3584, 1024]⟩ : Shape).Idx → ℝ, ∀ i, (x2 i : EReal) = (a i : EReal) := ⟨_, h2⟩
  obtain ⟨y, hy⟩ : ∃ a : (⟨2, ![4096, 1024]⟩ : Shape).Idx → ℝ, ∀ i, (x3 i : EReal) = (a i : EReal) := ⟨_, h3⟩
  obtain ⟨p, hp⟩ : ∃ a : (⟨2, ![4096, 3584]⟩ : Shape).Idx → ℝ, ∀ i, (x4 i : EReal) = (a i : EReal) := ⟨_, h4⟩
  have hD : ∀ l : Fin 1024, ∑ f : Fin 3584, (x4 (ix2 r f) : EReal) * (x2 (ix2 f l) : EReal) = ((∑ f : Fin 3584, p (ix2 r f) * w (ix2 f l) : ℝ) : EReal) := fun l => by
    simp only [hp, hw, ← EReal.coe_mul, Cert.Att.coe_sum]
  have hM : Ideal.div (∑ j : Fin 1024, (x0 (ix2 r j) : EReal) * (x0 (ix2 r j) : EReal)) (Ideal.ofBits .f32 0x44800000#32) + Ideal.ofBits .f32 0x358637BD#32
      = (((∑ j : Fin 1024, a (ix2 r j) * a (ix2 r j)) / 1024 + Cert.Att.eps : ℝ) : EReal) := by
    simp only [ha, ← EReal.coe_mul, Cert.Att.coe_sum]
    rw [bits_1024, Cert.Att.bits_eps, Cert.Att.div_real (by norm_num), ← EReal.coe_add]
  have hpos : 0 < (∑ j : Fin 1024, a (ix2 r j) * a (ix2 r j)) / 1024 + Cert.Att.eps :=
    add_pos_of_nonneg_of_pos (div_nonneg (Finset.sum_nonneg fun j _ => mul_self_nonneg _) (by norm_num)) Cert.Att.eps_pos
  simp only [hM, hD]
  generalize (∑ j : Fin 1024, a (ix2 r j) * a (ix2 r j)) / 1024 + Cert.Att.eps = M at hpos ⊢
  rw [Cert.Att.rsqrt_real hpos, Cert.Att.div_real hpos.ne']
  have hR : (Real.sqrt M)⁻¹ * (Real.sqrt M)⁻¹ * M = 1 := by
    rw [← mul_inv, Real.mul_self_sqrt hpos.le, inv_mul_cancel₀ hpos.ne']
  generalize (Real.sqrt M)⁻¹ = R at hR ⊢
  generalize hd : (fun l => ∑ f : Fin 3584, p (ix2 r f) * w (ix2 f l)) = d
  have hd' : ∀ l, ∑ f : Fin 3584, p (ix2 r f) * w (ix2 f l) = d l := fun l => congrFun hd l
  simp only [hd', ha, hg, hy, bits_1024, Cert.Att.bits_neg_half, ← EReal.coe_mul, ← EReal.coe_add, Cert.Att.coe_sum,
    Cert.Att.div_real (show (1024 : ℝ) ≠ 0 by norm_num), ← EReal.coe_sub, Finset.univ_unique, Finset.sum_singleton]
  refine congrArg ((↑) : ℝ → EReal) ?_
  have hS : ∑ l, d l * g (ix2 0 l) * (a (ix2 r l) * R) = (∑ l, a (ix2 r l) * (d l * g (ix2 0 l))) * R := by
    rw [Finset.sum_mul]; exact Finset.sum_congr rfl fun l _ => by ring
  rw [hS]
  generalize ∑ l, a (ix2 r l) * (d l * g (ix2 0 l)) = S
  have hRM : R / M = R * R * R := by
    rw [div_eq_iff hpos.ne']; linear_combination (-R) * hR
  rw [hRM]
  ring

/-! ## The same, of arguments that are the kernel's -/

theorem dx_same {y0 : Rows} {y1 : Scale} {y2 : Wts} {y3 : Rows} {y4 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal)) ∧ (∀ i, (x3 i : EReal) = ((x3 i : EReal).toReal : EReal)) ∧ (∀ i, (x4 i : EReal) = ((x4 i : EReal).toReal : EReal)))
    (e0 : y0 = x0) (e1 : y1 = x1) (e2 : y2 = x2) (e3 : y3 = x3) (e4 : y4 = x4) :
    addf (addf (addf y3 (mulf (mulf (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0)) (broadcastInDim S4096x1024 ![0, 1] bcast_S1x1024_S4096x1024_0_1 y1)) (broadcastInDim S4096x1024 ![0, 1] bcast_S4096x1_S4096x1024_0_1 (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf y0 (broadcastInDim S4096x1024 ![0] bcast_S4096_S4096x1024_0 (Host.reduceAdd (Host.divf (mulf (shapeCast _ (Host.reduceAdd (mulf y0 (mulf (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0)) (broadcastInDim S4096x1024 ![0, 1] bcast_S1x1024_S4096x1024_0_1 y1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf y0 (mulf (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0)) (broadcastInDim S4096x1024 ![0, 1] bcast_S1x1024_S4096x1024_0_1 y1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) y0)
      = dx x0 x1 x2 x3 x4 := by
  subst e0 e1 e2 e3 e4
  exact dx_eq h.1 h.2.1 h.2.2.1 h.2.2.2.1 h.2.2.2.2

theorem dx16_same {y0 : Rows} {y1 : Scale} {y2 : Wts} {y3 : Rows} {y4 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal)) ∧ (∀ i, (x3 i : EReal) = ((x3 i : EReal).toReal : EReal)) ∧ (∀ i, (x4 i : EReal) = ((x4 i : EReal).toReal : EReal)))
    (e0 : y0 = x0) (e1 : y1 = x1) (e2 : y2 = x2) (e3 : y3 = x3) (e4 : y4 = x4) :
    truncf .bf16 (addf (addf (addf y3 (mulf (mulf (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0)) (broadcastInDim S4096x1024 ![0, 1] bcast_S1x1024_S4096x1024_0_1 y1)) (broadcastInDim S4096x1024 ![0, 1] bcast_S4096x1_S4096x1024_0_1 (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf y0 (broadcastInDim S4096x1024 ![0] bcast_S4096_S4096x1024_0 (Host.reduceAdd (Host.divf (mulf (shapeCast _ (Host.reduceAdd (mulf y0 (mulf (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0)) (broadcastInDim S4096x1024 ![0, 1] bcast_S1x1024_S4096x1024_0_1 y1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf y0 (mulf (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0)) (broadcastInDim S4096x1024 ![0, 1] bcast_S1x1024_S4096x1024_0_1 y1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) y0)) bitsLt_bf16_f32
      = dx16 x0 x1 x2 x3 x4 := by
  subst e0 e1 e2 e3 e4
  rw [dx_eq h.1 h.2.1 h.2.2.1 h.2.2.2.1 h.2.2.2.2]
  rfl

theorem dg_same {y0 : Rows} {y1 : Scale} {y2 : Wts} {y3 : Rows} {y4 : Mid}
    (h : (∀ i, (x0 i : EReal) = ((x0 i : EReal).toReal : EReal)) ∧ (∀ i, (x1 i : EReal) = ((x1 i : EReal).toReal : EReal)) ∧ (∀ i, (x2 i : EReal) = ((x2 i : EReal).toReal : EReal)) ∧ (∀ i, (x3 i : EReal) = ((x3 i : EReal).toReal : EReal)) ∧ (∀ i, (x4 i : EReal) = ((x4 i : EReal).toReal : EReal)))
    (e0 : y0 = x0) (e1 : y1 = x1) (e2 : y2 = x2) (e3 : y3 = x3) (e4 : y4 = x4) :
    shapeCast S1x1024 (Host.reduceAdd (mulf (mulf y0 (broadcastInDim S4096x1024 ![0, 1] bcast_S4096x1_S4096x1024_0_1 (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x3584_S1024x3584_S4096x1024_1_1_0_0_n_n none (extf .f32 y4 bitsLt_bf16_f32) (transpose S1024x3584 [1, 0] (extf .f32 y2 bitsLt_bf16_f32) transposes_S3584x1024_S1024x3584_1_0))) (constant S_ .f32 0x00000000#32) reducesTo_S4096x1024_S1024_d0 h_S_) shapeCasts_S1024_S1x1024
      = dg x0 x2 x4 := by
  subst e0 e1 e2 e3 e4
  exact dg_eq _ _ _

end Cert.Reference6Ideal.Hand
-- ==== Proof.F7.lean ====
/- The gradient of the input projection's weights: one product contracting the tokens, in seven blocks. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Hand

open Idealize.ShloMosaic Idealize.ShloMosaic.TcCoe Idealize.SL.Sem Cert.Kernel7Ideal Cert.Kernel7Ideal.Gen

variable (m : (ℓ : Loc nD τ sig) → Buf (Elt Ideal) ℓ) (c : Dev nD)

/-- The product over the tokens. -/
def prod (x : FVec Ideal ⟨2, ![4096, 3584]⟩ .bf16) (w : FVec Ideal ⟨2, ![4096, 1024]⟩ .bf16) : FVec Ideal ⟨2, ![3584, 1024]⟩ .f32 :=
  fun i => ∑ k : Fin 4096, (x (ix2 k (i 0)) : EReal) * (w (ix2 k (i 1)) : EReal)

theorem idx : ∀ t : Fin cfg0.N, win0_0.index t = ![0, t.val] ∧ win0_1.index t = ![0, 0] ∧ win0_2.index t = ![t.val, 0] :=
  (by decide +kernel : ∀ t : Fin grid0.N, _)

theorem final2 : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.Kernel7Ideal.Hand

namespace Cert.Reference7Ideal.Hand

open Idealize.ShloMosaic Idealize.SL.Sem Cert.Reference7Ideal Cert.Reference7Ideal.Gen Cert.Kernel7Ideal.Hand

theorem prod_same {x0 y0 : FVec Ideal ⟨2, ![4096, 3584]⟩ .bf16} {x1 y1 : FVec Ideal ⟨2, ![4096, 1024]⟩ .bf16}
    (e0 : y0 = x0) (e1 : y1 = x1) :
    transpose S3584x1024 [1, 0] (transpose S1024x3584 [1, 0] (Host.dotGeneral dot_S4096x3584_S4096x1024_S3584x1024_0_0_1_1_n_n none (extf .f32 y0 bitsLt_bf16_f32) (extf .f32 y1 bitsLt_bf16_f32)) transposes_S3584x1024_S1024x3584_1_0) transposes_S1024x3584_S3584x1024_1_0
      = prod x0 x1 := by
  subst e0 e1
  funext i
  pointwise [prod]

end Cert.Reference7Ideal.Hand
-- ==== Proof.F8.lean ====
/- The gradient of the mixers' outputs: one product with the transposed weights, in eight row blocks. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Hand

open Idealize.ShloMosaic Idealize.ShloMosaic.TcCoe Idealize.SL.Sem Cert.Kernel8Ideal Cert.Kernel8Ideal.Gen

variable (m : (ℓ : Loc nD τ sig) → Buf (Elt Ideal) ℓ) (c : Dev nD)

/-- The product of the rows. -/
def prod (x : FVec Ideal ⟨2, ![4096, 1024]⟩ .bf16) (w : FVec Ideal ⟨2, ![1024, 1024]⟩ .bf16) : FVec Ideal ⟨2, ![4096, 1024]⟩ .f32 :=
  fun i => ∑ k : Fin 1024, (x (ix2 (i 0) k) : EReal) * (w (ix2 (i 1) k) : EReal)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.Kernel8Ideal.Hand

namespace Cert.Reference8Ideal.Hand

open Idealize.ShloMosaic Idealize.SL.Sem Cert.Reference8Ideal Cert.Reference8Ideal.Gen Cert.Kernel8Ideal.Hand

theorem prod_same {x0 y0 : FVec Ideal ⟨2, ![4096, 1024]⟩ .bf16} {x1 y1 : FVec Ideal ⟨2, ![1024, 1024]⟩ .bf16}
    (e0 : y0 = x0) (e1 : y1 = x1) :
    Host.dotGeneral dot_S4096x1024_S1024x1024_S4096x1024_1_1_0_0_n_n none (extf .f32 y0 bitsLt_bf16_f32) (extf .f32 y1 bitsLt_bf16_f32)
      = prod x0 x1 := by
  subst e0 e1
  funext i
  pointwise [prod]

end Cert.Reference8Ideal.Hand
-- ==== Proof.F9.lean ====
/- The gradient of the output projection's weights: one product contracting the tokens, in two blocks. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.Hand

open Idealize.ShloMosaic Idealize.ShloMosaic.TcCoe Idealize.SL.Sem Cert.Kernel9Ideal Cert.Kernel9Ideal.Gen

variable (m : (ℓ : Loc nD τ sig) → Buf (Elt Ideal) ℓ) (c : Dev nD)

/-- The product over the tokens. -/
def prod (x : FVec Ideal ⟨2, ![4096, 1024]⟩ .f32) (w : FVec Ideal ⟨2, ![4096, 1024]⟩ .bf16) : FVec Ideal ⟨2, ![1024, 1024]⟩ .f32 :=
  fun i => ∑ k : Fin 4096, (x (ix2 k (i 0)) : EReal) * (w (ix2 k (i 1)) : EReal)

theorem idx : ∀ t : Fin cfg0.N, win0_0.index t = ![0, t.val] ∧ win0_1.index t = ![0, 0] ∧ win0_2.index t = ![t.val, 0] :=
  (by decide +kernel : ∀ t : Fin grid0.N, _)

theorem final2 : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.Kernel9Ideal.Hand

namespace Cert.Reference9Ideal.Hand

open Idealize.ShloMosaic Idealize.SL.Sem Cert.Reference9Ideal Cert.Reference9Ideal.Gen Cert.Kernel9Ideal.Hand

theorem prod_same {x0 y0 : FVec Ideal ⟨2, ![4096, 1024]⟩ .f32} {x1 y1 : FVec Ideal ⟨2, ![4096, 1024]⟩ .bf16}
    (e0 : y0 = x0) (e1 : y1 = x1) :
    transpose S1024x1024 [1, 0] (Host.dotGeneral dot_S4096x1024_S4096x1024_S1024x1024_0_0_1_1_n_n none (extf .f32 y1 bitsLt_bf16_f32) y0) transposes_S1024x1024_S1024x1024_1_0
      = prod x0 x1 := by
  subst e0 e1
  funext i
  pointwise [prod]
  exact Finset.sum_congr rfl fun k _ => mul_comm _ _

end Cert.Reference9Ideal.Hand
-- ==== Proof.Logi.lean ====
/- The logistic function in its two forms, at every extended real. -/
module

public import proofs.«01_k».proof.Proof.R2

@[expose] public section

noncomputable section

namespace Cert.Att

open Idealize.ShloMosaic Idealize.SL.Sem Cert.Kernel2Ideal.Hand Cert.Reference2Ideal.Hand

/-- Half the hyperbolic tangent of the half, plus a half, is one over one plus the exponential: at the infinities too. -/
theorem sg_all (x : EReal) : sgk x = Ideal.div 1 (1 + Ideal.exp (-x)) := by
  induction x using EReal.rec with
  | bot =>
    unfold sgk
    rw [bits_half, EReal.coe_mul_bot_of_pos (by norm_num), EReal.neg_bot, show Ideal.tanh ⊥ = ((-1 : ℝ) : EReal) from rfl, show Ideal.exp ⊤ = ⊤ from rfl]
    rw [← EReal.coe_mul, ← EReal.coe_add]
    norm_num [Ideal.div, show (1 + ⊤ : EReal) = ⊤ from EReal.coe_add_top 1]
  | top =>
    unfold sgk
    rw [bits_half, EReal.coe_mul_top_of_pos (by norm_num), EReal.neg_top, show Ideal.tanh ⊤ = ((1 : ℝ) : EReal) from rfl, show Ideal.exp ⊥ = 0 from rfl]
    rw [← EReal.coe_mul, ← EReal.coe_add]
    norm_num [Ideal.div]
  | coe x => rw [sgk_real, sgr_real]

end Cert.Att
-- ==== Proof.F10.lean ====
/- The gated unit of the first network: two products and the activation, in sixteen blocks. -/
module

public import proofs.«01_k».proof.Proof.Logi
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Hand

open Idealize.ShloMosaic Idealize.ShloMosaic.TcCoe Idealize.SL.Sem Cert.Kernel10Ideal Cert.Kernel10Ideal.Gen

variable (m : (ℓ : Loc nD τ sig) → Buf (Elt Ideal) ℓ) (c : Dev nD)

abbrev Tok := FVec Ideal ⟨2, ![4096, 1024]⟩ .bf16
abbrev Wts := FVec Ideal ⟨2, ![2816, 1024]⟩ .bf16
abbrev Mid := FVec Ideal ⟨2, ![4096, 2816]⟩ .bf16

/-- The product of a token's row with a row of the weights. -/
def pr (x : Tok) (w : Wts) (i : Fin 4096) (f : Fin 2816) : EReal := ∑ k : Fin 1024, (x (ix2 i k) : EReal) * (w (ix2 f k) : EReal)

def gate (x : Tok) (g : Wts) : Mid := fun i => (pr x g (i 0) (i 1) : EReal)
def up (x : Tok) (u : Wts) : Mid := fun i => (pr x u (i 0) (i 1) : EReal)
/-- The gate through its logistic function, times the other product. -/
def act (x : Tok) (g u : Wts) : Mid := fun i =>
  (pr x g (i 0) (i 1) * Cert.Kernel2Ideal.Hand.sgk (pr x g (i 0) (i 1)) * pr x u (i 0) (i 1) : EReal)

theorem idx : ∀ t : Fin cfg0.N, win0_0.index t = ![t.val / 2, 0] ∧ win0_1.index t = ![t.val % 2, 0] ∧ win0_2.index t = ![t.val % 2, 0] ∧ win0_3.index t = ![t.val / 2, t.val % 2] ∧ win0_4.index t = ![t.val / 2, t.val % 2] ∧ win0_5.index t = ![t.val / 2, t.val % 2] :=
  (by decide +kernel : ∀ t : Fin grid0.N, _)

theorem final3 : (dats m 0 c).arrAt 3 cfg0.N = gate (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay3, k0_pay1, gate, pr]
  blk_point [iblk, V, idx t]

theorem final4 : (dats m 0 c).arrAt 4 cfg0.N = up (m ((c : Thread nD τ).loc main_arg0)) (m ((c : Thread nD τ).loc main_arg2)) := by
  refine (dats m 0 c).arrAt_eq_of_covers 4 _ (by decide +kernel) fun t _ y => ?_
  blk_simp
  rw [after0_4]
  frame_out
  pointwise [k0_pay4, k0_pay2, up, pr]
  blk_point [iblk, V, idx t]

theorem final5 : (dats m 0 c).arrAt 5 cfg0.N = act (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay5, k0_pay1, k0_pay2, act, pr, Cert.Kernel2Ideal.Hand.sgk]
  blk_point [iblk, V, idx t]

end Cert.Kernel10Ideal.Hand

namespace Cert.Reference10Ideal.Hand

open Idealize.ShloMosaic Idealize.SL.Sem Cert.Reference10Ideal Cert.Reference10Ideal.Gen Cert.Kernel10Ideal.Hand

theorem gate_same {x0 y0 : FVec Ideal ⟨2, ![4096, 1024]⟩ .bf16} {x1 y1 : FVec Ideal ⟨2, ![2816, 1024]⟩ .bf16} {x2 y2 : FVec Ideal ⟨2, ![2816, 1024]⟩ .bf16}
    (e0 : y0 = x0) (e1 : y1 = x1) (e2 : y2 = x2) :
    truncf .bf16 (Host.dotGeneral dot_S4096x1024_S1024x2816_S4096x2816_1_0_0_1_n_n none (extf .f32 y0 bitsLt_bf16_f32) (transpose S1024x2816 [1, 0] (extf .f32 y1 bitsLt_bf16_f32) transposes_S2816x1024_S1024x2816_1_0)) bitsLt_bf16_f32
      = gate x0 x1 := by
  subst e0 e1 e2
  funext i
  pointwise [gate, pr]

theorem up_same {x0 y0 : FVec Ideal ⟨2, ![4096, 1024]⟩ .bf16} {x1 y1 : FVec Ideal ⟨2, ![2816, 1024]⟩ .bf16} {x2 y2 : FVec Ideal ⟨2, ![2816, 1024]⟩ .bf16}
    (e0 : y0 = x0) (e1 : y1 = x1) (e2 : y2 = x2) :
    truncf .bf16 (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0)) bitsLt_bf16_f32
      = up x0 x2 := by
  subst e0 e1 e2
  funext i
  pointwise [up, pr]

theorem act_same {x0 y0 : FVec Ideal ⟨2, ![4096, 1024]⟩ .bf16} {x1 y1 : FVec Ideal ⟨2, ![2816, 1024]⟩ .bf16} {x2 y2 : FVec Ideal ⟨2, ![2816, 1024]⟩ .bf16}
    (e0 : y0 = x0) (e1 : y1 = x1) (e2 : y2 = x2) :
    truncf .bf16 (mulf (mulf (Host.dotGeneral dot_S4096x1024_S1024x2816_S4096x2816_1_0_0_1_n_n none (extf .f32 y0 bitsLt_bf16_f32) (transpose S1024x2816 [1, 0] (extf .f32 y1 bitsLt_bf16_f32) transposes_S2816x1024_S1024x2816_1_0)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (extf .f32 y0 bitsLt_bf16_f32) (transpose S1024x2816 [1, 0] (extf .f32 y1 bitsLt_bf16_f32) transposes_S2816x1024_S1024x2816_1_0))))))) (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0))) bitsLt_bf16_f32
      = act x0 x1 x2 := by
  subst e0 e1 e2
  funext i
  unfold act
  rw [Cert.Att.sg_all]
  pointwise [pr]

end Cert.Reference10Ideal.Hand
-- ==== Proof.F11.lean ====
/- The first network's output, half of it added to its residual, and the next normalised input. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Hand

open Idealize.ShloMosaic Idealize.ShloMosaic.TcCoe Idealize.SL.Sem Cert.Kernel11Ideal Cert.Kernel11Ideal.Gen

variable (m : (ℓ : Loc nD τ sig) → Buf (Elt Ideal) ℓ) (c : Dev nD)

abbrev Inp := FVec Ideal ⟨2, ![4096, 2816]⟩ .bf16
abbrev Wts := FVec Ideal ⟨2, ![2816, 1024]⟩ .bf16
abbrev Rows := FVec Ideal ⟨2, ![4096, 1024]⟩ .f32
abbrev Scale := FVec Ideal ⟨2, ![1, 1024]⟩ .f32

/-- The residual with the product added. -/
def res (x : Inp) (w : Wts) (r : Rows) (i : Fin 4096) (j : Fin 1024) : EReal := (∑ k : Fin 2816, (x (ix2 i k) : EReal) * (w (ix2 k j) : EReal)) * Ideal.ofBits .f32 0x3F000000#32 + (r (ix2 i j) : EReal)

def out (x : Inp) (w : Wts) (r : Rows) : Rows := fun i => (res x w r (i 0) (i 1) : EReal)

/-- The rows divided by their root mean square, and scaled. -/
def normed (x : Inp) (w : Wts) (r : Rows) (g : Scale) : FVec Ideal ⟨2, ![4096, 1024]⟩ .bf16 := fun i =>
  (res x w r (i 0) (i 1) * Ideal.rsqrt (Ideal.div (∑ l : Fin 1024, res x w r (i 0) l * res x w r (i 0) l) (Ideal.ofBits .f32 0x44800000#32)
    + Ideal.ofBits .f32 0x358637BD#32) * (g (ix2 0 (i 1)) : EReal) : EReal)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem final4 : (dats m 0 c).arrAt 4 cfg0.N = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay1, out, res]
  blk_point [iblk, V, idx t]

theorem final5 : (dats m 0 c).arrAt 5 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay2, k0_pay1, normed, res]
  blk_point [iblk, V, idx t]

end Cert.Kernel11Ideal.Hand

namespace Cert.Reference11Ideal.Hand

open Idealize.ShloMosaic Idealize.SL.Sem Cert.Reference11Ideal Cert.Reference11Ideal.Gen Cert.Kernel11Ideal.Hand

theorem out_same {x0 y0 : FVec Ideal ⟨2, ![4096, 2816]⟩ .bf16} {x1 y1 : FVec Ideal ⟨2, ![2816, 1024]⟩ .bf16} {x2 y2 : FVec Ideal ⟨2, ![4096, 1024]⟩ .f32} {x3 y3 : FVec Ideal ⟨2, ![1, 1024]⟩ .f32}
    (e0 : y0 = x0) (e1 : y1 = x1) (e2 : y2 = x2) (e3 : y3 = x3) :
    addf y2 (mulf (broadcastInDim S4096x1024 ![] bcast_S_S4096x1024 (constant S_ .f32 0x3F000000#32)) (Host.dotGeneral dot_S4096x2816_S2816x1024_S4096x1024_1_0_0_1_n_n none (extf .f32 y0 bitsLt_bf16_f32) (extf .f32 y1 bitsLt_bf16_f32)))
      = out x0 x1 x2 := by
  subst e0 e1 e2 e3
  funext i
  pointwise [out, res]
  rw [add_comm, mul_comm]

theorem normed_same {x0 y0 : FVec Ideal ⟨2, ![4096, 2816]⟩ .bf16} {x1 y1 : FVec Ideal ⟨2, ![2816, 1024]⟩ .bf16} {x2 y2 : FVec Ideal ⟨2, ![4096, 1024]⟩ .f32} {x3 y3 : FVec Ideal ⟨2, ![1, 1024]⟩ .f32}
    (e0 : y0 = x0) (e1 : y1 = x1) (e2 : y2 = x2) (e3 : y3 = x3) :
    truncf .bf16 (mulf (mulf (addf y2 (mulf (broadcastInDim S4096x1024 ![] bcast_S_S4096x1024 (constant S_ .f32 0x3F000000#32)) (Host.dotGeneral dot_S4096x2816_S2816x1024_S4096x1024_1_0_0_1_n_n none (extf .f32 y0 bitsLt_bf16_f32) (extf .f32 y1 bitsLt_bf16_f32)))) (broadcastInDim S4096x1024 ![0, 1] bcast_S4096x1_S4096x1024_0_1 (Host.rsqrt (addf (Host.divf (broadcastInDim S4096x1 ![0] bcast_S4096_S4096x1_0 (Host.reduceAdd (mulf (addf y2 (mulf (broadcastInDim S4096x1024 ![] bcast_S_S4096x1024 (constant S_ .f32 0x3F000000#32)) (Host.dotGeneral dot_S4096x2816_S2816x1024_S4096x1024_1_0_0_1_n_n none (extf .f32 y0 bitsLt_bf16_f32) (extf .f32 y1 bitsLt_bf16_f32)))) (addf y2 (mulf (broadcastInDim S4096x1024 ![] bcast_S_S4096x1024 (constant S_ .f32 0x3F000000#32)) (Host.dotGeneral dot_S4096x2816_S2816x1024_S4096x1024_1_0_0_1_n_n none (extf .f32 y0 bitsLt_bf16_f32) (extf .f32 y1 bitsLt_bf16_f32))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 y3)) bitsLt_bf16_f32
      = normed x0 x1 x2 x3 := by
  subst e0 e1 e2 e3
  have e : ∀ (i : Fin 4096) (j : Fin 1024), (y2 (ix2 i j) : EReal) + Ideal.ofBits .f32 0x3F000000#32 * ∑ k : Fin 2816, (y0 (ix2 i k) : EReal) * (y1 (ix2 k j) : EReal) = res y0 y1 y2 i j := fun i j => by
    unfold res; rw [add_comm, mul_comm]
  funext i
  obtain ⟨r, q, rfl⟩ : ∃ (r : Fin 4096) (q : Fin 1024), i = ix2 r q := ⟨i 0, i 1, eq_ix2 i⟩
  pointwise [normed]
  simp only [e]

end Cert.Reference11Ideal.Hand
-- ==== Proof.Alg6.lean ====
/- Each equality of the results, for the projections of the backward pass and the first network of the forward pass. -/
module

public import proofs.«01_k».proof.Defs
public import proofs.«01_k».proof.Proof.Gen.Kernel6Ideal.Value
public import proofs.«01_k».proof.Proof.Gen.Reference6Ideal.Run
public import proofs.«01_k».proof.Proof.R6
public import proofs.«01_k».proof.Proof.Gen.Kernel7Ideal.Value
public import proofs.«01_k».proof.Proof.Gen.Reference7Ideal.Run
public import proofs.«01_k».proof.Proof.F7
public import proofs.«01_k».proof.Proof.Gen.Kernel8Ideal.Value
public import proofs.«01_k».proof.Proof.Gen.Reference8Ideal.Run
public import proofs.«01_k».proof.Proof.F8
public import proofs.«01_k».proof.Proof.Gen.Kernel9Ideal.Value
public import proofs.«01_k».proof.Proof.Gen.Reference9Ideal.Run
public import proofs.«01_k».proof.Proof.F9
public import proofs.«01_k».proof.Proof.Gen.Kernel10Ideal.Value
public import proofs.«01_k».proof.Proof.Gen.Reference10Ideal.Run
public import proofs.«01_k».proof.Proof.F10
public import proofs.«01_k».proof.Proof.Gen.Kernel11Ideal.Value
public import proofs.«01_k».proof.Proof.Gen.Reference11Ideal.Run
public import proofs.«01_k».proof.Proof.F11

@[expose] public section

namespace Cert.Proof

open Idealize.ShloMosaic Idealize.SL.Sem Cert.Kernel

theorem frame_r6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem alg6 : Cert.algebraic_Kernel6Ideal_Reference6Ideal_pre_finite6 := by
  intro m g m' g' hpre hargs
  have f := fun c => Cert.Reference6Ideal.Hand.reals (hpre c)
  exact ⟨fun c => Cert.Kernel6Ideal.Hand.dx (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), fun c => Cert.Kernel6Ideal.Hand.dx16 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), fun c => Cert.Kernel6Ideal.Hand.dg (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg4)),
    (θ_run Cert.Kernel6Ideal.defs _ _).mono (fun q h c => ⟨(h c).1.trans (Cert.Kernel6Ideal.Hand.final5 m c), (h c).2.1.trans (Cert.Kernel6Ideal.Hand.final6 m c), (h c).2.2.1.trans (Cert.Kernel6Ideal.Hand.final7 m c), (h c).2.2.2⟩) (Cert.Kernel6Ideal.Value.run_blocks m g),
    (θ_run Cert.Reference6Ideal.defs _ _).mono (fun q h c => ⟨(h c).1.trans (Cert.Reference6Ideal.Hand.dx_same (f c) (hargs c).1 (hargs c).2.1 (hargs c).2.2.1 (hargs c).2.2.2.1 (hargs c).2.2.2.2), (h c).2.1.trans (Cert.Reference6Ideal.Hand.dx16_same (f c) (hargs c).1 (hargs c).2.1 (hargs c).2.2.1 (hargs c).2.2.2.1 (hargs c).2.2.2.2), (h c).2.2.1.trans (Cert.Reference6Ideal.Hand.dg_same (f c) (hargs c).1 (hargs c).2.1 (hargs c).2.2.1 (hargs c).2.2.2.1 (hargs c).2.2.2.2), (h c).2.2.2⟩) (Cert.Reference6Ideal.Value.run (F := Ideal) m' g')⟩

theorem frame_r7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem alg7 : Cert.algebraic_Kernel7Ideal_Reference7Ideal := by
  intro m g m' g' _ hargs
  exact ⟨fun c => Cert.Kernel7Ideal.Hand.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun q h c => ⟨(h c).1.trans (Cert.Kernel7Ideal.Hand.final2 m c), (h c).2⟩) (Cert.Kernel7Ideal.Value.run_blocks m g),
    (θ_run Cert.Reference7Ideal.defs _ _).mono (fun q h c => ⟨(h c).1.trans (Cert.Reference7Ideal.Hand.prod_same (hargs c).1 (hargs c).2), (h c).2⟩) (Cert.Reference7Ideal.Value.run (F := Ideal) m' g')⟩

theorem frame_r8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem alg8 : Cert.algebraic_Kernel8Ideal_Reference8Ideal := by
  intro m g m' g' _ hargs
  exact ⟨fun c => Cert.Kernel8Ideal.Hand.prod (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun q h c => ⟨(h c).1.trans (Cert.Kernel8Ideal.Hand.final2 m c), (h c).2⟩) (Cert.Kernel8Ideal.Value.run_blocks m g),
    (θ_run Cert.Reference8Ideal.defs _ _).mono (fun q h c => ⟨(h c).1.trans (Cert.Reference8Ideal.Hand.prod_same (hargs c).1 (hargs c).2), (h c).2⟩) (Cert.Reference8Ideal.Value.run (F := Ideal) m' g')⟩

theorem frame_r9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem alg9 : Cert.algebraic_Kernel9Ideal_Reference9Ideal := by
  intro m g m' g' _ hargs
  exact ⟨fun c => Cert.Kernel9Ideal.Hand.prod (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun q h c => ⟨(h c).1.trans (Cert.Kernel9Ideal.Hand.final2 m c), (h c).2⟩) (Cert.Kernel9Ideal.Value.run_blocks m g),
    (θ_run Cert.Reference9Ideal.defs _ _).mono (fun q h c => ⟨(h c).1.trans (Cert.Reference9Ideal.Hand.prod_same (hargs c).1 (hargs c).2), (h c).2⟩) (Cert.Reference9Ideal.Value.run (F := Ideal) m' g')⟩

theorem frame_r10 : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

theorem alg10 : Cert.algebraic_Kernel10Ideal_Reference10Ideal := by
  intro m g m' g' _ hargs
  exact ⟨fun c => Cert.Kernel10Ideal.Hand.gate (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), fun c => Cert.Kernel10Ideal.Hand.up (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)), fun c => Cert.Kernel10Ideal.Hand.act (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    (θ_run Cert.Kernel10Ideal.defs _ _).mono (fun q h c => ⟨(h c).1.trans (Cert.Kernel10Ideal.Hand.final3 m c), (h c).2.1.trans (Cert.Kernel10Ideal.Hand.final4 m c), (h c).2.2.1.trans (Cert.Kernel10Ideal.Hand.final5 m c), (h c).2.2.2⟩) (Cert.Kernel10Ideal.Value.run_blocks m g),
    (θ_run Cert.Reference10Ideal.defs _ _).mono (fun q h c => ⟨(h c).1.trans (Cert.Reference10Ideal.Hand.gate_same (hargs c).1 (hargs c).2.1 (hargs c).2.2), (h c).2.1.trans (Cert.Reference10Ideal.Hand.up_same (hargs c).1 (hargs c).2.1 (hargs c).2.2), (h c).2.2.1.trans (Cert.Reference10Ideal.Hand.act_same (hargs c).1 (hargs c).2.1 (hargs c).2.2), (h c).2.2.2⟩) (Cert.Reference10Ideal.Value.run (F := Ideal) m' g')⟩

theorem frame_r11 : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem alg11 : Cert.algebraic_Kernel11Ideal_Reference11Ideal := by
  intro m g m' g' _ hargs
  exact ⟨fun c => Cert.Kernel11Ideal.Hand.out (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)), fun c => Cert.Kernel11Ideal.Hand.normed (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    (θ_run Cert.Kernel11Ideal.defs _ _).mono (fun q h c => ⟨(h c).1.trans (Cert.Kernel11Ideal.Hand.final4 m c), (h c).2.1.trans (Cert.Kernel11Ideal.Hand.final5 m c), (h c).2.2⟩) (Cert.Kernel11Ideal.Value.run_blocks m g),
    (θ_run Cert.Reference11Ideal.defs _ _).mono (fun q h c => ⟨(h c).1.trans (Cert.Reference11Ideal.Hand.out_same (hargs c).1 (hargs c).2.1 (hargs c).2.2.1 (hargs c).2.2.2), (h c).2.1.trans (Cert.Reference11Ideal.Hand.normed_same (hargs c).1 (hargs c).2.1 (hargs c).2.2.1 (hargs c).2.2.2), (h c).2.2⟩) (Cert.Reference11Ideal.Value.run (F := Ideal) m' g')⟩

end Cert.Proof
-- ==== Proof.F12.lean ====
/- The mixers' input projection: one product with the weights' rows, in sixteen row blocks. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Hand

open Idealize.ShloMosaic Idealize.ShloMosaic.TcCoe Idealize.SL.Sem Cert.Kernel12Ideal Cert.Kernel12Ideal.Gen

variable (m : (ℓ : Loc nD τ sig) → Buf (Elt Ideal) ℓ) (c : Dev nD)

/-- The product of the rows. -/
def prod (x : FVec Ideal ⟨2, ![4096, 1024]⟩ .bf16) (w : FVec Ideal ⟨2, ![3584, 1024]⟩ .bf16) : FVec Ideal ⟨2, ![4096, 3584]⟩ .f32 :=
  fun i => ∑ k : Fin 1024, (x (ix2 (i 0) k) : EReal) * (w (ix2 (i 1) k) : EReal)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.Kernel12Ideal.Hand

namespace Cert.Reference12Ideal.Hand

open Idealize.ShloMosaic Idealize.SL.Sem Cert.Reference12Ideal Cert.Reference12Ideal.Gen Cert.Kernel12Ideal.Hand

theorem prod_same {x0 y0 : FVec Ideal ⟨2, ![4096, 1024]⟩ .bf16} {x1 y1 : FVec Ideal ⟨2, ![3584, 1024]⟩ .bf16}
    (e0 : y0 = x0) (e1 : y1 = x1) :
    Host.dotGeneral dot_S4096x1024_S1024x3584_S4096x3584_1_0_0_1_n_n none (extf .f32 y0 bitsLt_bf16_f32) (transpose S1024x3584 [1, 0] (extf .f32 y1 bitsLt_bf16_f32) transposes_S3584x1024_S1024x3584_1_0)
      = prod x0 x1 := by
  subst e0 e1
  funext i
  pointwise [prod]

end Cert.Reference12Ideal.Hand
-- ==== Proof.F13.lean ====
/- The mixers' output, added to its residual, and the next normalised input. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Kernel13Ideal.Hand

open Idealize.ShloMosaic Idealize.ShloMosaic.TcCoe Idealize.SL.Sem Cert.Kernel13Ideal Cert.Kernel13Ideal.Gen

variable (m : (ℓ : Loc nD τ sig) → Buf (Elt Ideal) ℓ) (c : Dev nD)

abbrev Inp := FVec Ideal ⟨2, ![4096, 1024]⟩ .f32
abbrev Wts := FVec Ideal ⟨2, ![1024, 1024]⟩ .bf16
abbrev Rows := FVec Ideal ⟨2, ![4096, 1024]⟩ .f32
abbrev Scale := FVec Ideal ⟨2, ![1, 1024]⟩ .f32

/-- The residual with the product added. -/
def res (x : Inp) (w : Wts) (r : Rows) (i : Fin 4096) (j : Fin 1024) : EReal := (∑ k : Fin 1024, (x (ix2 i k) : EReal) * (w (ix2 k j) : EReal)) + (r (ix2 i j) : EReal)

def out (x : Inp) (w : Wts) (r : Rows) : Rows := fun i => (res x w r (i 0) (i 1) : EReal)

/-- The rows divided by their root mean square, and scaled. -/
def normed (x : Inp) (w : Wts) (r : Rows) (g : Scale) : FVec Ideal ⟨2, ![4096, 1024]⟩ .bf16 := fun i =>
  (res x w r (i 0) (i 1) * Ideal.rsqrt (Ideal.div (∑ l : Fin 1024, res x w r (i 0) l * res x w r (i 0) l) (Ideal.ofBits .f32 0x44800000#32)
    + Ideal.ofBits .f32 0x358637BD#32) * (g (ix2 0 (i 1)) : EReal) : EReal)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem final4 : (dats m 0 c).arrAt 4 cfg0.N = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay1, out, res]
  blk_point [iblk, V, idx t]

theorem final5 : (dats m 0 c).arrAt 5 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay2, k0_pay1, normed, res]
  blk_point [iblk, V, idx t]

end Cert.Kernel13Ideal.Hand

namespace Cert.Reference13Ideal.Hand

open Idealize.ShloMosaic Idealize.SL.Sem Cert.Reference13Ideal Cert.Reference13Ideal.Gen Cert.Kernel13Ideal.Hand

theorem out_same {x0 y0 : FVec Ideal ⟨2, ![4096, 1024]⟩ .f32} {x1 y1 : FVec Ideal ⟨2, ![1024, 1024]⟩ .bf16} {x2 y2 : FVec Ideal ⟨2, ![4096, 1024]⟩ .f32} {x3 y3 : FVec Ideal ⟨2, ![1, 1024]⟩ .f32}
    (e0 : y0 = x0) (e1 : y1 = x1) (e2 : y2 = x2) (e3 : y3 = x3) :
    addf y2 (Host.dotGeneral dot_S4096x1024_S1024x1024_S4096x1024_1_0_0_1_n_n none y0 (extf .f32 y1 bitsLt_bf16_f32))
      = out x0 x1 x2 := by
  subst e0 e1 e2 e3
  funext i
  pointwise [out, res]
  rw [add_comm]

theorem normed_same {x0 y0 : FVec Ideal ⟨2, ![4096, 1024]⟩ .f32} {x1 y1 : FVec Ideal ⟨2, ![1024, 1024]⟩ .bf16} {x2 y2 : FVec Ideal ⟨2, ![4096, 1024]⟩ .f32} {x3 y3 : FVec Ideal ⟨2, ![1, 1024]⟩ .f32}
    (e0 : y0 = x0) (e1 : y1 = x1) (e2 : y2 = x2) (e3 : y3 = x3) :
    truncf .bf16 (mulf (mulf (addf y2 (Host.dotGeneral dot_S4096x1024_S1024x1024_S4096x1024_1_0_0_1_n_n none y0 (extf .f32 y1 bitsLt_bf16_f32))) (broadcastInDim S4096x1024 ![0, 1] bcast_S4096x1_S4096x1024_0_1 (Host.rsqrt (addf (Host.divf (broadcastInDim S4096x1 ![0] bcast_S4096_S4096x1_0 (Host.reduceAdd (mulf (addf y2 (Host.dotGeneral dot_S4096x1024_S1024x1024_S4096x1024_1_0_0_1_n_n none y0 (extf .f32 y1 bitsLt_bf16_f32))) (addf y2 (Host.dotGeneral dot_S4096x1024_S1024x1024_S4096x1024_1_0_0_1_n_n none y0 (extf .f32 y1 bitsLt_bf16_f32)))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 y3)) bitsLt_bf16_f32
      = normed x0 x1 x2 x3 := by
  subst e0 e1 e2 e3
  have e : ∀ (i : Fin 4096) (j : Fin 1024), (y2 (ix2 i j) : EReal) + ∑ k : Fin 1024, (y0 (ix2 i k) : EReal) * (y1 (ix2 k j) : EReal) = res y0 y1 y2 i j := fun i j => by
    unfold res; rw [add_comm]
  funext i
  obtain ⟨r, q, rfl⟩ : ∃ (r : Fin 4096) (q : Fin 1024), i = ix2 r q := ⟨i 0, i 1, eq_ix2 i⟩
  pointwise [normed]
  simp only [e]

end Cert.Reference13Ideal.Hand
-- ==== Proof.F14.lean ====
/- The second network's forward product with its loss: two products, the activation, the third product over two blocks, the residual's error and its squares. -/
module

public import proofs.«01_k».proof.Proof.Logi
public import Idealize.ShloMosaic.Lib.Pipeline.ReadBack
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384
set_option maxHeartbeats 1000000

noncomputable section

namespace Cert.Kernel14Ideal.Hand

open Idealize.ShloMosaic Idealize.ShloMosaic.TcCoe Idealize.SL.Sem Cert.Kernel14Ideal Cert.Kernel14Ideal.Gen

variable (m : (ℓ : Loc nD τ sig) → Buf (Elt Ideal) ℓ) (c : Dev nD)

abbrev Tok := FVec Ideal ⟨2, ![4096, 1024]⟩ .bf16
abbrev Rows := FVec Ideal ⟨2, ![4096, 1024]⟩ .f32
abbrev Wts := FVec Ideal ⟨2, ![2816, 1024]⟩ .bf16
abbrev Mid := FVec Ideal ⟨2, ![4096, 2816]⟩ .bf16

/-- The product of a token's row with a row of the weights. -/
def pr (x : Tok) (w : Wts) (i : Fin 4096) (f : Fin 2816) : EReal := ∑ k : Fin 1024, (x (ix2 i k) : EReal) * (w (ix2 f k) : EReal)

def gate (x : Tok) (g : Wts) : Mid := fun i => (pr x g (i 0) (i 1) : EReal)
def up (x : Tok) (u : Wts) : Mid := fun i => (pr x u (i 0) (i 1) : EReal)

/-- The gate through its logistic function, times the other product. -/
def act (x : Tok) (g u : Wts) (i : Fin 4096) (f : Fin 2816) : EReal := pr x g i f * Cert.Kernel2Ideal.Hand.sgk (pr x g i f) * pr x u i f

/-- The residual and half the network's output, less the target. -/
def err (x : Tok) (r : Rows) (g u d : Wts) (z : Rows) (i : Fin 4096) (j : Fin 1024) : EReal :=
  (r (ix2 i j) : EReal) + Ideal.ofBits .f32 0x3F000000#32 * (∑ f : Fin 2816, act x g u i f * (d (ix2 f j) : EReal)) - (z (ix2 i j) : EReal)

def dy (x : Tok) (r : Rows) (g u d : Wts) (z : Rows) : Rows := fun i => (err x r g u d z (i 0) (i 1) * Ideal.ofBits .f32 0x3A800000#32 : EReal)
def dy16 (x : Tok) (r : Rows) (g u d : Wts) (z : Rows) : Tok := fun i => (err x r g u d z (i 0) (i 1) * Ideal.ofBits .f32 0x3A800000#32 : EReal)

/-- The squared errors' sums over the tokens. -/
def sq (x : Tok) (r : Rows) (g u d : Wts) (z : Rows) : FVec Ideal ⟨2, ![1, 1024]⟩ .f32 := fun i =>
  (∑ k : Fin 4096, err x r g u d z k (i 1) * err x r g u d z k (i 1) : EReal)

theorem idx : ∀ t : Fin cfg0.N, win0_0.index t = ![t.val / 2, 0] ∧ win0_1.index t = ![t.val / 2, 0] ∧ win0_2.index t = ![t.val % 2, 0]
    ∧ win0_3.index t = ![t.val % 2, 0] ∧ win0_4.index t = ![t.val % 2, 0] ∧ win0_5.index t = ![t.val / 2, 0] ∧ win0_6.index t = ![t.val / 2, t.val % 2]
    ∧ win0_7.index t = ![t.val / 2, t.val % 2] ∧ win0_8.index t = ![t.val / 2, 0] ∧ win0_9.index t = ![t.val / 2, 0] ∧ win0_10.index t = ![0, 0] :=
  (by decide +kernel : ∀ t : Fin grid0.N, _)

/-- The point before. -/
def pv (t : Fin cfg0.N) : Fin cfg0.N := ⟨t.val - 1, Nat.lt_of_le_of_lt (Nat.sub_le _ _) t.isLt⟩

theorem idx1 : ∀ t : Fin cfg0.N, t.val % 2 = 1 → win0_2.index t = ![1, 0] ∧ win0_3.index t = ![1, 0] ∧ win0_4.index t = ![1, 0]
    ∧ win0_0.index (pv t) = ![t.val / 2, 0] ∧ win0_2.index (pv t) = ![0, 0] ∧ win0_3.index (pv t) = ![0, 0] ∧ win0_4.index (pv t) = ![0, 0] :=
  (by decide +kernel : ∀ t : Fin grid0.N, _)

theorem N_16 : ∀ t : Fin cfg0.N, t.val < 16 := (by decide +kernel : ∀ t : Fin grid0.N, _)

/-- A sum over the hidden axis, of the sums of its two blocks. -/
theorem two (A : Fin 2816 → EReal) (B C : Fin 1408 → EReal) (hB : ∀ k : Fin 1408, B k = A ⟨k.val, by omega⟩) (hC : ∀ k : Fin 1408, C k = A ⟨1408 + k.val, by omega⟩) :
    ∑ k, B k + ∑ k, C k = ∑ f, A f :=
  (congrArg₂ (· + ·) (Finset.sum_congr rfl fun k _ => hB k) (Finset.sum_congr rfl fun k _ => hC k)).trans (Fin.sum_univ_add (a := 1408) (b := 1408) A).symm

theorem final6 : (dats m 0 c).arrAt 6 cfg0.N = gate (m ((c : Thread nD τ).loc main_arg0)) (m ((c : Thread nD τ).loc main_arg2)) := by
  refine (dats m 0 c).arrAt_eq_of_covers 6 _ (by decide +kernel) fun t _ y => ?_
  blk_simp
  rw [after0_6]
  have h : (outsAt0 m c t.val t.isLt).1 = k0_pay8 (iblk m c 0 t) (iblk m c 2 t) := by
    have := N_16 t
    by_cases h0 : t.val % 2 = 0
    · rw [outsAt0_A m c t h0 (by omega) (by omega)]; frame_out
    · by_cases h3 : t.val < 2
      · rw [outsAt0_B m c t h0 (by omega) (by omega) h3 (by omega)]; frame_out
      · rw [outsAt0_C m c t h0 (by omega) (by omega) h3 (by omega)]; frame_out
  rw [h]
  pointwise [k0_pay8, k0_pay6, gate, pr]
  blk_point [iblk, V, idx t]

theorem final7 : (dats m 0 c).arrAt 7 cfg0.N = up (m ((c : Thread nD τ).loc main_arg0)) (m ((c : Thread nD τ).loc main_arg3)) := by
  refine (dats m 0 c).arrAt_eq_of_covers 7 _ (by decide +kernel) fun t _ y => ?_
  blk_simp
  rw [after0_7]
  have h : (outsAt0 m c t.val t.isLt).2.1 = k0_pay9 (iblk m c 0 t) (iblk m c 3 t) := by
    have := N_16 t
    by_cases h0 : t.val % 2 = 0
    · rw [outsAt0_A m c t h0 (by omega) (by omega)]; frame_out
    · by_cases h3 : t.val < 2
      · rw [outsAt0_B m c t h0 (by omega) (by omega) h3 (by omega)]; frame_out
      · rw [outsAt0_C m c t h0 (by omega) (by omega) h3 (by omega)]; frame_out
  rw [h]
  pointwise [k0_pay9, k0_pay7, up, pr]
  blk_point [iblk, V, idx t]

theorem prev (t : Fin cfg0.N) (ho : t.val % 2 = 1) : (outsAt0 m c (t.val - 1) (Nat.lt_of_le_of_lt (Nat.sub_le _ _) t.isLt)).2.2.2.2.2 = (k0_pay11 (iblk m c 0 (pv t)) (iblk m c 2 (pv t)) (iblk m c 3 (pv t)) (iblk m c 4 (pv t))) := by
  change (outsAt0 m c (pv t).val (pv t).isLt).2.2.2.2.2 = _
  have : (pv t).val = t.val - 1 := rfl
  rw [outsAt0_A m c (pv t) (by omega) (by omega) (by omega)]
  frame_out

/-- The error of a point's rows: its block of the residual, the products of the two blocks of the hidden axis, and its block of the target. -/
def blkErr (t : Fin cfg0.N) : Vec Ideal S512x1024 .f32 := k0_pay1 (iblk m c 1 t) (k0_pay12 (iblk m c 0 t) (iblk m c 2 t) (iblk m c 3 t) (iblk m c 4 t) (k0_pay11 (iblk m c 0 (pv t)) (iblk m c 2 (pv t)) (iblk m c 3 (pv t)) (iblk m c 4 (pv t)))) (iblk m c 5 t)

theorem err_at (t : Fin cfg0.N) (ho : t.val % 2 = 1) (r : Fin 512) (q : Fin 1024) (i : Fin 4096) (hi : i.val = t.val / 2 * 512 + r.val) :
    (blkErr m c t (ix2 r q) : EReal) = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i q := by
  have ht := idx1 t ho
  pointwise [blkErr, k0_pay1, k0_pay12, k0_pay11, k0_pay10, k0_pay6, k0_pay7, err]
  refine congrArg₂ (· - ·) (congrArg₂ (· + ·) ?_ (congrArg (_ * ·) (two _ _ _ (fun k => ?_) (fun k => ?_)))) ?_
  · blk_point [iblk, V, idx t, hi]
  · unfold act pr Cert.Kernel2Ideal.Hand.sgk
    blk_point [iblk, V, ht, hi]
  · unfold act pr Cert.Kernel2Ideal.Hand.sgk
    blk_point [iblk, V, idx t, ht, hi]
  · blk_point [iblk, V, idx t, hi]

theorem out_at (t : Fin cfg0.N) (ho : t.val % 2 = 1) : (outsAt0 m c t.val t.isLt).2.2.1 = k0_pay2 (iblk m c 1 t) (k0_pay12 (iblk m c 0 t) (iblk m c 2 t) (iblk m c 3 t) (iblk m c 4 t) (k0_pay11 (iblk m c 0 (pv t)) (iblk m c 2 (pv t)) (iblk m c 3 (pv t)) (iblk m c 4 (pv t)))) (iblk m c 5 t)
    ∧ (outsAt0 m c t.val t.isLt).2.2.2.1 = k0_pay3 (iblk m c 1 t) (k0_pay12 (iblk m c 0 t) (iblk m c 2 t) (iblk m c 3 t) (iblk m c 4 t) (k0_pay11 (iblk m c 0 (pv t)) (iblk m c 2 (pv t)) (iblk m c 3 (pv t)) (iblk m c 4 (pv t)))) (iblk m c 5 t) := by
  have := N_16 t
  by_cases h3 : t.val < 2
  · rw [outsAt0_B m c t (by omega) (by omega) (by omega) h3 (by omega), prev m c t ho]; exact ⟨by frame_out; rw [read_unread_whole], by frame_out; rw [read_unread_whole]⟩
  · rw [outsAt0_C m c t (by omega) (by omega) (by omega) h3 (by omega), prev m c t ho]; exact ⟨by frame_out; rw [read_unread_whole], by frame_out; rw [read_unread_whole]⟩

theorem final8 : (dats m 0 c).arrAt 8 cfg0.N = dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have ho := (flush0_8 t).mp hf
  blk_simp
  rw [after0_8, (out_at m c t ho).1]
  obtain ⟨r, q, rfl⟩ : ∃ (r : Fin 512) (q : Fin 1024), y = ix2 r q := ⟨y 0, y 1, eq_ix2 y⟩
  unfold dy
  have e := err_at m c t ho r q
  unfold blkErr at e
  pointwise [k0_pay2]
  refine congrArg (· * _) ((e _ ?_).trans (congrArg (err _ _ _ _ _ _ _) ?_))
  · simp [idx t]
  · exact Fin.ext (by simp [idx t])

theorem final9 : (dats m 0 c).arrAt 9 cfg0.N = dy16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have ho := (flush0_9 t).mp hf
  blk_simp
  rw [after0_9, (out_at m c t ho).2]
  obtain ⟨r, q, rfl⟩ : ∃ (r : Fin 512) (q : Fin 1024), y = ix2 r q := ⟨y 0, y 1, eq_ix2 y⟩
  unfold dy16
  have e := err_at m c t ho r q
  unfold blkErr at e
  pointwise [k0_pay3, k0_pay2]
  refine congrArg (· * _) ((e _ ?_).trans (congrArg (err _ _ _ _ _ _ _) ?_))
  · simp [idx t]
  · exact Fin.ext (by simp [idx t])

/-- The square of a token's error. -/
def sqAt (i : ℕ) (q : Fin 1024) : EReal := if h : i < 4096 then err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨i, h⟩ q * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨i, h⟩ q else 0

theorem tile_at (t : Fin cfg0.N) (ho : t.val % 2 = 1) (j : S1x1024.Idx) :
    (k0_pay4 (iblk m c 1 t) (k0_pay12 (iblk m c 0 t) (iblk m c 2 t) (iblk m c 3 t) (iblk m c 4 t) (k0_pay11 (iblk m c 0 (pv t)) (iblk m c 2 (pv t)) (iblk m c 3 (pv t)) (iblk m c 4 (pv t)))) (iblk m c 5 t) j : EReal) = ∑ k : Fin 512, sqAt m c (t.val / 2 * 512 + k.val) (j 1) := by
  have := N_16 t
  have e : ∀ (r : Fin 512) (q : Fin 1024), (k0_pay1 (iblk m c 1 t) (k0_pay12 (iblk m c 0 t) (iblk m c 2 t) (iblk m c 3 t) (iblk m c 4 t) (k0_pay11 (iblk m c 0 (pv t)) (iblk m c 2 (pv t)) (iblk m c 3 (pv t)) (iblk m c 4 (pv t)))) (iblk m c 5 t) (ix2 r q) : EReal) * (k0_pay1 (iblk m c 1 t) (k0_pay12 (iblk m c 0 t) (iblk m c 2 t) (iblk m c 3 t) (iblk m c 4 t) (k0_pay11 (iblk m c 0 (pv t)) (iblk m c 2 (pv t)) (iblk m c 3 (pv t)) (iblk m c 4 (pv t)))) (iblk m c 5 t) (ix2 r q) : EReal)
      = sqAt m c (t.val / 2 * 512 + r.val) q := fun r q => by
    have h : t.val / 2 * 512 + r.val < 4096 := by omega
    have := err_at m c t ho r q ⟨_, h⟩ rfl
    unfold blkErr at this
    rw [this, sqAt, dif_pos h]
  pointwise [k0_pay4]
  exact Finset.sum_congr rfl fun k _ => e k _

theorem pay5 (a b z : Vec Ideal S512x1024 .f32) (v : FVec Ideal S1x1024 .f32) (j : S1x1024.Idx) : (k0_pay5 (F := Ideal) a b z v j : EReal) = (v j : EReal) + (k0_pay4 (F := Ideal) a b z j : EReal) := by
  unfold k0_pay5
  pointwise []

theorem first (t : Fin cfg0.N) (h : t.val = 1) (j : S1x1024.Idx) : ((outsAt0 m c t.val t.isLt).2.2.2.2.1 j : EReal) = ∑ k : Fin 512, sqAt m c (t.val / 2 * 512 + k.val) (j 1) := by
  rw [← tile_at m c t (by omega) j, outsAt0_B m c t (by omega) (by omega) (by omega) (by omega) (by omega), prev m c t (by omega)]
  frame_out
  rw [read_unread_whole]

theorem later (t : Fin cfg0.N) (ho : t.val % 2 = 1) (h : 2 ≤ t.val) (hp : t.val - 2 < cfg0.N) (j : S1x1024.Idx) :
    ((outsAt0 m c t.val t.isLt).2.2.2.2.1 j : EReal) = ((outsAt0 m c (t.val - 2) hp).2.2.2.2.1 j : EReal) + ∑ k : Fin 512, sqAt m c (t.val / 2 * 512 + k.val) (j 1) := by
  have hk : (outsAt0 m c (t.val - 1) (Nat.lt_of_le_of_lt (Nat.sub_le _ _) t.isLt)).2.2.2.2.1 = (outsAt0 m c (t.val - 2) hp).2.2.2.2.1 := by
    change (outsAt0 m c (pv t).val (pv t).isLt).2.2.2.2.1 = _
    have : (pv t).val = t.val - 1 := rfl
    rw [outsAt0_A m c (pv t) (by omega) (by omega) (by omega)]
    rfl
  rw [← tile_at m c t ho j, outsAt0_C m c t (by omega) (by omega) (by omega) (by omega) (by omega), prev m c t ho, hk, ← pay5]
  frame_out
  rw [read_unread_whole]

theorem upto : ∀ (s n : ℕ) (_ : n = 2 * s + 1) (h : n < cfg0.N) (j : S1x1024.Idx),
    ((outsAt0 m c n h).2.2.2.2.1 j : EReal) = ∑ a ∈ Finset.range (s + 1), ∑ k : Fin 512, sqAt m c (a * 512 + k.val) (j 1)
  | 0, n, e, h, j => by
    have e2 : n / 2 = 0 := by omega
    refine (first m c ⟨n, h⟩ e j).trans ?_
    rw [Finset.sum_range_one]
    simp only [e2]
  | s + 1, n, e, h, j => by
    have h' : n - 2 < cfg0.N := by omega
    have e2 : n / 2 = s + 1 := by omega
    refine (later m c ⟨n, h⟩ (show n % 2 = 1 by omega) (show 2 ≤ n by omega) h' j).trans ?_
    rw [Finset.sum_range_succ, ← upto s (n - 2) (by omega) h' j]
    simp only [e2]

theorem final10 : (dats m 0 c).arrAt 10 cfg0.N = sq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  have ho := (flush0_10 t).mp hf
  have hN := N_16 t
  blk_simp
  rw [after0_10]
  refine (upto m c 7 t.val (by omega) t.isLt _).trans ?_
  rw [Finset.sum_range]
  unfold sq
  refine Fin.sum_mul_add_congr fun s k hl => ?_
  unfold sqAt
  rw [dif_pos hl]
  blk_point [idx t]

end Cert.Kernel14Ideal.Hand

namespace Cert.Reference14Ideal.Hand

open Idealize.ShloMosaic Idealize.SL.Sem Cert.Reference14Ideal Cert.Reference14Ideal.Gen Cert.Kernel14Ideal.Hand

theorem bits_1024 : Ideal.ofBits .f32 0x44800000#32 = ((1024 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_1024th : Ideal.ofBits .f32 0x3A800000#32 = ((1 / 1024 : ℝ) : EReal) := by
  simp [Ideal.ofBits, Ideal.ieee, -EReal.coe_mul]; norm_num

/-- The mean's share of the square's derivative. -/
theorem share (e : EReal) : Ideal.div (Ideal.ofBits .f32 0x3F000000#32 * 1) (Ideal.ofBits .f32 0x44800000#32) * (Ideal.ofBits .f32 0x40000000#32 * e)
    = e * Ideal.ofBits .f32 0x3A800000#32 := by
  rw [mul_one, bits_1024, bits_two, bits_1024th, Cert.Reference2Ideal.Hand.bits_half, Cert.Att.div_real (by norm_num), ← mul_assoc, ← EReal.coe_mul, mul_comm]
  norm_num

theorem gate_same {x0 y0 : FVec Ideal ⟨2, ![4096, 1024]⟩ .bf16} {x1 y1 : FVec Ideal ⟨2, ![4096, 1024]⟩ .f32} {x2 y2 : FVec Ideal ⟨2, ![2816, 1024]⟩ .bf16} {x3 y3 : FVec Ideal ⟨2, ![2816, 1024]⟩ .bf16} {x4 y4 : FVec Ideal ⟨2, ![2816, 1024]⟩ .bf16} {x5 y5 : FVec Ideal ⟨2, ![4096, 1024]⟩ .f32}
    (e0 : y0 = x0) (e1 : y1 = x1) (e2 : y2 = x2) (e3 : y3 = x3) (e4 : y4 = x4) (e5 : y5 = x5) :
    truncf .bf16 (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0)) bitsLt_bf16_f32
      = gate x0 x2 := by
  subst e0 e1 e2 e3 e4 e5
  funext i
  pointwise [gate, pr]

theorem up_same {x0 y0 : FVec Ideal ⟨2, ![4096, 1024]⟩ .bf16} {x1 y1 : FVec Ideal ⟨2, ![4096, 1024]⟩ .f32} {x2 y2 : FVec Ideal ⟨2, ![2816, 1024]⟩ .bf16} {x3 y3 : FVec Ideal ⟨2, ![2816, 1024]⟩ .bf16} {x4 y4 : FVec Ideal ⟨2, ![2816, 1024]⟩ .bf16} {x5 y5 : FVec Ideal ⟨2, ![4096, 1024]⟩ .f32}
    (e0 : y0 = x0) (e1 : y1 = x1) (e2 : y2 = x2) (e3 : y3 = x3) (e4 : y4 = x4) (e5 : y5 = x5) :
    truncf .bf16 (Host.dotGeneral dot_S4096x1024_S1024x2816_S4096x2816_1_0_0_1_n_n none (extf .f32 y0 bitsLt_bf16_f32) (transpose S1024x2816 [1, 0] (extf .f32 y3 bitsLt_bf16_f32) transposes_S2816x1024_S1024x2816_1_0)) bitsLt_bf16_f32
      = up x0 x3 := by
  subst e0 e1 e2 e3 e4 e5
  funext i
  pointwise [up, pr]

theorem dy_same {x0 y0 : FVec Ideal ⟨2, ![4096, 1024]⟩ .bf16} {x1 y1 : FVec Ideal ⟨2, ![4096, 1024]⟩ .f32} {x2 y2 : FVec Ideal ⟨2, ![2816, 1024]⟩ .bf16} {x3 y3 : FVec Ideal ⟨2, ![2816, 1024]⟩ .bf16} {x4 y4 : FVec Ideal ⟨2, ![2816, 1024]⟩ .bf16} {x5 y5 : FVec Ideal ⟨2, ![4096, 1024]⟩ .f32}
    (e0 : y0 = x0) (e1 : y1 = x1) (e2 : y2 = x2) (e3 : y3 = x3) (e4 : y4 = x4) (e5 : y5 = x5) :
    mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf y1 (mulf (broadcastInDim S4096x1024 ![] bcast_S_S4096x1024 (constant S_ .f32 0x3F000000#32)) (Host.dotGeneral dot_S4096x2816_S2816x1024_S4096x1024_1_0_0_1_n_n none (mulf (mulf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0))))))) (Host.dotGeneral dot_S4096x1024_S1024x2816_S4096x2816_1_0_0_1_n_n none (extf .f32 y0 bitsLt_bf16_f32) (transpose S1024x2816 [1, 0] (extf .f32 y3 bitsLt_bf16_f32) transposes_S2816x1024_S1024x2816_1_0))) (extf .f32 y4 bitsLt_bf16_f32)))) y5))
      = dy x0 x1 x2 x3 x4 x5 := by
  subst e0 e1 e2 e3 e4 e5
  funext i
  unfold dy
  rw [← share]
  simp only [err, act, Cert.Att.sg_all]
  pointwise [pr]

theorem dy16_same {x0 y0 : FVec Ideal ⟨2, ![4096, 1024]⟩ .bf16} {x1 y1 : FVec Ideal ⟨2, ![4096, 1024]⟩ .f32} {x2 y2 : FVec Ideal ⟨2, ![2816, 1024]⟩ .bf16} {x3 y3 : FVec Ideal ⟨2, ![2816, 1024]⟩ .bf16} {x4 y4 : FVec Ideal ⟨2, ![2816, 1024]⟩ .bf16} {x5 y5 : FVec Ideal ⟨2, ![4096, 1024]⟩ .f32}
    (e0 : y0 = x0) (e1 : y1 = x1) (e2 : y2 = x2) (e3 : y3 = x3) (e4 : y4 = x4) (e5 : y5 = x5) :
    truncf .bf16 (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf y1 (mulf (broadcastInDim S4096x1024 ![] bcast_S_S4096x1024 (constant S_ .f32 0x3F000000#32)) (Host.dotGeneral dot_S4096x2816_S2816x1024_S4096x1024_1_0_0_1_n_n none (mulf (mulf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0))))))) (Host.dotGeneral dot_S4096x1024_S1024x2816_S4096x2816_1_0_0_1_n_n none (extf .f32 y0 bitsLt_bf16_f32) (transpose S1024x2816 [1, 0] (extf .f32 y3 bitsLt_bf16_f32) transposes_S2816x1024_S1024x2816_1_0))) (extf .f32 y4 bitsLt_bf16_f32)))) y5))) bitsLt_bf16_f32
      = dy16 x0 x1 x2 x3 x4 x5 := by
  subst e0 e1 e2 e3 e4 e5
  funext i
  unfold dy16
  rw [← share]
  simp only [err, act, Cert.Att.sg_all]
  pointwise [pr]

theorem sq_same {x0 y0 : FVec Ideal ⟨2, ![4096, 1024]⟩ .bf16} {x1 y1 : FVec Ideal ⟨2, ![4096, 1024]⟩ .f32} {x2 y2 : FVec Ideal ⟨2, ![2816, 1024]⟩ .bf16} {x3 y3 : FVec Ideal ⟨2, ![2816, 1024]⟩ .bf16} {x4 y4 : FVec Ideal ⟨2, ![2816, 1024]⟩ .bf16} {x5 y5 : FVec Ideal ⟨2, ![4096, 1024]⟩ .f32}
    (e0 : y0 = x0) (e1 : y1 = x1) (e2 : y2 = x2) (e3 : y3 = x3) (e4 : y4 = x4) (e5 : y5 = x5) :
    broadcastInDim S1x1024 ![1] bcast_S1024_S1x1024_1 (Host.reduceAdd (mulf (subf (addf y1 (mulf (broadcastInDim S4096x1024 ![] bcast_S_S4096x1024 (constant S_ .f32 0x3F000000#32)) (Host.dotGeneral dot_S4096x2816_S2816x1024_S4096x1024_1_0_0_1_n_n none (mulf (mulf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0))))))) (Host.dotGeneral dot_S4096x1024_S1024x2816_S4096x2816_1_0_0_1_n_n none (extf .f32 y0 bitsLt_bf16_f32) (transpose S1024x2816 [1, 0] (extf .f32 y3 bitsLt_bf16_f32) transposes_S2816x1024_S1024x2816_1_0))) (extf .f32 y4 bitsLt_bf16_f32)))) y5) (subf (addf y1 (mulf (broadcastInDim S4096x1024 ![] bcast_S_S4096x1024 (constant S_ .f32 0x3F000000#32)) (Host.dotGeneral dot_S4096x2816_S2816x1024_S4096x1024_1_0_0_1_n_n none (mulf (mulf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (extf .f32 y0 bitsLt_bf16_f32) (transpose S1024x2816 [1, 0] (extf .f32 y2 bitsLt_bf16_f32) transposes_S2816x1024_S1024x2816_1_0))))))) (Host.dotGeneral dot_S4096x1024_S1024x2816_S4096x2816_1_0_0_1_n_n none (extf .f32 y0 bitsLt_bf16_f32) (transpose S1024x2816 [1, 0] (extf .f32 y3 bitsLt_bf16_f32) transposes_S2816x1024_S1024x2816_1_0))) (extf .f32 y4 bitsLt_bf16_f32)))) y5)) (constant S_ .f32 0x00000000#32) reducesTo_S4096x1024_S1024_d0 h_S_)
      = sq x0 x1 x2 x3 x4 x5 := by
  subst e0 e1 e2 e3 e4 e5
  funext i
  simp only [Cert.Kernel14Ideal.Hand.sq, err, act, Cert.Att.sg_all]
  pointwise [pr]

end Cert.Reference14Ideal.Hand
-- ==== Proof.F15.lean ====
/- The rows divided by their root mean square, and scaled. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Kernel15Ideal.Hand

open Idealize.ShloMosaic Idealize.ShloMosaic.TcCoe Idealize.SL.Sem Cert.Kernel15Ideal Cert.Kernel15Ideal.Gen

variable (m : (ℓ : Loc nD τ sig) → Buf (Elt Ideal) ℓ) (c : Dev nD)

def normed (x : FVec Ideal ⟨2, ![4096, 1024]⟩ .f32) (g : FVec Ideal ⟨2, ![1, 1024]⟩ .f32) : FVec Ideal ⟨2, ![4096, 1024]⟩ .bf16 := fun i =>
  ((x i : EReal) * Ideal.rsqrt (Ideal.div (∑ l : Fin 1024, (x (ix2 (i 0) l) : EReal) * (x (ix2 (i 0) l) : EReal)) (Ideal.ofBits .f32 0x44800000#32)
    + Ideal.ofBits .f32 0x358637BD#32) * (g (ix2 0 (i 1)) : EReal) : EReal)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, normed]
  blk_point [iblk, V, idx t]

end Cert.Kernel15Ideal.Hand

namespace Cert.Reference15Ideal.Hand

open Idealize.ShloMosaic Idealize.SL.Sem Cert.Reference15Ideal Cert.Reference15Ideal.Gen Cert.Kernel15Ideal.Hand

theorem normed_same {x0 y0 : FVec Ideal ⟨2, ![4096, 1024]⟩ .f32} {x1 y1 : FVec Ideal ⟨2, ![1, 1024]⟩ .f32}
    (e0 : y0 = x0) (e1 : y1 = x1) :
    truncf .bf16 (mulf (mulf y0 (broadcastInDim S4096x1024 ![0, 1] bcast_S4096x1_S4096x1024_0_1 (Host.rsqrt (addf (Host.divf (broadcastInDim S4096x1 ![0] bcast_S4096_S4096x1_0 (Host.reduceAdd (mulf y0 y0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 y1)) bitsLt_bf16_f32
      = normed x0 x1 := by
  subst e0 e1
  funext i
  pointwise [normed]

end Cert.Reference15Ideal.Hand
-- ==== Proof.F16.lean ====
/- The update of the input projection's weights. -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Kernel16Ideal.Hand

open Idealize.ShloMosaic Idealize.ShloMosaic.TcCoe Idealize.SL.Sem Cert.Kernel16Ideal Cert.Kernel16Ideal.Gen

variable (m : (ℓ : Loc nD τ sig) → Buf (Elt Ideal) ℓ) (c : Dev nD)

abbrev Wts := FVec Ideal ⟨3, ![1, 448, 1024]⟩ .f32
abbrev Parts := FVec Ideal ⟨3, ![4, 448, 1024]⟩ .bf16

/-- The sum of the four shares of the gradient. -/
def grad (p : Parts) : Wts := fun i => ∑ k : Fin 4, (p (ix3 k (i 1) (i 2)) : EReal)
def mom (v : Wts) (p : Parts) : Wts := fun i =>
  (Ideal.ofBits .f32 0x3F666666#32 * (v i : EReal) + Ideal.ofBits .f32 0x3DCCCCCD#32 * (grad p i : EReal) : EReal)
def var (v : Wts) (p : Parts) : Wts := fun i =>
  (Ideal.ofBits .f32 0x3F7FBE77#32 * (v i : EReal) + Ideal.ofBits .f32 0x3A83126F#32 * ((grad p i : EReal) * (grad p i : EReal)) : EReal)
/-- The change of the weights. -/
def delta (w a v : Wts) (p : Parts) : Wts := fun i =>
  (Ideal.ofBits .f32 0xBA83126F#32 * (Ideal.div (Ideal.div (mom a p i) (Ideal.ofBits .f32 0x3F26BD02#32))
    (Ideal.sqrt (Ideal.div (var v p i) (Ideal.ofBits .f32 0x3C231ACC#32)) + Ideal.ofBits .f32 0x322BCC77#32)
    + Ideal.ofBits .f32 0x3C23D70A#32 * (w i : EReal)) : EReal)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem final4 : (dats m 0 c).arrAt 4 cfg0.N = grad (m ((c : Thread nD τ).loc main_arg3)) := by
  refine (dats m 0 c).arrAt_eq_of_covers 4 _ (by decide +kernel) fun t _ y => ?_
  blk_simp
  rw [after0_4]
  frame_out
  pointwise [k0_pay2, grad, Fin.sum_univ_four]
  blk_point [iblk, V, idx t]

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, k0_pay4, k0_pay5, k0_pay6, delta, mom, var, grad, Fin.sum_univ_four]
  blk_point [iblk, V, idx t]

theorem final6 : (dats m 0 c).arrAt 6 cfg0.N = mom (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay3, k0_pay2, mom, grad, Fin.sum_univ_four]
  blk_point [iblk, V, idx t]

theorem final7 : (dats m 0 c).arrAt 7 cfg0.N = var (m ((c : Thread nD τ).loc main_arg2)) (m ((c : Thread nD τ).loc main_arg3)) := by
  refine (dats m 0 c).arrAt_eq_of_covers 7 _ (by decide +kernel) fun t _ y => ?_
  blk_simp
  rw [after0_7]
  frame_out
  pointwise [k0_pay4, k0_pay2, var, grad, Fin.sum_univ_four]
  blk_point [iblk, V, idx t]

end Cert.Kernel16Ideal.Hand

namespace Cert.Reference16Ideal.Hand

open Idealize.ShloMosaic Idealize.SL.Sem Cert.Reference16Ideal Cert.Reference16Ideal.Gen Cert.Kernel16Ideal.Hand

theorem grad_same {x0 y0 : FVec Ideal ⟨3, ![1, 448, 1024]⟩ .f32} {x1 y1 : FVec Ideal ⟨3, ![1, 448, 1024]⟩ .f32} {x2 y2 : FVec Ideal ⟨3, ![1, 448, 1024]⟩ .f32} {x3 y3 : FVec Ideal ⟨3, ![4, 448, 1024]⟩ .bf16}
    (e0 : y0 = x0) (e1 : y1 = x1) (e2 : y2 = x2) (e3 : y3 = x3) :
    broadcastInDim S1x448x1024 ![1, 2] bcast_S448x1024_S1x448x1024_1_2 (Host.reduceAdd (extf .f32 y3 bitsLt_bf16_f32) (constant S_ .f32 0x00000000#32) reducesTo_S4x448x1024_S448x1024_d0 h_S_)
      = grad x3 := by
  subst e0 e1 e2 e3
  funext i
  pointwise [grad]

theorem delta_same {x0 y0 : FVec Ideal ⟨3, ![1, 448, 1024]⟩ .f32} {x1 y1 : FVec Ideal ⟨3, ![1, 448, 1024]⟩ .f32} {x2 y2 : FVec Ideal ⟨3, ![1, 448, 1024]⟩ .f32} {x3 y3 : FVec Ideal ⟨3, ![4, 448, 1024]⟩ .bf16}
    (e0 : y0 = x0) (e1 : y1 = x1) (e2 : y2 = x2) (e3 : y3 = x3) :
    mulf (broadcastInDim S1x448x1024 ![] bcast_S_S1x448x1024 (constant S_ .f32 0xBA83126F#32)) (addf (Host.divf (Host.divf (addf (mulf (broadcastInDim S1x448x1024 ![] bcast_S_S1x448x1024 (constant S_ .f32 0x3F666666#32)) y1) (mulf (broadcastInDim S1x448x1024 ![] bcast_S_S1x448x1024 (constant S_ .f32 0x3DCCCCCD#32)) (broadcastInDim S1x448x1024 ![1, 2] bcast_S448x1024_S1x448x1024_1_2 (Host.reduceAdd (extf .f32 y3 bitsLt_bf16_f32) (constant S_ .f32 0x00000000#32) reducesTo_S4x448x1024_S448x1024_d0 h_S_)))) (broadcastInDim S1x448x1024 ![] bcast_S_S1x448x1024 (constant S_ .f32 0x3F26BD02#32))) (addf (Host.sqrt (Host.divf (addf (mulf (broadcastInDim S1x448x1024 ![] bcast_S_S1x448x1024 (constant S_ .f32 0x3F7FBE77#32)) y2) (mulf (broadcastInDim S1x448x1024 ![] bcast_S_S1x448x1024 (constant S_ .f32 0x3A83126F#32)) (mulf (broadcastInDim S1x448x1024 ![1, 2] bcast_S448x1024_S1x448x1024_1_2 (Host.reduceAdd (extf .f32 y3 bitsLt_bf16_f32) (constant S_ .f32 0x00000000#32) reducesTo_S4x448x1024_S448x1024_d0 h_S_)) (broadcastInDim S1x448x1024 ![1, 2] bcast_S448x1024_S1x448x1024_1_2 (Host.reduceAdd (extf .f32 y3 bitsLt_bf16_f32) (constant S_ .f32 0x00000000#32) reducesTo_S4x448x1024_S448x1024_d0 h_S_))))) (broadcastInDim S1x448x1024 ![] bcast_S_S1x448x1024 (constant S_ .f32 0x3C231ACC#32)))) (broadcastInDim S1x448x1024 ![] bcast_S_S1x448x1024 (constant S_ .f32 0x322BCC77#32)))) (mulf (broadcastInDim S1x448x1024 ![] bcast_S_S1x448x1024 (constant S_ .f32 0x3C23D70A#32)) y0))
      = delta x0 x1 x2 x3 := by
  subst e0 e1 e2 e3
  funext i
  pointwise [delta, mom, var, grad]

theorem mom_same {x0 y0 : FVec Ideal ⟨3, ![1, 448, 1024]⟩ .f32} {x1 y1 : FVec Ideal ⟨3, ![1, 448, 1024]⟩ .f32} {x2 y2 : FVec Ideal ⟨3, ![1, 448, 1024]⟩ .f32} {x3 y3 : FVec Ideal ⟨3, ![4, 448, 1024]⟩ .bf16}
    (e0 : y0 = x0) (e1 : y1 = x1) (e2 : y2 = x2) (e3 : y3 = x3) :
    addf (mulf (broadcastInDim S1x448x1024 ![] bcast_S_S1x448x1024 (constant S_ .f32 0x3F666666#32)) y1) (mulf (broadcastInDim S1x448x1024 ![] bcast_S_S1x448x1024 (constant S_ .f32 0x3DCCCCCD#32)) (broadcastInDim S1x448x1024 ![1, 2] bcast_S448x1024_S1x448x1024_1_2 (Host.reduceAdd (extf .f32 y3 bitsLt_bf16_f32) (constant S_ .f32 0x00000000#32) reducesTo_S4x448x1024_S448x1024_d0 h_S_)))
      = mom x1 x3 := by
  subst e0 e1 e2 e3
  funext i
  pointwise [mom, grad]

theorem var_same {x0 y0 : FVec Ideal ⟨3, ![1, 448, 1024]⟩ .f32} {x1 y1 : FVec Ideal ⟨3, ![1, 448, 1024]⟩ .f32} {x2 y2 : FVec Ideal ⟨3, ![1, 448, 1024]⟩ .f32} {x3 y3 : FVec Ideal ⟨3, ![4, 448, 1024]⟩ .bf16}
    (e0 : y0 = x0) (e1 : y1 = x1) (e2 : y2 = x2) (e3 : y3 = x3) :
    addf (mulf (broadcastInDim S1x448x1024 ![] bcast_S_S1x448x1024 (constant S_ .f32 0x3F7FBE77#32)) y2) (mulf (broadcastInDim S1x448x1024 ![] bcast_S_S1x448x1024 (constant S_ .f32 0x3A83126F#32)) (mulf (broadcastInDim S1x448x1024 ![1, 2] bcast_S448x1024_S1x448x1024_1_2 (Host.reduceAdd (extf .f32 y3 bitsLt_bf16_f32) (constant S_ .f32 0x00000000#32) reducesTo_S4x448x1024_S448x1024_d0 h_S_)) (broadcastInDim S1x448x1024 ![1, 2] bcast_S448x1024_S1x448x1024_1_2 (Host.reduceAdd (extf .f32 y3 bitsLt_bf16_f32) (constant S_ .f32 0x00000000#32) reducesTo_S4x448x1024_S448x1024_d0 h_S_))))
      = var x2 x3 := by
  subst e0 e1 e2 e3
  funext i
  pointwise [var, grad]

end Cert.Reference16Ideal.Hand
-- ==== Proof.F17.lean ====
/- The update of the output projection's weights. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.Kernel17Ideal.Hand

open Idealize.ShloMosaic Idealize.ShloMosaic.TcCoe Idealize.SL.Sem Cert.Kernel17Ideal Cert.Kernel17Ideal.Gen

variable (m : (ℓ : Loc nD τ sig) → Buf (Elt Ideal) ℓ) (c : Dev nD)

abbrev Wts := FVec Ideal ⟨3, ![1, 128, 1024]⟩ .f32
abbrev Parts := FVec Ideal ⟨3, ![4, 128, 1024]⟩ .bf16

/-- The sum of the four shares of the gradient. -/
def grad (p : Parts) : Wts := fun i => ∑ k : Fin 4, (p (ix3 k (i 1) (i 2)) : EReal)
def mom (v : Wts) (p : Parts) : Wts := fun i =>
  (Ideal.ofBits .f32 0x3F666666#32 * (v i : EReal) + Ideal.ofBits .f32 0x3DCCCCCD#32 * (grad p i : EReal) : EReal)
def var (v : Wts) (p : Parts) : Wts := fun i =>
  (Ideal.ofBits .f32 0x3F7FBE77#32 * (v i : EReal) + Ideal.ofBits .f32 0x3A83126F#32 * ((grad p i : EReal) * (grad p i : EReal)) : EReal)
/-- The change of the weights. -/
def delta (w a v : Wts) (p : Parts) : Wts := fun i =>
  (Ideal.ofBits .f32 0xBA83126F#32 * (Ideal.div (Ideal.div (mom a p i) (Ideal.ofBits .f32 0x3F26BD02#32))
    (Ideal.sqrt (Ideal.div (var v p i) (Ideal.ofBits .f32 0x3C231ACC#32)) + Ideal.ofBits .f32 0x322BCC77#32)
    + Ideal.ofBits .f32 0x3C23D70A#32 * (w i : EReal)) : EReal)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem final4 : (dats m 0 c).arrAt 4 cfg0.N = grad (m ((c : Thread nD τ).loc main_arg3)) := by
  refine (dats m 0 c).arrAt_eq_of_covers 4 _ (by decide +kernel) fun t _ y => ?_
  blk_simp
  rw [after0_4]
  frame_out
  pointwise [k0_pay2, grad, Fin.sum_univ_four]
  blk_point [iblk, V, idx t]

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, k0_pay4, k0_pay5, k0_pay6, delta, mom, var, grad, Fin.sum_univ_four]
  blk_point [iblk, V, idx t]

theorem final6 : (dats m 0 c).arrAt 6 cfg0.N = mom (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay3, k0_pay2, mom, grad, Fin.sum_univ_four]
  blk_point [iblk, V, idx t]

theorem final7 : (dats m 0 c).arrAt 7 cfg0.N = var (m ((c : Thread nD τ).loc main_arg2)) (m ((c : Thread nD τ).loc main_arg3)) := by
  refine (dats m 0 c).arrAt_eq_of_covers 7 _ (by decide +kernel) fun t _ y => ?_
  blk_simp
  rw [after0_7]
  frame_out
  pointwise [k0_pay4, k0_pay2, var, grad, Fin.sum_univ_four]
  blk_point [iblk, V, idx t]

end Cert.Kernel17Ideal.Hand

namespace Cert.Reference17Ideal.Hand

open Idealize.ShloMosaic Idealize.SL.Sem Cert.Reference17Ideal Cert.Reference17Ideal.Gen Cert.Kernel17Ideal.Hand

theorem grad_same {x0 y0 : FVec Ideal ⟨3, ![1, 128, 1024]⟩ .f32} {x1 y1 : FVec Ideal ⟨3, ![1, 128, 1024]⟩ .f32} {x2 y2 : FVec Ideal ⟨3, ![1, 128, 1024]⟩ .f32} {x3 y3 : FVec Ideal ⟨3, ![4, 128, 1024]⟩ .bf16}
    (e0 : y0 = x0) (e1 : y1 = x1) (e2 : y2 = x2) (e3 : y3 = x3) :
    broadcastInDim S1x128x1024 ![1, 2] bcast_S128x1024_S1x128x1024_1_2 (Host.reduceAdd (extf .f32 y3 bitsLt_bf16_f32) (constant S_ .f32 0x00000000#32) reducesTo_S4x128x1024_S128x1024_d0 h_S_)
      = grad x3 := by
  subst e0 e1 e2 e3
  funext i
  pointwise [grad]

theorem delta_same {x0 y0 : FVec Ideal ⟨3, ![1, 128, 1024]⟩ .f32} {x1 y1 : FVec Ideal ⟨3, ![1, 128, 1024]⟩ .f32} {x2 y2 : FVec Ideal ⟨3, ![1, 128, 1024]⟩ .f32} {x3 y3 : FVec Ideal ⟨3, ![4, 128, 1024]⟩ .bf16}
    (e0 : y0 = x0) (e1 : y1 = x1) (e2 : y2 = x2) (e3 : y3 = x3) :
    mulf (broadcastInDim S1x128x1024 ![] bcast_S_S1x128x1024 (constant S_ .f32 0xBA83126F#32)) (addf (Host.divf (Host.divf (addf (mulf (broadcastInDim S1x128x1024 ![] bcast_S_S1x128x1024 (constant S_ .f32 0x3F666666#32)) y1) (mulf (broadcastInDim S1x128x1024 ![] bcast_S_S1x128x1024 (constant S_ .f32 0x3DCCCCCD#32)) (broadcastInDim S1x128x1024 ![1, 2] bcast_S128x1024_S1x128x1024_1_2 (Host.reduceAdd (extf .f32 y3 bitsLt_bf16_f32) (constant S_ .f32 0x00000000#32) reducesTo_S4x128x1024_S128x1024_d0 h_S_)))) (broadcastInDim S1x128x1024 ![] bcast_S_S1x128x1024 (constant S_ .f32 0x3F26BD02#32))) (addf (Host.sqrt (Host.divf (addf (mulf (broadcastInDim S1x128x1024 ![] bcast_S_S1x128x1024 (constant S_ .f32 0x3F7FBE77#32)) y2) (mulf (broadcastInDim S1x128x1024 ![] bcast_S_S1x128x1024 (constant S_ .f32 0x3A83126F#32)) (mulf (broadcastInDim S1x128x1024 ![1, 2] bcast_S128x1024_S1x128x1024_1_2 (Host.reduceAdd (extf .f32 y3 bitsLt_bf16_f32) (constant S_ .f32 0x00000000#32) reducesTo_S4x128x1024_S128x1024_d0 h_S_)) (broadcastInDim S1x128x1024 ![1, 2] bcast_S128x1024_S1x128x1024_1_2 (Host.reduceAdd (extf .f32 y3 bitsLt_bf16_f32) (constant S_ .f32 0x00000000#32) reducesTo_S4x128x1024_S128x1024_d0 h_S_))))) (broadcastInDim S1x128x1024 ![] bcast_S_S1x128x1024 (constant S_ .f32 0x3C231ACC#32)))) (broadcastInDim S1x128x1024 ![] bcast_S_S1x128x1024 (constant S_ .f32 0x322BCC77#32)))) (mulf (broadcastInDim S1x128x1024 ![] bcast_S_S1x128x1024 (constant S_ .f32 0x3C23D70A#32)) y0))
      = delta x0 x1 x2 x3 := by
  subst e0 e1 e2 e3
  funext i
  pointwise [delta, mom, var, grad]

theorem mom_same {x0 y0 : FVec Ideal ⟨3, ![1, 128, 1024]⟩ .f32} {x1 y1 : FVec Ideal ⟨3, ![1, 128, 1024]⟩ .f32} {x2 y2 : FVec Ideal ⟨3, ![1, 128, 1024]⟩ .f32} {x3 y3 : FVec Ideal ⟨3, ![4, 128, 1024]⟩ .bf16}
    (e0 : y0 = x0) (e1 : y1 = x1) (e2 : y2 = x2) (e3 : y3 = x3) :
    addf (mulf (broadcastInDim S1x128x1024 ![] bcast_S_S1x128x1024 (constant S_ .f32 0x3F666666#32)) y1) (mulf (broadcastInDim S1x128x1024 ![] bcast_S_S1x128x1024 (constant S_ .f32 0x3DCCCCCD#32)) (broadcastInDim S1x128x1024 ![1, 2] bcast_S128x1024_S1x128x1024_1_2 (Host.reduceAdd (extf .f32 y3 bitsLt_bf16_f32) (constant S_ .f32 0x00000000#32) reducesTo_S4x128x1024_S128x1024_d0 h_S_)))
      = mom x1 x3 := by
  subst e0 e1 e2 e3
  funext i
  pointwise [mom, grad]

theorem var_same {x0 y0 : FVec Ideal ⟨3, ![1, 128, 1024]⟩ .f32} {x1 y1 : FVec Ideal ⟨3, ![1, 128, 1024]⟩ .f32} {x2 y2 : FVec Ideal ⟨3, ![1, 128, 1024]⟩ .f32} {x3 y3 : FVec Ideal ⟨3, ![4, 128, 1024]⟩ .bf16}
    (e0 : y0 = x0) (e1 : y1 = x1) (e2 : y2 = x2) (e3 : y3 = x3) :
    addf (mulf (broadcastInDim S1x128x1024 ![] bcast_S_S1x128x1024 (constant S_ .f32 0x3F7FBE77#32)) y2) (mulf (broadcastInDim S1x128x1024 ![] bcast_S_S1x128x1024 (constant S_ .f32 0x3A83126F#32)) (mulf (broadcastInDim S1x128x1024 ![1, 2] bcast_S128x1024_S1x128x1024_1_2 (Host.reduceAdd (extf .f32 y3 bitsLt_bf16_f32) (constant S_ .f32 0x00000000#32) reducesTo_S4x128x1024_S128x1024_d0 h_S_)) (broadcastInDim S1x128x1024 ![1, 2] bcast_S128x1024_S1x128x1024_1_2 (Host.reduceAdd (extf .f32 y3 bitsLt_bf16_f32) (constant S_ .f32 0x00000000#32) reducesTo_S4x128x1024_S128x1024_d0 h_S_))))
      = var x2 x3 := by
  subst e0 e1 e2 e3
  funext i
  pointwise [var, grad]

end Cert.Reference17Ideal.Hand
-- ==== Proof.F18.lean ====
/- The update of the small weights. -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.Kernel18Ideal.Hand

open Idealize.ShloMosaic Idealize.ShloMosaic.TcCoe Idealize.SL.Sem Cert.Kernel18Ideal Cert.Kernel18Ideal.Gen

variable (m : (ℓ : Loc nD τ sig) → Buf (Elt Ideal) ℓ) (c : Dev nD)

abbrev Wts := FVec Ideal ⟨2, ![88, 128]⟩ .f32

def mom (v g : Wts) : Wts := fun i =>
  (Ideal.ofBits .f32 0x3F666666#32 * (v i : EReal) + Ideal.ofBits .f32 0x3DCCCCCD#32 * (g i : EReal) : EReal)
def var (v g : Wts) : Wts := fun i =>
  (Ideal.ofBits .f32 0x3F7FBE77#32 * (v i : EReal) + Ideal.ofBits .f32 0x3A83126F#32 * ((g i : EReal) * (g i : EReal)) : EReal)
/-- The change of the weights. -/
def delta (w a v g : Wts) : Wts := fun i =>
  (Ideal.ofBits .f32 0xBA83126F#32 * (Ideal.div (Ideal.div (mom a g i) (Ideal.ofBits .f32 0x3F26BD02#32))
    (Ideal.sqrt (Ideal.div (var v g i) (Ideal.ofBits .f32 0x3C231ACC#32)) + Ideal.ofBits .f32 0x322BCC77#32)
    + Ideal.ofBits .f32 0x3C23D70A#32 * (w i : EReal)) : EReal)
def grad (g : Wts) : Wts := g

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem final4 : (dats m 0 c).arrAt 4 cfg0.N = grad (m ((c : Thread nD τ).loc main_arg3)) := by
  refine (dats m 0 c).arrAt_eq_of_covers 4 _ (by decide +kernel) fun t _ y => ?_
  blk_simp
  rw [after0_4]
  frame_out
  pointwise [grad]
  blk_point [iblk, V, idx t]

theorem final5 : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, delta, mom, var]
  blk_point [iblk, V, idx t]

theorem final6 : (dats m 0 c).arrAt 6 cfg0.N = mom (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay1, mom]
  blk_point [iblk, V, idx t]

theorem final7 : (dats m 0 c).arrAt 7 cfg0.N = var (m ((c : Thread nD τ).loc main_arg2)) (m ((c : Thread nD τ).loc main_arg3)) := by
  refine (dats m 0 c).arrAt_eq_of_covers 7 _ (by decide +kernel) fun t _ y => ?_
  blk_simp
  rw [after0_7]
  frame_out
  pointwise [k0_pay2, var]
  blk_point [iblk, V, idx t]

end Cert.Kernel18Ideal.Hand

namespace Cert.Reference18Ideal.Hand

open Idealize.ShloMosaic Idealize.SL.Sem Cert.Reference18Ideal Cert.Reference18Ideal.Gen Cert.Kernel18Ideal.Hand

theorem delta_same {x0 y0 : FVec Ideal ⟨2, ![88, 128]⟩ .f32} {x1 y1 : FVec Ideal ⟨2, ![88, 128]⟩ .f32} {x2 y2 : FVec Ideal ⟨2, ![88, 128]⟩ .f32} {x3 y3 : FVec Ideal ⟨2, ![88, 128]⟩ .f32}
    (e0 : y0 = x0) (e1 : y1 = x1) (e2 : y2 = x2) (e3 : y3 = x3) :
    mulf (broadcastInDim S88x128 ![] bcast_S_S88x128 (constant S_ .f32 0xBA83126F#32)) (addf (Host.divf (Host.divf (addf (mulf (broadcastInDim S88x128 ![] bcast_S_S88x128 (constant S_ .f32 0x3F666666#32)) y1) (mulf (broadcastInDim S88x128 ![] bcast_S_S88x128 (constant S_ .f32 0x3DCCCCCD#32)) y3)) (broadcastInDim S88x128 ![] bcast_S_S88x128 (constant S_ .f32 0x3F26BD02#32))) (addf (Host.sqrt (Host.divf (addf (mulf (broadcastInDim S88x128 ![] bcast_S_S88x128 (constant S_ .f32 0x3F7FBE77#32)) y2) (mulf (broadcastInDim S88x128 ![] bcast_S_S88x128 (constant S_ .f32 0x3A83126F#32)) (mulf y3 y3))) (broadcastInDim S88x128 ![] bcast_S_S88x128 (constant S_ .f32 0x3C231ACC#32)))) (broadcastInDim S88x128 ![] bcast_S_S88x128 (constant S_ .f32 0x322BCC77#32)))) (mulf (broadcastInDim S88x128 ![] bcast_S_S88x128 (constant S_ .f32 0x3C23D70A#32)) y0))
      = delta x0 x1 x2 x3 := by
  subst e0 e1 e2 e3
  funext i
  pointwise [delta, mom, var]

theorem mom_same {x0 y0 : FVec Ideal ⟨2, ![88, 128]⟩ .f32} {x1 y1 : FVec Ideal ⟨2, ![88, 128]⟩ .f32} {x2 y2 : FVec Ideal ⟨2, ![88, 128]⟩ .f32} {x3 y3 : FVec Ideal ⟨2, ![88, 128]⟩ .f32}
    (e0 : y0 = x0) (e1 : y1 = x1) (e2 : y2 = x2) (e3 : y3 = x3) :
    addf (mulf (broadcastInDim S88x128 ![] bcast_S_S88x128 (constant S_ .f32 0x3F666666#32)) y1) (mulf (broadcastInDim S88x128 ![] bcast_S_S88x128 (constant S_ .f32 0x3DCCCCCD#32)) y3)
      = mom x1 x3 := by
  subst e0 e1 e2 e3
  funext i
  pointwise [mom]

theorem var_same {x0 y0 : FVec Ideal ⟨2, ![88, 128]⟩ .f32} {x1 y1 : FVec Ideal ⟨2, ![88, 128]⟩ .f32} {x2 y2 : FVec Ideal ⟨2, ![88, 128]⟩ .f32} {x3 y3 : FVec Ideal ⟨2, ![88, 128]⟩ .f32}
    (e0 : y0 = x0) (e1 : y1 = x1) (e2 : y2 = x2) (e3 : y3 = x3) :
    addf (mulf (broadcastInDim S88x128 ![] bcast_S_S88x128 (constant S_ .f32 0x3F7FBE77#32)) y2) (mulf (broadcastInDim S88x128 ![] bcast_S_S88x128 (constant S_ .f32 0x3A83126F#32)) (mulf y3 y3))
      = var x2 x3 := by
  subst e0 e1 e2 e3
  funext i
  pointwise [var]

end Cert.Reference18Ideal.Hand
-- ==== Proof.Alg12.lean ====
/- Each equality of the results, for the forward pass's projections, the second network, and the updates. -/
module

public import proofs.«01_k».proof.Defs
public import proofs.«01_k».proof.Proof.Gen.Kernel12Ideal.Value
public import proofs.«01_k».proof.Proof.Gen.Reference12Ideal.Run
public import proofs.«01_k».proof.Proof.F12
public import proofs.«01_k».proof.Proof.Gen.Kernel13Ideal.Value
public import proofs.«01_k».proof.Proof.Gen.Reference13Ideal.Run
public import proofs.«01_k».proof.Proof.F13
public import proofs.«01_k».proof.Proof.Gen.Kernel14Ideal.Value
public import proofs.«01_k».proof.Proof.Gen.Reference14Ideal.Run
public import proofs.«01_k».proof.Proof.F14
public import proofs.«01_k».proof.Proof.Gen.Kernel15Ideal.Value
public import proofs.«01_k».proof.Proof.Gen.Reference15Ideal.Run
public import proofs.«01_k».proof.Proof.F15
public import proofs.«01_k».proof.Proof.Gen.Kernel16Ideal.Value
public import proofs.«01_k».proof.Proof.Gen.Reference16Ideal.Run
public import proofs.«01_k».proof.Proof.F16
public import proofs.«01_k».proof.Proof.Gen.Kernel17Ideal.Value
public import proofs.«01_k».proof.Proof.Gen.Reference17Ideal.Run
public import proofs.«01_k».proof.Proof.F17
public import proofs.«01_k».proof.Proof.Gen.Kernel18Ideal.Value
public import proofs.«01_k».proof.Proof.Gen.Reference18Ideal.Run
public import proofs.«01_k».proof.Proof.F18

@[expose] public section

namespace Cert.Proof

open Idealize.ShloMosaic Idealize.SL.Sem Cert.Kernel

theorem frame_r12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem alg12 : Cert.algebraic_Kernel12Ideal_Reference12Ideal := by
  intro m g m' g' _ hargs
  exact ⟨fun c => Cert.Kernel12Ideal.Hand.prod (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun q h c => ⟨(h c).1.trans (Cert.Kernel12Ideal.Hand.final2 m c), (h c).2⟩) (Cert.Kernel12Ideal.Value.run_blocks m g),
    (θ_run Cert.Reference12Ideal.defs _ _).mono (fun q h c => ⟨(h c).1.trans (Cert.Reference12Ideal.Hand.prod_same (hargs c).1 (hargs c).2), (h c).2⟩) (Cert.Reference12Ideal.Value.run (F := Ideal) m' g')⟩

theorem frame_r13 : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

theorem alg13 : Cert.algebraic_Kernel13Ideal_Reference13Ideal := by
  intro m g m' g' _ hargs
  exact ⟨fun c => Cert.Kernel13Ideal.Hand.out (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)), fun c => Cert.Kernel13Ideal.Hand.normed (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)),
    (θ_run Cert.Kernel13Ideal.defs _ _).mono (fun q h c => ⟨(h c).1.trans (Cert.Kernel13Ideal.Hand.final4 m c), (h c).2.1.trans (Cert.Kernel13Ideal.Hand.final5 m c), (h c).2.2⟩) (Cert.Kernel13Ideal.Value.run_blocks m g),
    (θ_run Cert.Reference13Ideal.defs _ _).mono (fun q h c => ⟨(h c).1.trans (Cert.Reference13Ideal.Hand.out_same (hargs c).1 (hargs c).2.1 (hargs c).2.2.1 (hargs c).2.2.2), (h c).2.1.trans (Cert.Reference13Ideal.Hand.normed_same (hargs c).1 (hargs c).2.1 (hargs c).2.2.1 (hargs c).2.2.2), (h c).2.2⟩) (Cert.Reference13Ideal.Value.run (F := Ideal) m' g')⟩

theorem frame_r14 : Cert.quiescent_Reference14Ideal := fun m ρ _ =>
  (θ_run Cert.Reference14Ideal.defs _ _).mono (fun r h => ⟨fun c => (h c).2.2.2.2.2,
      Idealize.ShloMosaic.sem_eq_zero_of_no_sems (by decide) r.2⟩)
    (Cert.Reference14Ideal.Value.run (F := Ideal) m ρ)

theorem alg14 : Cert.algebraic_Kernel14Ideal_Reference14Ideal := by
  intro m g m' g' _ hargs
  exact ⟨fun c => Cert.Kernel14Ideal.Hand.gate (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)), fun c => Cert.Kernel14Ideal.Hand.up (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg3)), fun c => Cert.Kernel14Ideal.Hand.dy (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)), fun c => Cert.Kernel14Ideal.Hand.dy16 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)), fun c => Cert.Kernel14Ideal.Hand.sq (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)),
    (θ_run Cert.Kernel14Ideal.defs _ _).mono (fun q h c => ⟨(h c).1.trans (Cert.Kernel14Ideal.Hand.final6 m c), (h c).2.1.trans (Cert.Kernel14Ideal.Hand.final7 m c), (h c).2.2.1.trans (Cert.Kernel14Ideal.Hand.final8 m c), (h c).2.2.2.1.trans (Cert.Kernel14Ideal.Hand.final9 m c), (h c).2.2.2.2.1.trans (Cert.Kernel14Ideal.Hand.final10 m c), (h c).2.2.2.2.2⟩) (Cert.Kernel14Ideal.Value.run_blocks m g),
    (θ_run Cert.Reference14Ideal.defs _ _).mono (fun q h c => ⟨(h c).1.trans (Cert.Reference14Ideal.Hand.gate_same (hargs c).1 (hargs c).2.1 (hargs c).2.2.1 (hargs c).2.2.2.1 (hargs c).2.2.2.2.1 (hargs c).2.2.2.2.2), (h c).2.1.trans (Cert.Reference14Ideal.Hand.up_same (hargs c).1 (hargs c).2.1 (hargs c).2.2.1 (hargs c).2.2.2.1 (hargs c).2.2.2.2.1 (hargs c).2.2.2.2.2), (h c).2.2.1.trans (Cert.Reference14Ideal.Hand.dy_same (hargs c).1 (hargs c).2.1 (hargs c).2.2.1 (hargs c).2.2.2.1 (hargs c).2.2.2.2.1 (hargs c).2.2.2.2.2), (h c).2.2.2.1.trans (Cert.Reference14Ideal.Hand.dy16_same (hargs c).1 (hargs c).2.1 (hargs c).2.2.1 (hargs c).2.2.2.1 (hargs c).2.2.2.2.1 (hargs c).2.2.2.2.2), (h c).2.2.2.2.1.trans (Cert.Reference14Ideal.Hand.sq_same (hargs c).1 (hargs c).2.1 (hargs c).2.2.1 (hargs c).2.2.2.1 (hargs c).2.2.2.2.1 (hargs c).2.2.2.2.2), (h c).2.2.2.2.2⟩) (Cert.Reference14Ideal.Value.run (F := Ideal) m' g')⟩

theorem frame_r15 : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem alg15 : Cert.algebraic_Kernel15Ideal_Reference15Ideal := by
  intro m g m' g' _ hargs
  exact ⟨fun c => Cert.Kernel15Ideal.Hand.normed (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun q h c => ⟨(h c).1.trans (Cert.Kernel15Ideal.Hand.final2 m c), (h c).2⟩) (Cert.Kernel15Ideal.Value.run_blocks m g),
    (θ_run Cert.Reference15Ideal.defs _ _).mono (fun q h c => ⟨(h c).1.trans (Cert.Reference15Ideal.Hand.normed_same (hargs c).1 (hargs c).2), (h c).2⟩) (Cert.Reference15Ideal.Value.run (F := Ideal) m' g')⟩

theorem frame_r16 : Cert.quiescent_Reference16Ideal := fun m ρ _ =>
  (θ_run Cert.Reference16Ideal.defs _ _).mono (fun r h => ⟨fun c => (h c).2.2.2.2,
      Idealize.ShloMosaic.sem_eq_zero_of_no_sems (by decide) r.2⟩)
    (Cert.Reference16Ideal.Value.run (F := Ideal) m ρ)

theorem alg16 : Cert.algebraic_Kernel16Ideal_Reference16Ideal := by
  intro m g m' g' _ hargs
  exact ⟨fun c => Cert.Kernel16Ideal.Hand.grad (m ((c.tc : Thread Cert.Kernel16Ideal.nD Cert.Kernel16Ideal.τ).loc Cert.Kernel16Ideal.main_arg3)), fun c => Cert.Kernel16Ideal.Hand.delta (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)), fun c => Cert.Kernel16Ideal.Hand.mom (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg3)), fun c => Cert.Kernel16Ideal.Hand.var (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)),
    (θ_run Cert.Kernel16Ideal.defs _ _).mono (fun q h c => ⟨(h c).1.trans (Cert.Kernel16Ideal.Hand.final4 m c), (h c).2.1.trans (Cert.Kernel16Ideal.Hand.final5 m c), (h c).2.2.1.trans (Cert.Kernel16Ideal.Hand.final6 m c), (h c).2.2.2.1.trans (Cert.Kernel16Ideal.Hand.final7 m c), (h c).2.2.2.2⟩) (Cert.Kernel16Ideal.Value.run_blocks m g),
    (θ_run Cert.Reference16Ideal.defs _ _).mono (fun q h c => ⟨(h c).1.trans (Cert.Reference16Ideal.Hand.grad_same (hargs c).1 (hargs c).2.1 (hargs c).2.2.1 (hargs c).2.2.2), (h c).2.1.trans (Cert.Reference16Ideal.Hand.delta_same (hargs c).1 (hargs c).2.1 (hargs c).2.2.1 (hargs c).2.2.2), (h c).2.2.1.trans (Cert.Reference16Ideal.Hand.mom_same (hargs c).1 (hargs c).2.1 (hargs c).2.2.1 (hargs c).2.2.2), (h c).2.2.2.1.trans (Cert.Reference16Ideal.Hand.var_same (hargs c).1 (hargs c).2.1 (hargs c).2.2.1 (hargs c).2.2.2), (h c).2.2.2.2⟩) (Cert.Reference16Ideal.Value.run (F := Ideal) m' g')⟩

theorem frame_r17 : Cert.quiescent_Reference17Ideal := fun m ρ _ =>
  (θ_run Cert.Reference17Ideal.defs _ _).mono (fun r h => ⟨fun c => (h c).2.2.2.2,
      Idealize.ShloMosaic.sem_eq_zero_of_no_sems (by decide) r.2⟩)
    (Cert.Reference17Ideal.Value.run (F := Ideal) m ρ)

theorem alg17 : Cert.algebraic_Kernel17Ideal_Reference17Ideal := by
  intro m g m' g' _ hargs
  exact ⟨fun c => Cert.Kernel17Ideal.Hand.grad (m ((c.tc : Thread Cert.Kernel17Ideal.nD Cert.Kernel17Ideal.τ).loc Cert.Kernel17Ideal.main_arg3)), fun c => Cert.Kernel17Ideal.Hand.delta (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)), fun c => Cert.Kernel17Ideal.Hand.mom (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg3)), fun c => Cert.Kernel17Ideal.Hand.var (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)),
    (θ_run Cert.Kernel17Ideal.defs _ _).mono (fun q h c => ⟨(h c).1.trans (Cert.Kernel17Ideal.Hand.final4 m c), (h c).2.1.trans (Cert.Kernel17Ideal.Hand.final5 m c), (h c).2.2.1.trans (Cert.Kernel17Ideal.Hand.final6 m c), (h c).2.2.2.1.trans (Cert.Kernel17Ideal.Hand.final7 m c), (h c).2.2.2.2⟩) (Cert.Kernel17Ideal.Value.run_blocks m g),
    (θ_run Cert.Reference17Ideal.defs _ _).mono (fun q h c => ⟨(h c).1.trans (Cert.Reference17Ideal.Hand.grad_same (hargs c).1 (hargs c).2.1 (hargs c).2.2.1 (hargs c).2.2.2), (h c).2.1.trans (Cert.Reference17Ideal.Hand.delta_same (hargs c).1 (hargs c).2.1 (hargs c).2.2.1 (hargs c).2.2.2), (h c).2.2.1.trans (Cert.Reference17Ideal.Hand.mom_same (hargs c).1 (hargs c).2.1 (hargs c).2.2.1 (hargs c).2.2.2), (h c).2.2.2.1.trans (Cert.Reference17Ideal.Hand.var_same (hargs c).1 (hargs c).2.1 (hargs c).2.2.1 (hargs c).2.2.2), (h c).2.2.2.2⟩) (Cert.Reference17Ideal.Value.run (F := Ideal) m' g')⟩

theorem frame_r18 : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

theorem alg18 : Cert.algebraic_Kernel18Ideal_Reference18Ideal := by
  intro m g m' g' _ hargs
  exact ⟨fun c => Cert.Kernel18Ideal.Hand.grad (m ((c.tc : Thread Cert.Kernel18Ideal.nD Cert.Kernel18Ideal.τ).loc Cert.Kernel18Ideal.main_arg3)), fun c => Cert.Kernel18Ideal.Hand.delta (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)), fun c => Cert.Kernel18Ideal.Hand.mom (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg3)), fun c => Cert.Kernel18Ideal.Hand.var (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)),
    (θ_run Cert.Kernel18Ideal.defs _ _).mono (fun q h c => ⟨(h c).1.trans (Cert.Kernel18Ideal.Hand.final4 m c), (h c).2.1.trans (Cert.Kernel18Ideal.Hand.final5 m c), (h c).2.2.1.trans (Cert.Kernel18Ideal.Hand.final6 m c), (h c).2.2.2.1.trans (Cert.Kernel18Ideal.Hand.final7 m c), (h c).2.2.2.2⟩) (Cert.Kernel18Ideal.Value.run_blocks m g),
    (θ_run Cert.Reference18Ideal.defs _ _).mono (fun q h c => ⟨(h c).1.trans (hargs c).2.2.2, (h c).2.1.trans (Cert.Reference18Ideal.Hand.delta_same (hargs c).1 (hargs c).2.1 (hargs c).2.2.1 (hargs c).2.2.2), (h c).2.2.1.trans (Cert.Reference18Ideal.Hand.mom_same (hargs c).1 (hargs c).2.1 (hargs c).2.2.1 (hargs c).2.2.2), (h c).2.2.2.1.trans (Cert.Reference18Ideal.Hand.var_same (hargs c).1 (hargs c).2.1 (hargs c).2.2.1 (hargs c).2.2.2), (h c).2.2.2.2⟩) (Cert.Reference18Ideal.Value.run (F := Ideal) m' g')⟩

end Cert.Proof
-- ==== Proof.F20.lean ====
/- The recurrence's lower bound: the first of a softmax over two. -/
module

public import proofs.«01_k».proof.Proof.Math
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise

@[expose] public section

set_option maxRecDepth 16384

noncomputable section

namespace Cert.Kernel20Ideal.Hand

open Idealize.ShloMosaic Idealize.ShloMosaic.TcCoe Idealize.SL.Sem Cert.Kernel20Ideal Cert.Kernel20Ideal.Gen

variable (m : (ℓ : Loc nD τ sig) → Buf (Elt Ideal) ℓ) (c : Dev nD)

abbrev Rows := FVec Ideal ⟨2, ![2, 512]⟩ .f32

theorem fold2 (b : EReal) (f : Fin 2 → EReal) : Finset.fold max b f Finset.univ = max (f 0) (max (f 1) b) := rfl

/-- The greater of a column's two numbers. -/
def mx (x : Rows) (j : Fin 512) : EReal := max (x (ix2 0 j)) (x (ix2 1 j))
/-- A number's exponential, less the greatest. -/
def ex (x : Rows) (k : Fin 2) (j : Fin 512) : EReal := Ideal.exp ((x (ix2 k j) : EReal) - mx x j)

/-- The softmax's first row. -/
def bound (x : Rows) : FVec Ideal ⟨2, ![1, 512]⟩ .f32 := fun i => (Ideal.div (ex x 0 (i 1)) (ex x 0 (i 1) + ex x 1 (i 1)) : EReal)

theorem idx : ∀ t : Fin cfg0.N, win0_0.index t = ![0, 0] ∧ win0_1.index t = ![0, 0] :=
  (by decide +kernel : ∀ t : Fin grid0.N, _)

theorem final1 : (dats m 0 c).arrAt 1 cfg0.N = bound (m ((c : Thread nD τ).loc main_arg0)) := by
  refine (dats m 0 c).arrAt_eq_of_covers 1 _ (by decide +kernel) fun t _ y => ?_
  blk_simp
  rw [after0_1]
  frame_out
  pointwise [k0_pay1, bound, ex, mx, Fin.sum_univ_two, fold2, Cert.Att.bits_bot, max_bot_right, max_bot_left]
  blk_point [iblk, V, idx t]

end Cert.Kernel20Ideal.Hand

namespace Cert.Reference20Ideal.Hand

open Idealize.ShloMosaic Idealize.SL.Sem Cert.Reference20Ideal Cert.Reference20Ideal.Gen Cert.Kernel20Ideal.Hand

theorem bound_same {x0 y0 : FVec Ideal ⟨2, ![2, 512]⟩ .f32}
    (e0 : y0 = x0) :
    extractStridedSlice S1x512 ![0, 0] (Host.divf (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_)))))) (broadcastInDim S2x512 ![0, 1] bcast_S1x512_S2x512_0_1 (broadcastInDim S1x512 ![1] bcast_S512_S1x512_1 (Host.reduceAdd (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_)))))) (constant S_ .f32 0x00000000#32) reducesTo_S2x512_S512_d0 h_S_)))) slices_S2x512_S1x512_0_0
      = bound x0 := by
  subst e0
  funext i
  pointwise [bound, ex, mx, Fin.sum_univ_two, fold2, Cert.Att.bits_bot, max_bot_right, max_bot_left]

end Cert.Reference20Ideal.Hand
-- ==== Proof.F19.lean ====
/- The gradient of the recurrence's lower bounds. -/
module

public import proofs.«01_k».proof.Proof.F20
public import proofs.«01_k».proof.Proof.Pre
public import proofs.«01_k».proof.Proof.Gen.Pre_finite19
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.Kernel19Ideal.Hand

open Idealize.ShloMosaic Idealize.ShloMosaic.TcCoe Idealize.SL.Sem Cert.Kernel19Ideal Cert.Kernel19Ideal.Gen

variable (m : (ℓ : Loc nD τ sig) → Buf (Elt Ideal) ℓ) (c : Dev nD)

open Cert.Kernel20Ideal.Hand (Rows ex mx fold2)

abbrev Parts := FVec Ideal ⟨3, ![2, 1, 512]⟩ .f32

/-- The softmax. -/
def soft (x : Rows) (k : Fin 2) (j : Fin 512) : EReal := Ideal.div (ex x k j) (ex x 0 j + ex x 1 j)
/-- The sequences' gradients, summed. -/
def tot (d : Parts) (j : Fin 512) : EReal := (d (ix3 0 0 j) : EReal) + (d (ix3 1 0 j) : EReal)
def grads (x : Rows) (d : Parts) : Rows := fun i =>
  (soft x (i 0) (i 1) * (Scalar.select (IntOp.cmpi .eq (BitVec.ofNat 32 (i 0).val) 0#32) (tot d (i 1)) (0 : EReal) - soft x 0 (i 1) * tot d (i 1)) : EReal)

theorem idx : ∀ t : Fin cfg0.N, win0_0.index t = ![0, 0] ∧ win0_1.index t = ![0, 0, 0] ∧ win0_2.index t = ![0, 0] :=
  (by decide +kernel : ∀ t : Fin grid0.N, _)

theorem final2 : (dats m 0 c).arrAt 2 cfg0.N = grads (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, grads, soft, tot, ex, mx, Fin.sum_univ_two, fold2, Cert.Att.bits_bot, max_bot_right, max_bot_left]
  blk_point [iblk, V, idx t]

end Cert.Kernel19Ideal.Hand

namespace Cert.Reference19Ideal.Hand

open Idealize.ShloMosaic Idealize.SL.Sem Cert.Reference19Ideal Cert.Reference19Ideal.Gen Cert.Kernel19Ideal.Hand

open Cert.Kernel20Ideal.Hand (Rows ex mx fold2)

instance : Subsingleton (Cert.Pre_finite19.S_).Idx := ⟨fun a b => funext fun k => k.elim0⟩

/-- The precondition: every element of every argument is a real. -/
theorem reals {x0 : Rows} {x1 : Parts} (h : Cert.Pre_finite19.fn (F := Ideal) x0 x1 = fun _ => 1#1) :
    (∀ i, (x0 i : EReal) = ((x0 i : EReal).toReal : EReal)) ∧ (∀ i, (x1 i : EReal) = ((x1 i : EReal).toReal : EReal)) := by
  have e := congrFun h (fun k => k.elim0)
  unfold Cert.Pre_finite19.fn at e
  obtain ⟨e0, e1⟩ := IntOp.andi_eq_one.1 e
  exact ⟨fun i => Cert.Att.real_of_word (Host.reduce_andi_all _ _ _ _ _ e0 i), fun i => Cert.Att.real_of_word (Host.reduce_andi_all _ _ _ _ _ e1 i)⟩

theorem exp_real (r : ℝ) : Ideal.exp (r : EReal) = ((Real.exp r : ℝ) : EReal) := rfl

theorem grads_same {x0 y0 : FVec Ideal ⟨2, ![2, 512]⟩ .f32} {x1 y1 : FVec Ideal ⟨3, ![2, 1, 512]⟩ .f32}
    (f : (∀ i, (x0 i : EReal) = ((x0 i : EReal).toReal : EReal)) ∧ (∀ i, (x1 i : EReal) = ((x1 i : EReal).toReal : EReal)))
    (e0 : y0 = x0) (e1 : y1 = x1) :
    mulf (addf (Host.divf (pad S2x512 ![0, 0] ![1, 0] ![0, 0] (Host.reduceAdd y1 (constant S_ .f32 0x00000000#32) reducesTo_S2x1x512_S1x512_d0 h_S_) (constant S_ .f32 0x00000000#32) pads_S1x512_S2x512_010_000 h_S_) (broadcastInDim S2x512 ![0, 1] bcast_S1x512_S2x512_0_1 (broadcastInDim S1x512 ![1] bcast_S512_S1x512_1 (Host.reduceAdd (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_)))))) (constant S_ .f32 0x00000000#32) reducesTo_S2x512_S512_d0 h_S_)))) (broadcastInDim S2x512 ![1] bcast_S512_S2x512_1 (Host.reduceAdd (Host.negf (shapeCast S1x512 (Host.reduceAdd (mulf (mulf (pad S2x512 ![0, 0] ![1, 0] ![0, 0] (Host.reduceAdd y1 (constant S_ .f32 0x00000000#32) reducesTo_S2x1x512_S1x512_d0 h_S_) (constant S_ .f32 0x00000000#32) pads_S1x512_S2x512_010_000 h_S_) (broadcastInDim S2x512 ![0, 1] bcast_S1x512_S2x512_0_1 (Host.divf (broadcastInDim S1x512 ![] bcast_S_S1x512 (constant S_ .f32 0x3F800000#32)) (mulf (broadcastInDim S1x512 ![1] bcast_S512_S1x512_1 (Host.reduceAdd (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_)))))) (constant S_ .f32 0x00000000#32) reducesTo_S2x512_S512_d0 h_S_)) (broadcastInDim S1x512 ![1] bcast_S512_S1x512_1 (Host.reduceAdd (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_)))))) (constant S_ .f32 0x00000000#32) reducesTo_S2x512_S512_d0 h_S_)))))) (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_))))))) (constant S_ .f32 0x00000000#32) reducesTo_S2x512_S512_d0 h_S_) shapeCasts_S512_S1x512)) (constant S_ .f32 0x00000000#32) reducesTo_S1x512_S512_d0 h_S_))) (Host.exp (subf y0 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf y0 (constant S_ .f32 0xFF800000#32) reducesTo_S2x512_S512_d0 h_S_))))))
      = grads x0 x1 := by
  subst e0 e1
  obtain ⟨a, ha⟩ : ∃ a : (⟨2, ![2, 512]⟩ : Shape).Idx → ℝ, ∀ i, (y0 i : EReal) = (a i : EReal) := ⟨_, f.1⟩
  obtain ⟨d, hd⟩ : ∃ a : (⟨3, ![2, 1, 512]⟩ : Shape).Idx → ℝ, ∀ i, (y1 i : EReal) = (a i : EReal) := ⟨_, f.2⟩
  funext i
  obtain ⟨k, j, rfl⟩ : ∃ (k : Fin 2) (j : Fin 512), i = ix2 k j := ⟨i 0, i 1, eq_ix2 i⟩
  have key : ∀ (p q r t s : ℝ), 0 < p → 0 < q → (t / (p + q) + -(s * (1 / ((p + q) * (p + q))) * p + 0 * (1 / ((p + q) * (p + q))) * q)) * r
      = r / (p + q) * (t - p / (p + q) * s) := by
    intro p q r t s hp hq
    have : p + q ≠ 0 := (add_pos hp hq).ne'
    field_simp
    ring
  have hm : ∀ p q : ℝ, max (p : EReal) (q : EReal) = ((max p q : ℝ) : EReal) := fun p q => (EReal.coe_strictMono.monotone.map_max).symm
  have s0 : ∀ a b : EReal, Scalar.select (IntOp.cmpi .eq 0#32 0#32) a b = a := fun _ _ => rfl
  have s1 : ∀ a b : EReal, Scalar.select (IntOp.cmpi .eq 1#32 0#32) a b = b := fun _ _ => rfl
  pointwise [grads, soft, tot, ex, mx, Fin.sum_univ_two, fold2, Cert.Att.bits_bot, max_bot_right, max_bot_left]
  simp only [ha, hd, hm, ← EReal.coe_sub, exp_real, ← EReal.coe_add, ← EReal.coe_mul]
  have hp := Real.exp_pos (a (ix2 0 j) - max (a (ix2 0 j)) (a (ix2 1 j)))
  have hq := Real.exp_pos (a (ix2 1 j) - max (a (ix2 0 j)) (a (ix2 1 j)))
  generalize Real.exp (a (ix2 0 j) - max (a (ix2 0 j)) (a (ix2 1 j))) = p at hp ⊢
  generalize Real.exp (a (ix2 1 j) - max (a (ix2 0 j)) (a (ix2 1 j))) = q at hq ⊢
  generalize Real.exp (a (ix2 k j) - max (a (ix2 0 j)) (a (ix2 1 j))) = r
  have hS : p + q ≠ 0 := (add_pos hp hq).ne'
  have hSS : (p + q) * (p + q) ≠ 0 := mul_ne_zero hS hS
  rw [← EReal.coe_zero]
  fin_cases k
  · simp only [s0, s1, zero_lt_one, lt_self_iff_false, ↓reduceDIte, Cert.Att.div_real hS, Cert.Att.one_div_real hSS, ← EReal.coe_add, ← EReal.coe_mul, ← EReal.coe_neg, ← EReal.coe_sub, Cert.Att.coe_sum, Finset.univ_unique, Finset.sum_singleton]
    exact congrArg _ (key _ _ _ _ _ hp hq)
  · simp only [s0, s1, zero_lt_one, lt_self_iff_false, ↓reduceDIte, Cert.Att.div_real hS, Cert.Att.one_div_real hSS, ← EReal.coe_add, ← EReal.coe_mul, ← EReal.coe_neg, ← EReal.coe_sub, Cert.Att.coe_sum, Finset.univ_unique, Finset.sum_singleton]
    exact congrArg _ (key _ _ _ 0 _ hp hq)

end Cert.Reference19Ideal.Hand
-- ==== Proof.Alg19.lean ====
/- Each equality of the results, for the recurrence's lower bounds. -/
module

public import proofs.«01_k».proof.Defs
public import proofs.«01_k».proof.Proof.Gen.Kernel19Ideal.Value
public import proofs.«01_k».proof.Proof.Gen.Reference19Ideal.Run
public import proofs.«01_k».proof.Proof.F19
public import proofs.«01_k».proof.Proof.Gen.Kernel20Ideal.Value
public import proofs.«01_k».proof.Proof.Gen.Reference20Ideal.Run
public import proofs.«01_k».proof.Proof.F20

@[expose] public section

namespace Cert.Proof

open Idealize.ShloMosaic Idealize.SL.Sem Cert.Kernel

theorem frame_r19 : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

theorem alg19 : Cert.algebraic_Kernel19Ideal_Reference19Ideal_pre_finite19 := by
  intro m g m' g' hpre hargs
  have f := fun c => Cert.Reference19Ideal.Hand.reals (hpre c)
  exact ⟨fun c => Cert.Kernel19Ideal.Hand.grads (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    (θ_run Cert.Kernel19Ideal.defs _ _).mono (fun q h c => ⟨(h c).1.trans (Cert.Kernel19Ideal.Hand.final2 m c), (h c).2⟩) (Cert.Kernel19Ideal.Value.run_blocks m g),
    (θ_run Cert.Reference19Ideal.defs _ _).mono (fun q h c => ⟨(h c).1.trans (Cert.Reference19Ideal.Hand.grads_same (f c) (hargs c).1 (hargs c).2), (h c).2⟩) (Cert.Reference19Ideal.Value.run (F := Ideal) m' g')⟩

theorem frame_r20 : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

theorem alg20 : Cert.algebraic_Kernel20Ideal_Reference20Ideal := by
  intro m g m' g' _ hargs
  exact ⟨fun c => Cert.Kernel20Ideal.Hand.bound (m ((c.tc : Thread Cert.Kernel20Ideal.nD Cert.Kernel20Ideal.τ).loc Cert.Kernel20Ideal.main_arg0)),
    (θ_run Cert.Kernel20Ideal.defs _ _).mono (fun q h c => ⟨(h c).1.trans (Cert.Kernel20Ideal.Hand.final1 m c), (h c).2⟩) (Cert.Kernel20Ideal.Value.run_blocks m g),
    (θ_run Cert.Reference20Ideal.defs _ _).mono (fun q h c => ⟨(h c).1.trans (Cert.Reference20Ideal.Hand.bound_same (hargs c)), (h c).2⟩) (Cert.Reference20Ideal.Value.run (F := Ideal) m' g')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Pre_finite6
public import proofs.«01_k».proof.Proof.Gen.Pre_finite19
public import proofs.«01_k».proof.Proof.Gen.Pre_finite2
public import proofs.«01_k».proof.Proof.Gen.Pre_finite5
public import proofs.«01_k».proof.Proof.Gen.Pre_finite
public import proofs.«01_k».proof.Proof.Alg
public import proofs.«01_k».proof.Proof.F3
public import proofs.«01_k».proof.Proof.F4
public import proofs.«01_k».proof.Proof.R2
public import proofs.«01_k».proof.Proof.R5
public import proofs.«01_k».proof.Proof.Alg6
public import proofs.«01_k».proof.Proof.Alg12
public import proofs.«01_k».proof.Proof.Alg19
public import proofs.«01_k».proof.Proof.K.Run

public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's results and the reference's are the same gradients. -/
theorem alg : Cert.algebraic_KernelIdeal_ReferenceIdeal_pre_finite := by
  intro m g m' g' hpre hargs
  have K : ∀ c : Dev Cert.KernelIdeal.nD, Cert.KernelIdeal.Hand.SameK (fun b => m (c, b)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := fun c => ⟨rfl, rfl, rfl, rfl⟩
  have R : ∀ c : Dev Cert.KernelIdeal.nD, Cert.KernelIdeal.Hand.SameR (StableHlo.launchContents m' c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    fun c => ⟨(hargs c).1, (hargs c).2.1, (hargs c).2.2.1, (hargs c).2.2.2.1⟩
  have f := fun c => Cert.Att.reals (hpre c)
  have k := fun c => Cert.KernelIdeal.Hand.results m c (K c) rfl (R c) (hargs c).2.2.2.2 (f c)
  have r := fun c => Cert.KernelIdeal.Hand.rreads (R c) (hargs c).2.2.2.2 (f c)
  exact ⟨fun c => Cert.KernelIdeal.Hand.resOf _ Cert.Att.Head.dq, fun c => Cert.KernelIdeal.Hand.resOf _ Cert.Att.Head.dk,
    fun c => Cert.KernelIdeal.Hand.resOf _ Cert.Att.Head.dv,
    (θ_run Cert.KernelIdeal.defs _ _).mono (fun q h c => ⟨(h.1 c).1.trans (k c).1, (h.1 c).2.1.trans (k c).2.1, (h.1 c).2.2.1.trans (k c).2.2, (h.1 c).2.2.2.2.2.2⟩)
      (Cert.KernelIdeal.Hand.run m g),
    (θ_run Cert.ReferenceIdeal.defs _ _).mono (fun q h c => ⟨(h c).1.trans (Cert.KernelIdeal.Hand.res161 (r c)), (h c).2.1.trans (Cert.KernelIdeal.Hand.res162 (r c)),
        (h c).2.2.1.trans (Cert.KernelIdeal.Hand.res163 (r c)), (h c).2.2.2⟩)
      (Cert.ReferenceIdeal.Value.run (F := Ideal) m' g')⟩

theorem frame_r2 : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem alg2 : Cert.algebraic_Kernel2Ideal_Reference2Ideal_pre_finite2 := by
  intro m g m' g' hpre hargs
  have f := fun c => Cert.Reference2Ideal.Hand.reals (hpre c)
  exact ⟨fun c => Cert.Kernel2Ideal.Hand.dgate (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Cert.Kernel2Ideal.Hand.dup (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), fun c => Cert.Kernel2Ideal.Hand.dwd (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    (θ_run Cert.Kernel2Ideal.defs _ _).mono (fun q h c => ⟨(h c).1.trans (Cert.Kernel2Ideal.Hand.final4 m c), (h c).2.1.trans (Cert.Kernel2Ideal.Hand.final5 m c), (h c).2.2.1.trans (Cert.Kernel2Ideal.Hand.final6 m c), (h c).2.2.2⟩) (Cert.Kernel2Ideal.Value.run_blocks m g),
    (θ_run Cert.Reference2Ideal.defs _ _).mono (fun q h c => ⟨(h c).1.trans (Cert.Reference2Ideal.Hand.dgate_same (f c) (hargs c).1 (hargs c).2.1 (hargs c).2.2.1 (hargs c).2.2.2), (h c).2.1.trans (Cert.Reference2Ideal.Hand.dup_same (f c) (hargs c).1 (hargs c).2.1 (hargs c).2.2.1 (hargs c).2.2.2), (h c).2.2.1.trans (Cert.Reference2Ideal.Hand.dwd_same (f c) (hargs c).1 (hargs c).2.1 (hargs c).2.2.1 (hargs c).2.2.2), (h c).2.2.2⟩) (Cert.Reference2Ideal.Value.run (F := Ideal) m' g')⟩

theorem frame_r3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem alg3 : Cert.algebraic_Kernel3Ideal_Reference3Ideal := by
  intro m g m' g' hpre hargs
  exact ⟨fun c => Cert.Kernel3Ideal.Hand.prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun q h c => ⟨(h c).1.trans (Cert.Kernel3Ideal.Hand.final m c), (h c).2⟩) (Cert.Kernel3Ideal.Value.run_blocks m g),
    (θ_run Cert.Reference3Ideal.defs _ _).mono (fun q h c => ⟨(h c).1.trans ((Cert.Reference3Ideal.Hand.ref_eq _ _).trans (congrArg₂ Cert.Kernel3Ideal.Hand.prod (hargs c).1 (hargs c).2)), (h c).2⟩) (Cert.Reference3Ideal.Value.run (F := Ideal) m' g')⟩

theorem frame_r4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem alg4 : Cert.algebraic_Kernel4Ideal_Reference4Ideal := by
  intro m g m' g' hpre hargs
  exact ⟨fun c => Cert.Kernel4Ideal.Hand.prod (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun q h c => ⟨(h c).1.trans (Cert.Kernel4Ideal.Hand.final m c), (h c).2⟩) (Cert.Kernel4Ideal.Value.run_blocks m g),
    (θ_run Cert.Reference4Ideal.defs _ _).mono (fun q h c => ⟨(h c).1.trans ((Cert.Reference4Ideal.Hand.ref_eq _ _).trans (congrArg₂ Cert.Kernel4Ideal.Hand.prod (hargs c).1 (hargs c).2)), (h c).2⟩) (Cert.Reference4Ideal.Value.run (F := Ideal) m' g')⟩

theorem frame_r5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem alg5 : Cert.algebraic_Kernel5Ideal_Reference5Ideal_pre_finite5 := by
  intro m g m' g' hpre hargs
  have f := fun c => Cert.Reference5Ideal.Hand.reals (hpre c)
  exact ⟨fun c => Cert.Kernel5Ideal.Hand.dx (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)), fun c => Cert.Kernel5Ideal.Hand.dg (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)),
    (θ_run Cert.Kernel5Ideal.defs _ _).mono (fun q h c => ⟨(h c).1.trans (Cert.Kernel5Ideal.Hand.final6 m c), (h c).2.2.1.trans (Cert.Kernel5Ideal.Hand.final8 m c), (h c).2.2.2⟩) (Cert.Kernel5Ideal.Value.run_blocks m g),
    (θ_run Cert.Reference5Ideal.defs _ _).mono (fun q h c => ⟨(h c).1.trans (Cert.Reference5Ideal.Hand.dx_same (f c) (hargs c).1 (hargs c).2.1 (hargs c).2.2.1 (hargs c).2.2.2.1 (hargs c).2.2.2.2.1 (hargs c).2.2.2.2.2), (h c).2.1.trans (Cert.Reference5Ideal.Hand.dg_same (f c) (hargs c).1 (hargs c).2.1 (hargs c).2.2.1 (hargs c).2.2.2.1 (hargs c).2.2.2.2.1 (hargs c).2.2.2.2.2), (h c).2.2⟩) (Cert.Reference5Ideal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite2.Gen.facts, Cert.Pre_finite5.Gen.facts, Cert.Pre_finite6.Gen.facts, Cert.Pre_finite19.Gen.facts,
  fun m ρ _ => Cert.Kernel.Hand.frame m ρ, fun m ρ _ => Cert.KernelIdeal.Hand.frame m ρ, fun m ρ _ => Cert.KernelIdeal.Hand.frame m ρ,
  frame_r, fun m ρ _ => frame_r m ρ trivial,
  fun m ρ _ => Cert.Kernel2.Gen.frame m ρ, fun m ρ _ => Cert.Kernel2Ideal.Gen.frame m ρ, fun m ρ _ => Cert.Kernel2Ideal.Gen.frame m ρ, frame_r2, fun m ρ _ => frame_r2 m ρ trivial,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, fun m ρ _ => Cert.Kernel5Ideal.Gen.frame m ρ, frame_r5, fun m ρ _ => frame_r5 m ρ trivial,
  fun m ρ _ => Cert.Kernel6.Gen.frame m ρ, fun m ρ _ => Cert.Kernel6Ideal.Gen.frame m ρ, fun m ρ _ => Cert.Kernel6Ideal.Gen.frame m ρ, frame_r6, fun m ρ _ => frame_r6 m ρ trivial,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  fun m ρ _ => Cert.Kernel11.Gen.frame m ρ, fun m ρ _ => Cert.Kernel11Ideal.Gen.frame m ρ, frame_r11,
  fun m ρ _ => Cert.Kernel12.Gen.frame m ρ, fun m ρ _ => Cert.Kernel12Ideal.Gen.frame m ρ, frame_r12,
  fun m ρ _ => Cert.Kernel13.Gen.frame m ρ, fun m ρ _ => Cert.Kernel13Ideal.Gen.frame m ρ, frame_r13,
  fun m ρ _ => Cert.Kernel14.Gen.frame m ρ, fun m ρ _ => Cert.Kernel14Ideal.Gen.frame m ρ, frame_r14,
  fun m ρ _ => Cert.Kernel15.Gen.frame m ρ, fun m ρ _ => Cert.Kernel15Ideal.Gen.frame m ρ, frame_r15,
  fun m ρ _ => Cert.Kernel16.Gen.frame m ρ, fun m ρ _ => Cert.Kernel16Ideal.Gen.frame m ρ, frame_r16,
  fun m ρ _ => Cert.Kernel17.Gen.frame m ρ, fun m ρ _ => Cert.Kernel17Ideal.Gen.frame m ρ, frame_r17,
  fun m ρ _ => Cert.Kernel18.Gen.frame m ρ, fun m ρ _ => Cert.Kernel18Ideal.Gen.frame m ρ, frame_r18,
  fun m ρ _ => Cert.Kernel19.Gen.frame m ρ, fun m ρ _ => Cert.Kernel19Ideal.Gen.frame m ρ, fun m ρ _ => Cert.Kernel19Ideal.Gen.frame m ρ, frame_r19, fun m ρ _ => frame_r19 m ρ trivial,
  fun m ρ _ => Cert.Kernel20.Gen.frame m ρ, fun m ρ _ => Cert.Kernel20Ideal.Gen.frame m ρ, frame_r20,
  trivial, alg, trivial, alg2, trivial, alg3, trivial, alg4, trivial, alg5, trivial, alg6, trivial, alg7, trivial, alg8, trivial, alg9, trivial, alg10, trivial, alg11, trivial, alg12, trivial, alg13, trivial, alg14, trivial, alg15, trivial, alg16, trivial, alg17, trivial, alg18, trivial, alg19, trivial, alg20⟩

end Cert.Proof

end
